-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)) (v2 : (c : Dev Cert.Kernel5Ideal.nD) → Buf (Elt Ideal) ((c.tc : Thread Cert.Kernel5Ideal.nD Cert.Kernel5Ideal.τ).loc Cert.Kernel5Ideal.main_v27_2)) (v3 : (c : Dev Cert.Kernel5Ideal.nD) → Buf (Elt Ideal) ((c.tc : Thread Cert.Kernel5Ideal.nD Cert.Kernel5Ideal.τ).loc Cert.Kernel5Ideal.main_v27_3)) (v4 : (c : Dev Cert.Kernel5Ideal.nD) → Buf (Elt Ideal) ((c.tc : Thread Cert.Kernel5Ideal.nD Cert.Kernel5Ideal.τ).loc Cert.Kernel5Ideal.main_v27_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_v27_2) = v2 c
          ∧ r.2.mem ((c.tc : Thread Cert.Kernel5Ideal.nD Cert.Kernel5Ideal.τ).loc Cert.Kernel5Ideal.main_v27_3) = v3 c
          ∧ r.2.mem ((c.tc : Thread Cert.Kernel5Ideal.nD Cert.Kernel5Ideal.τ).loc Cert.Kernel5Ideal.main_v27_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_v78) = v3 c
          ∧ r.2.mem ((c.tc : Thread Cert.Reference5Ideal.nD Cert.Reference5Ideal.τ).loc Cert.Reference5Ideal.main_v79) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v60) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v64) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S16384x512 : Shape := ⟨2, ![16384, 512]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S16384x1024 .bf16) (main_arg1 : FVec F S16384x512 .bf16) (main_arg2 : FVec F S16384x512 .bf16) (main_arg3 : FVec F S4x64 .f32) (main_arg4 : FVec F S128 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x512 .f32 := (extf .f32 · bitsLt_bf16_f32) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S4x64 .f32 := Host.absf main_arg3
  fn_part1 (F := F) main_v16 main_v17
-- ==== Kernel.lean ====
abbrev S16384x1024 : Shape := ⟨2, ![16384, 1024]⟩
abbrev S16384x512 : Shape := ⟨2, ![16384, 512]⟩
abbrev S4x64 : Shape := ⟨2, ![4, 64]⟩
abbrev S128 : Shape := ⟨1, ![128]⟩
abbrev S36 : Shape := ⟨1, ![36]⟩
abbrev S1x128 : Shape := ⟨2, ![1, 128]⟩
abbrev S512x256 : Shape := ⟨2, ![512, 256]⟩
abbrev S1 : Shape := ⟨1, ![1]⟩
abbrev S512x128 : Shape := ⟨2, ![512, 128]⟩
abbrev S2x1024x128 : Shape := ⟨3, ![2, 1024, 128]⟩
abbrev S2x1024x1 : Shape := ⟨3, ![2, 1024, 1]⟩
abbrev S2x1024x256 : Shape := ⟨3, ![2, 1024, 256]⟩
abbrev S4x512x512 : Shape := ⟨3, ![4, 512, 512]⟩
abbrev S1x512x128 : Shape := ⟨3, ![1, 512, 128]⟩
abbrev S512x512 : Shape := ⟨2, ![512, 512]⟩
abbrev S1x512x512 : Shape := ⟨3, ![1, 512, 512]⟩
abbrev S1x512x1 : Shape := ⟨3, ![1, 512, 1]⟩
abbrev S512x1 : Shape := ⟨2, ![512, 1]⟩
abbrev S512 : Shape := ⟨1, ![512]⟩
abbrev S1x32x512 : Shape := ⟨3, ![1, 32, 512]⟩
abbrev S32x512 : Shape := ⟨2, ![32, 512]⟩
abbrev S32x1 : Shape := ⟨2, ![32, 1]⟩
abbrev S1x512x256 : Shape := ⟨3, ![1, 512, 256]⟩
abbrev S1x64 : Shape := ⟨2, ![1, 64]⟩
abbrev S1x1 : Shape := ⟨2, ![1, 1]⟩
abbrev S1x1024x256 : Shape := ⟨3, ![1, 1024, 256]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 15
  | .smem => 2
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x256, .bf16⟩
  | .local _ .vmem, ⟨9, _⟩ => ⟨S512x256, .bf16⟩
  | .local _ .vmem, ⟨10, _⟩ => ⟨S2x1024x128, .bf16⟩
  | .local _ .vmem, ⟨11, _⟩ => ⟨S2x1024x1, .f32⟩
  | .local _ .vmem, ⟨12, _⟩ => ⟨S2x1024x256, .f32⟩
  | .local _ .vmem, ⟨13, _⟩ => ⟨S4x512x512, .f32⟩
  | .local _ .vmem, ⟨14, _⟩ => ⟨S4x512x512, .bf16⟩
  | .local _ .smem, ⟨0, _⟩ => ⟨S36, .i32⟩
  | .local _ .smem, ⟨1, _⟩ => ⟨S36, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x1024 : Shape := ⟨2, ![16384, 1024]⟩
abbrev S16384x512 : Shape := ⟨2, ![16384, 512]⟩
abbrev S4x64 : Shape := ⟨2, ![4, 64]⟩
abbrev S128 : Shape := ⟨1, ![128]⟩
abbrev S4x4096x4x2x2x64 : Shape := ⟨6, ![4, 4096, 4, 2, 2, 64]⟩
abbrev S4x4096x4x2x64 : Shape := ⟨5, ![4, 4096, 4, 2, 64]⟩
abbrev S4x4096x4x128 : Shape := ⟨4, ![4, 4096, 4, 128]⟩
abbrev S4096 : Shape := ⟨1, ![4096]⟩
abbrev S4x4x2x4096x4096x2 : Shape := ⟨6, ![4, 4, 2, 4096, 4096, 2]⟩
abbrev S4x4x2x2x4096x4096 : Shape := ⟨6, ![4, 4, 2, 2, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x4x2x2x4096 : Shape := ⟨5, ![4, 4, 2, 2, 4096]⟩
abbrev S4x4x2x2x4096x1 : Shape := ⟨6, ![4, 4, 2, 2, 4096, 1]⟩
abbrev S1x64 : Shape := ⟨2, ![1, 64]⟩
abbrev S64 : Shape := ⟨1, ![64]⟩
abbrev S4x4x2x1x4096x4096 : Shape := ⟨6, ![4, 4, 2, 1, 4096, 4096]⟩
abbrev S4x4x2x4096x4096 : Shape := ⟨5, ![4, 4, 2, 4096, 4096]⟩
abbrev S4x4x128x2x4096 : Shape := ⟨5, ![4, 4, 128, 2, 4096]⟩
abbrev S4x4096x4x2x128 : Shape := ⟨5, ![4, 4096, 4, 2, 128]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S128, .f32⟩
  | .hbm, ⟨5, _⟩ => ⟨S16384x1024, .f32⟩
  | .hbm, ⟨6, _⟩ => ⟨S4x4096x4x2x2x64, .f32⟩
  | .hbm, ⟨7, _⟩ => ⟨S16384x512, .f32⟩
  | .hbm, ⟨8, _⟩ => ⟨S4x4096x4x2x64, .f32⟩
  | .hbm, ⟨9, _⟩ => ⟨S16384x512, .f32⟩
  | .hbm, ⟨10, _⟩ => ⟨S4x4096x4x128, .f32⟩
  | .hbm, ⟨11, _⟩ => ⟨S4096, .i32⟩
  | .hbm, ⟨12, _⟩ => ⟨S4x4x2x4096x4096x2, .f32⟩
  | .hbm, ⟨13, _⟩ => ⟨S4x4x2x2x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x4x2x2x4096x4096, .i1⟩
  | .hbm, ⟨22, _⟩ => ⟨S4x4x2x2x4096x4096, .f32⟩
  | .hbm, ⟨23, _⟩ => ⟨S4x4x2x2x4096x4096, .f32⟩
  | .hbm, ⟨24, _⟩ => ⟨S_, .f32⟩
  | .hbm, ⟨25, _⟩ => ⟨S4x4x2x2x4096, .f32⟩
  | .hbm, ⟨26, _⟩ => ⟨S_, .f32⟩
  | .hbm, ⟨27, _⟩ => ⟨S4x4x2x2x4096, .f32⟩
  | .hbm, ⟨28, _⟩ => ⟨S4x4x2x2x4096, .f32⟩
  | .hbm, ⟨29, _⟩ => ⟨S4x4x2x2x4096x1, .f32⟩
  | .hbm, ⟨30, _⟩ => ⟨S4x4x2x2x4096x4096, .f32⟩
  | .hbm, ⟨31, _⟩ => ⟨S4x4x2x2x4096x4096, .f32⟩
  | .hbm, ⟨32, _⟩ => ⟨S4x4x2x2x4096x4096, .f32⟩
  | .hbm, ⟨33, _⟩ => ⟨S_, .f32⟩
  | .hbm, ⟨34, _⟩ => ⟨S4x4x2x2x4096, .f32⟩
  | .hbm, ⟨35, _⟩ => ⟨S4x4x2x2x4096x1, .f32⟩
  | .hbm, ⟨36, _⟩ => ⟨S4x4x2x2x4096x4096, .f32⟩
  | .hbm, ⟨37, _⟩ => ⟨S4x4x2x2x4096x4096, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x64, .f32⟩
  | .hbm, ⟨47, _⟩ => ⟨S64, .f32⟩
  | .hbm, ⟨48, _⟩ => ⟨S1x64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4x4x2x1x4096x4096, .f32⟩
  | .hbm, ⟨58, _⟩ => ⟨S4x4x2x4096x4096, .f32⟩
  | .hbm, ⟨59, _⟩ => ⟨S4x4x2x1x4096x4096, .f32⟩
  | .hbm, ⟨60, _⟩ => ⟨S4x4x2x4096x4096, .f32⟩
  | .hbm, ⟨61, _⟩ => ⟨S4x4x2x4096x4096, .f32⟩
  | .hbm, ⟨62, _⟩ => ⟨S4x4x2x4096x4096, .f32⟩
  | .hbm, ⟨63, _⟩ => ⟨S4x4x2x4096x4096, .f32⟩
  | .hbm, ⟨64, _⟩ => ⟨S4x4x128x2x4096, .f32⟩
  | .hbm, ⟨65, _⟩ => ⟨S4x4096x4x2x128, .f32⟩
  | .hbm, ⟨66, _⟩ => ⟨S4x4096x8x128, .f32⟩
  | .hbm, ⟨67, _⟩ => ⟨S4x4096x8x128, .f32⟩
  | .hbm, ⟨68, _⟩ => ⟨S_, .f32⟩
  | .hbm, ⟨69, _⟩ => ⟨S4x4096x8, .f32⟩
  | .hbm, ⟨70, _⟩ => ⟨S4x4096x8x1, .f32⟩
  | .hbm, ⟨71, _⟩ => ⟨S_, .f32⟩
  | .hbm, ⟨72, _⟩ => ⟨S4x4096x8x1, .f32⟩
  | .hbm, ⟨73, _⟩ => ⟨S4x4096x8x1, .f32⟩
  | .hbm, ⟨74, _⟩ => ⟨S_, .f32⟩
  | .hbm, ⟨75, _⟩ => ⟨S4x4096x8x1, .f32⟩
  | .hbm, ⟨76, _⟩ => ⟨S4x4096x8x1, .f32⟩
  | .hbm, ⟨77, _⟩ => ⟨S4x4096x8x1, .f32⟩
  | .hbm, ⟨78, _⟩ => ⟨S4x4096x8x128, .f32⟩
  | .hbm, ⟨79, _⟩ => ⟨S4x4096x8x128, .f32⟩
  | .hbm, ⟨80, _⟩ => ⟨S1x1x1x128, .f32⟩
  | .hbm, ⟨81, _⟩ => ⟨S4x4096x8x128, .f32⟩
  | .hbm, ⟨82, _⟩ => ⟨S4x4096x8x128, .f32⟩
  | .hbm, ⟨83, _⟩ => ⟨S_, .f32⟩
  | .hbm, ⟨84, _⟩ => ⟨S4x4096x8x128, .f32⟩
  | .hbm, ⟨85, _⟩ => ⟨S4x4096x8x128, .f32⟩
  | .hbm, ⟨86, _⟩ => ⟨S16384x1024, .f32⟩
  | .hbm, ⟨87, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel2.lean ====
abbrev S16384x1024 : Shape := ⟨2, ![16384, 1024]⟩
abbrev S1024x11808 : Shape := ⟨2, ![1024, 11808]⟩
abbrev S1024x1024 : Shape := ⟨2, ![1024, 1024]⟩
abbrev S1024x3072 : Shape := ⟨2, ![1024, 3072]⟩
abbrev S1024x5120 : Shape := ⟨2, ![1024, 5120]⟩
abbrev S16384x5120 : Shape := ⟨2, ![16384, 5120]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S1024x1024, .f32⟩
  | .hbm, ⟨3, _⟩ => ⟨S1024x1024, .f32⟩
  | .hbm, ⟨4, _⟩ => ⟨S1024x3072, .f32⟩
  | .hbm, ⟨5, _⟩ => ⟨S1024x5120, .f32⟩
  | .hbm, ⟨6, _⟩ => ⟨S1024x5120, .bf16⟩
  | .hbm, ⟨7, _⟩ => ⟨S16384x5120, .bf16⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x1024 : Shape := ⟨2, ![16384, 1024]⟩
abbrev S1024x11808 : Shape := ⟨2, ![1024, 11808]⟩
abbrev S16384x11808 : Shape := ⟨2, ![16384, 11808]⟩
abbrev S16384x3072 : Shape := ⟨2, ![16384, 3072]⟩
abbrev S16384x5120 : Shape := ⟨2, ![16384, 5120]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S16384x11808, .f32⟩
  | .hbm, ⟨3, _⟩ => ⟨S16384x1024, .f32⟩
  | .hbm, ⟨4, _⟩ => ⟨S16384x1024, .f32⟩
  | .hbm, ⟨5, _⟩ => ⟨S16384x3072, .f32⟩
  | .hbm, ⟨6, _⟩ => ⟨S16384x5120, .f32⟩
  | .hbm, ⟨7, _⟩ => ⟨S16384x5120, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S16384x1024 : Shape := ⟨2, ![16384, 1024]⟩
abbrev S1024x11808 : Shape := ⟨2, ![1024, 11808]⟩
abbrev S1024x3072 : Shape := ⟨2, ![1024, 3072]⟩
abbrev S16384x3072 : Shape := ⟨2, ![16384, 3072]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S1024x3072, .f32⟩
  | .hbm, ⟨3, _⟩ => ⟨S1024x3072, .bf16⟩
  | .hbm, ⟨4, _⟩ => ⟨S16384x3072, .bf16⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x11808 : Shape := ⟨2, ![1024, 11808]⟩
abbrev S16384x11808 : Shape := ⟨2, ![16384, 11808]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S16384x11808, .f32⟩
  | .hbm, ⟨3, _⟩ => ⟨S16384x3072, .f32⟩
  | .hbm, ⟨4, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x1024 : Shape := ⟨2, ![16384, 1024]⟩
abbrev S1024x11808 : Shape := ⟨2, ![1024, 11808]⟩
abbrev S1024x1536 : Shape := ⟨2, ![1024, 1536]⟩
abbrev S16384x1536 : Shape := ⟨2, ![16384, 1536]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S1024x1536, .f32⟩
  | .hbm, ⟨3, _⟩ => ⟨S1024x1536, .bf16⟩
  | .hbm, ⟨4, _⟩ => ⟨S16384x1536, .bf16⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x1024 : Shape := ⟨2, ![16384, 1024]⟩
abbrev S1024x11808 : Shape := ⟨2, ![1024, 11808]⟩
abbrev S16384x11808 : Shape := ⟨2, ![16384, 11808]⟩
abbrev S16384x1536 : Shape := ⟨2, ![16384, 1536]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S16384x11808, .f32⟩
  | .hbm, ⟨3, _⟩ => ⟨S16384x1536, .f32⟩
  | .hbm, ⟨4, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x1024 : Shape := ⟨2, ![16384, 1024]⟩
abbrev S1024x11808 : Shape := ⟨2, ![1024, 11808]⟩
abbrev S1024x2048 : Shape := ⟨2, ![1024, 2048]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x128 : Shape := ⟨2, ![4096, 128]⟩
abbrev S16384x4x128 : Shape := ⟨3, ![16384, 4, 128]⟩
abbrev S16384x512 : Shape := ⟨2, ![16384, 512]⟩
abbrev S512x1024 : Shape := ⟨2, ![512, 1024]⟩
abbrev S512x128 : Shape := ⟨2, ![512, 128]⟩
abbrev S512x4x128 : Shape := ⟨3, ![512, 4, 128]⟩
abbrev S512x512 : Shape := ⟨2, ![512, 512]⟩
abbrev S512x2048 : Shape := ⟨2, ![512, 2048]⟩
abbrev S512x1x128 : Shape := ⟨3, ![512, 1, 128]⟩

abbrev nBuf : Space → Nat
  | .hbm => 40
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S1024x2048, .f32⟩
  | .hbm, ⟨3, _⟩ => ⟨S1024x2048, .bf16⟩
  | .hbm, ⟨4, _⟩ => ⟨S4096, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S4096, .f32⟩
  | .hbm, ⟨17, _⟩ => ⟨S4096x1, .f32⟩
  | .hbm, ⟨18, _⟩ => ⟨S1x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S_, .f32⟩
  | .hbm, ⟨25, _⟩ => ⟨S4096x48, .f32⟩
  | .hbm, ⟨26, _⟩ => ⟨S_, .f32⟩
  | .hbm, ⟨27, _⟩ => ⟨S4096x48, .f32⟩
  | .hbm, ⟨28, _⟩ => ⟨S_, .f32⟩
  | .hbm, ⟨29, _⟩ => ⟨S4096x8, .f32⟩
  | .hbm, ⟨30, _⟩ => ⟨S4096x128, .f32⟩
  | .hbm, ⟨31, _⟩ => ⟨S4096x8, .f32⟩
  | .hbm, ⟨32, _⟩ => ⟨S4096x8, .f32⟩
  | .hbm, ⟨33, _⟩ => ⟨S4096x128, .f32⟩
  | .hbm, ⟨34, _⟩ => ⟨S4096x128, .f32⟩
  | .hbm, ⟨35, _⟩ => ⟨S16384x1024, .bf16⟩
  | .hbm, ⟨36, _⟩ => ⟨S16384x4x128, .f32⟩
  | .hbm, ⟨37, _⟩ => ⟨S16384x512, .bf16⟩
  | .hbm, ⟨38, _⟩ => ⟨S16384x4x128, .f32⟩
  | .hbm, ⟨39, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x4x128, .f32⟩
  | .local _ .vmem, ⟨12, _⟩ => ⟨S512x4x128, .f32⟩
  | .local _ .vmem, ⟨13, _⟩ => ⟨S512x512, .bf16⟩
  | .local _ .vmem, ⟨14, _⟩ => ⟨S512x512, .bf16⟩
  | .local _ .vmem, ⟨15, _⟩ => ⟨S512x4x128, .f32⟩
  | .local _ .vmem, ⟨16, _⟩ => ⟨S512x4x128, .f32⟩
  | .local _ .vmem, ⟨17, _⟩ => ⟨S512x512, .bf16⟩
  | .local _ .vmem, ⟨18, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S1024x11808 : Shape := ⟨2, ![1024, 11808]⟩
abbrev S16384x11808 : Shape := ⟨2, ![16384, 11808]⟩
abbrev S4096 : Shape := ⟨1, ![4096]⟩
abbrev S4x4096x8x2x64 : Shape := ⟨5, ![4, 4096, 8, 2, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S1x4096x1x1x8 : Shape := ⟨5, ![1, 4096, 1, 1, 8]⟩
abbrev S4x4096x8x2x8 : Shape := ⟨5, ![4, 4096, 8, 2, 8]⟩
abbrev S4x4096x8x2x48 : Shape := ⟨5, ![4, 4096, 8, 2, 48]⟩
abbrev S16384x512 : Shape := ⟨2, ![16384, 512]⟩
abbrev S4x4096x4x2x64 : Shape := ⟨5, ![4, 4096, 4, 2, 64]⟩
abbrev S4x4096x4x2x8 : Shape := ⟨5, ![4, 4096, 4, 2, 8]⟩
abbrev S4x4096x4x2x48 : Shape := ⟨5, ![4, 4096, 4, 2, 48]⟩
abbrev S16384x4x128 : Shape := ⟨3, ![16384, 4, 128]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x11808, .f32⟩
  | .hbm, ⟨2, _⟩ => ⟨S16384x11808, .f32⟩
  | .hbm, ⟨3, _⟩ => ⟨S4096, .i32⟩
  | .hbm, ⟨4, _⟩ => ⟨S16384x1024, .f32⟩
  | .hbm, ⟨5, _⟩ => ⟨S4x4096x8x2x64, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S1x4096x1x1x8, .f32⟩
  | .hbm, ⟨25, _⟩ => ⟨S4096x8, .f32⟩
  | .hbm, ⟨26, _⟩ => ⟨S1x4096x1x1x8, .f32⟩
  | .hbm, ⟨27, _⟩ => ⟨S4x4096x8x2x8, .f32⟩
  | .hbm, ⟨28, _⟩ => ⟨S4x4096x8x2x8, .f32⟩
  | .hbm, ⟨29, _⟩ => ⟨S4x4096x8x2x48, .f32⟩
  | .hbm, ⟨30, _⟩ => ⟨S4x4096x8x2x8, .f32⟩
  | .hbm, ⟨31, _⟩ => ⟨S4x4096x8x2x8, .f32⟩
  | .hbm, ⟨32, _⟩ => ⟨S4x4096x8x2x8, .f32⟩
  | .hbm, ⟨33, _⟩ => ⟨S4x4096x8x2x8, .f32⟩
  | .hbm, ⟨34, _⟩ => ⟨S4x4096x8x2x8, .f32⟩
  | .hbm, ⟨35, _⟩ => ⟨S4x4096x8x2x8, .f32⟩
  | .hbm, ⟨36, _⟩ => ⟨S4x4096x8x2x8, .f32⟩
  | .hbm, ⟨37, _⟩ => ⟨S4x4096x8x2x8, .f32⟩
  | .hbm, ⟨38, _⟩ => ⟨S4x4096x8x2x8, .f32⟩
  | .hbm, ⟨39, _⟩ => ⟨S4x4096x8x2x8, .f32⟩
  | .hbm, ⟨40, _⟩ => ⟨S4x4096x8x2x64, .f32⟩
  | .hbm, ⟨41, _⟩ => ⟨S_, .f32⟩
  | .hbm, ⟨42, _⟩ => ⟨S4x4096x8x2x64, .f32⟩
  | .hbm, ⟨43, _⟩ => ⟨S4x4096x8x2x64, .f32⟩
  | .hbm, ⟨44, _⟩ => ⟨S16384x512, .f32⟩
  | .hbm, ⟨45, _⟩ => ⟨S4x4096x4x2x64, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S4096, .f32⟩
  | .hbm, ⟨58, _⟩ => ⟨S4096x1, .f32⟩
  | .hbm, ⟨59, _⟩ => ⟨S1x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S1x4096x1x1x8, .f32⟩
  | .hbm, ⟨65, _⟩ => ⟨S4096x8, .f32⟩
  | .hbm, ⟨66, _⟩ => ⟨S1x4096x1x1x8, .f32⟩
  | .hbm, ⟨67, _⟩ => ⟨S4x4096x4x2x8, .f32⟩
  | .hbm, ⟨68, _⟩ => ⟨S4x4096x4x2x8, .f32⟩
  | .hbm, ⟨69, _⟩ => ⟨S4x4096x4x2x48, .f32⟩
  | .hbm, ⟨70, _⟩ => ⟨S4x4096x4x2x8, .f32⟩
  | .hbm, ⟨71, _⟩ => ⟨S4x4096x4x2x8, .f32⟩
  | .hbm, ⟨72, _⟩ => ⟨S4x4096x4x2x8, .f32⟩
  | .hbm, ⟨73, _⟩ => ⟨S4x4096x4x2x8, .f32⟩
  | .hbm, ⟨74, _⟩ => ⟨S4x4096x4x2x8, .f32⟩
  | .hbm, ⟨75, _⟩ => ⟨S4x4096x4x2x8, .f32⟩
  | .hbm, ⟨76, _⟩ => ⟨S4x4096x4x2x8, .f32⟩
  | .hbm, ⟨77, _⟩ => ⟨S4x4096x4x2x8, .f32⟩
  | .hbm, ⟨78, _⟩ => ⟨S4x4096x4x2x8, .f32⟩
  | .hbm, ⟨79, _⟩ => ⟨S4x4096x4x2x8, .f32⟩
  | .hbm, ⟨80, _⟩ => ⟨S4x4096x4x2x64, .f32⟩
  | .hbm, ⟨81, _⟩ => ⟨S16384x512, .f32⟩
  | .hbm, ⟨82, _⟩ => ⟨S16384x1024, .f32⟩
  | .hbm, ⟨83, _⟩ => ⟨S16384x1024, .bf16⟩
  | .hbm, ⟨84, _⟩ => ⟨S16384x4x128, .f32⟩
  | .hbm, ⟨85, _⟩ => ⟨S16384x512, .f32⟩
  | .hbm, ⟨86, _⟩ => ⟨S16384x512, .bf16⟩
  | .hbm, ⟨87, _⟩ => ⟨S16384x4x128, .f32⟩
  | .hbm, ⟨88, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩

abbrev nD : Nat := 1
abbrev τ : Topo := Topo.v7x

variable {F : FTy → Type} [FloatOps F]
-- ==== Kernel6.lean ====
abbrev S16384x1024 : Shape := ⟨2, ![16384, 1024]⟩
abbrev S16384x5120 : Shape := ⟨2, ![16384, 5120]⟩
abbrev S1024x1024 : Shape := ⟨2, ![1024, 1024]⟩
abbrev S1024 : Shape := ⟨1, ![1024]⟩
abbrev S1024x64 : Shape := ⟨2, ![1024, 64]⟩
abbrev S1024x256 : Shape := ⟨2, ![1024, 256]⟩
abbrev S256x1024 : Shape := ⟨2, ![256, 1024]⟩
abbrev S_ : Shape := ⟨0, ![]⟩
abbrev S1024x128 : Shape := ⟨2, ![1024, 128]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 31
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x5120, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x64, .f32⟩
  | .hbm, ⟨12, _⟩ => ⟨S1024x256, .f32⟩
  | .hbm, ⟨13, _⟩ => ⟨S1024x256, .f32⟩
  | .hbm, ⟨14, _⟩ => ⟨S256x1024, .f32⟩
  | .hbm, ⟨15, _⟩ => ⟨S_, .f32⟩
  | .hbm, ⟨16, _⟩ => ⟨S1024x64, .f32⟩
  | .hbm, ⟨17, _⟩ => ⟨S1024x128, .f32⟩
  | .hbm, ⟨18, _⟩ => ⟨S1024x128, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1024x256, .bf16⟩
  | .hbm, ⟨26, _⟩ => ⟨S1024x256, .bf16⟩
  | .hbm, ⟨27, _⟩ => ⟨S256x1024, .bf16⟩
  | .hbm, ⟨28, _⟩ => ⟨S16384x1024, .bf16⟩
  | .hbm, ⟨29, _⟩ => ⟨S16384x1024, .f32⟩
  | .hbm, ⟨30, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x128, .bf16⟩
  | .local _ .vmem, ⟨21, _⟩ => ⟨S1024x256, .bf16⟩
  | .local _ .vmem, ⟨22, _⟩ => ⟨S1024x256, .bf16⟩
  | .local _ .vmem, ⟨23, _⟩ => ⟨S256x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x128, .f32⟩
  | .local _ .vmem, ⟨29, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S16384x1024 : Shape := ⟨2, ![16384, 1024]⟩
abbrev S16384x5120 : Shape := ⟨2, ![16384, 5120]⟩
abbrev S1024x1024 : Shape := ⟨2, ![1024, 1024]⟩
abbrev S1024 : Shape := ⟨1, ![1024]⟩
abbrev S1024x64 : Shape := ⟨2, ![1024, 64]⟩
abbrev S1024x256 : Shape := ⟨2, ![1024, 256]⟩
abbrev S256x1024 : Shape := ⟨2, ![256, 1024]⟩
abbrev S16384x3072 : Shape := ⟨2, ![16384, 3072]⟩
abbrev S16384x3x1024 : Shape := ⟨3, ![16384, 3, 1024]⟩
abbrev S_ : Shape := ⟨0, ![]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩
abbrev S16384x64 : Shape := ⟨2, ![16384, 64]⟩
abbrev S16384x256 : Shape := ⟨2, ![16384, 256]⟩
abbrev S16384x128 : Shape := ⟨2, ![16384, 128]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x5120, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x64, .f32⟩
  | .hbm, ⟨12, _⟩ => ⟨S1024x256, .f32⟩
  | .hbm, ⟨13, _⟩ => ⟨S1024x256, .f32⟩
  | .hbm, ⟨14, _⟩ => ⟨S256x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x3072, .bf16⟩
  | .hbm, ⟨22, _⟩ => ⟨S16384x3072, .f32⟩
  | .hbm, ⟨23, _⟩ => ⟨S16384x3x1024, .f32⟩
  | .hbm, ⟨24, _⟩ => ⟨S16384x3x1024, .f32⟩
  | .hbm, ⟨25, _⟩ => ⟨S16384x3x1024, .f32⟩
  | .hbm, ⟨26, _⟩ => ⟨S_, .f32⟩
  | .hbm, ⟨27, _⟩ => ⟨S16384x3x1024, .f32⟩
  | .hbm, ⟨28, _⟩ => ⟨S16384x3x1024, .f32⟩
  | .hbm, ⟨29, _⟩ => ⟨S_, .f32⟩
  | .hbm, ⟨30, _⟩ => ⟨S16384x3x1024, .f32⟩
  | .hbm, ⟨31, _⟩ => ⟨S16384x3x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S16384x1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x64, .f32⟩
  | .hbm, ⟨78, _⟩ => ⟨S16384x256, .f32⟩
  | .hbm, ⟨79, _⟩ => ⟨S16384x256, .f32⟩
  | .hbm, ⟨80, _⟩ => ⟨S16384x256, .f32⟩
  | .hbm, ⟨81, _⟩ => ⟨S_, .f32⟩
  | .hbm, ⟨82, _⟩ => ⟨S16384x256, .f32⟩
  | .hbm, ⟨83, _⟩ => ⟨S16384x256, .f32⟩
  | .hbm, ⟨84, _⟩ => ⟨S_, .f32⟩
  | .hbm, ⟨85, _⟩ => ⟨S16384x256, .f32⟩
  | .hbm, ⟨86, _⟩ => ⟨S16384x256, .f32⟩
  | .hbm, ⟨87, _⟩ => ⟨S16384x256, .f32⟩
  | .hbm, ⟨88, _⟩ => ⟨S16384x256, .f32⟩
  | .hbm, ⟨89, _⟩ => ⟨S16384x256, .f32⟩
  | .hbm, ⟨90, _⟩ => ⟨S16384x1024, .f32⟩
  | .hbm, ⟨91, _⟩ => ⟨S16384x1024, .bf16⟩
  | .hbm, ⟨92, _⟩ => ⟨S_, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S_, .i32⟩
  | .hbm, ⟨97, _⟩ => ⟨S_, .f32⟩
  | .hbm, ⟨98, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c : Ref sig .tc := ⟨.hbm, 96, rfl⟩
abbrev main_call1_v0 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== Proof.FlashText.lean ====
module

public import proofs.«01_k».proof.Proof.Gen.KernelIdeal.Skeleton
public import Idealize.ShloMosaic.Lib.Pipeline.Kit
public import Idealize.ShloMosaic.Lib.Pipeline.Frame

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The kernel body in three pieces

The body starts a row of blocks (`initP`), takes in a block strictly below the diagonal (`updP`), or takes in the
diagonal block under its mask and writes the finished rows (`maskP`). Each is the body's own text up to the join
point that follows it, with that join point as an argument. -/

set_option maxRecDepth 65536 in
/-- Start a row of blocks: split the scaled queries over the two maps, reset the running maximum and sums. -/
noncomputable def initP (i : grid0.Coords) (arg3 : Memref sig .tc .smem S36 .i32) (harg3 : arg3.IsWhole) (arg4 : Memref sig .tc .smem S36 .i32) (harg4 : arg4.IsWhole) (arg5 : Memref sig .tc .vmem S4x64 .f32) (harg5 : arg5.IsWhole) (arg6 : Memref sig .tc .vmem S1x128 .f32) (harg6 : arg6.IsWhole) (arg7 : Memref sig .tc .vmem S512x256 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S2x1024x128 .bf16) (harg11 : arg11.IsWhole) (arg12 : Memref sig .tc .vmem S2x1024x1 .f32) (harg12 : arg12.IsWhole) (arg13 : Memref sig .tc .vmem S2x1024x256 .f32) (harg13 : arg13.IsWhole) (arg14 : Memref sig .tc .vmem S4x512x512 .f32) (harg14 : arg14.IsWhole) (arg15 : Memref sig .tc .vmem S4x512x512 .bf16) (harg15 : arg15.IsWhole)
    (rest : Prog (TpuEff nD τ sig (Elt F) Λ₀ .tc) PUnit) : Prog (TpuEff nD τ sig (Elt F) Λ₀ .tc) PUnit := do
  let v47 : FVec F S2x1024x1 .f32 ← k0_part1 i arg3 harg3 arg4 harg4 arg5 harg5 arg6 harg6 arg7 harg7 arg8 harg8 arg9 harg9 arg10 harg10 arg11 harg11 arg12 harg12 arg13 harg13 arg14 harg14 arg15 harg15
  let v48 : Vec F S2x1024x1 .f32 ← Prog.lift (.load arg12 (Rect.unit (s := S2x1024x1) ![0, 0, 0] S2x1024x1.size inb_S2x1024x1_S2x1024x1_0_0_0).toLoadRect (View.loadsAt_vmem h_S2x1024x1))
  Prog.lift (.store arg12 (Rect.unit (s := S2x1024x1) ![0, 0, 0] S2x1024x1.size inb_S2x1024x1_S2x1024x1_0_0_0) (k0_pay1 v47) Finset.univ (View.stores_vmem_bits_univ h_S2x1024x1 rfl) (.inl rfl))
  let v52 : Vec F S2x1024x256 .f32 ← Prog.lift (.load arg13 (Rect.unit (s := S2x1024x256) ![0, 0, 0] S2x1024x256.size inb_S2x1024x256_S2x1024x256_0_0_0).toLoadRect (View.loadsAt_vmem h_S2x1024x256))
  Prog.lift (.store arg13 (Rect.unit (s := S2x1024x256) ![0, 0, 0] S2x1024x256.size inb_S2x1024x256_S2x1024x256_0_0_0) (k0_pay2 (F := F)) Finset.univ (View.stores_vmem_bits_univ h_S2x1024x256 rfl) (.inl rfl))
  rest

set_option maxRecDepth 65536 in
/-- Take in a block of keys strictly below the diagonal. -/
noncomputable def updP (i : grid0.Coords) (arg3 : Memref sig .tc .smem S36 .i32) (harg3 : arg3.IsWhole) (arg4 : Memref sig .tc .smem S36 .i32) (harg4 : arg4.IsWhole) (arg5 : Memref sig .tc .vmem S4x64 .f32) (harg5 : arg5.IsWhole) (arg6 : Memref sig .tc .vmem S1x128 .f32) (harg6 : arg6.IsWhole) (arg7 : Memref sig .tc .vmem S512x256 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S2x1024x128 .bf16) (harg11 : arg11.IsWhole) (arg12 : Memref sig .tc .vmem S2x1024x1 .f32) (harg12 : arg12.IsWhole) (arg13 : Memref sig .tc .vmem S2x1024x256 .f32) (harg13 : arg13.IsWhole) (arg14 : Memref sig .tc .vmem S4x512x512 .f32) (harg14 : arg14.IsWhole) (arg15 : Memref sig .tc .vmem S4x512x512 .bf16) (harg15 : arg15.IsWhole)
    (rest : Prog (TpuEff nD τ sig (Elt F) Λ₀ .tc) PUnit) : Prog (TpuEff nD τ sig (Elt F) Λ₀ .tc) PUnit := do
  let ⟨v16, v37⟩ : Σ' (v16 : FVec F S512x256 .bf16), FVec F S512x512 .f32 ← k0_part2 i arg3 harg3 arg4 harg4 arg5 harg5 arg6 harg6 arg7 harg7 arg8 harg8 arg9 harg9 arg10 harg10 arg11 harg11 arg12 harg12 arg13 harg13 arg14 harg14 arg15 harg15
  let ⟨v47, v49, v71⟩ : Σ' (v47 : FVec F S512x1 .f32) (v49 : FVec F S512x1 .f32), FVec F S32x512 .f32 ← k0_part3 i arg3 harg3 arg4 harg4 arg5 harg5 arg6 harg6 arg7 harg7 arg8 harg8 arg9 harg9 arg10 harg10 arg11 harg11 arg12 harg12 arg13 harg13 arg14 harg14 arg15 harg15 v37
  let ⟨v106, v107⟩ : Σ' (v106 : FVec F S32x512 .bf16), Vec F S1x32x512 .bf16 ← k0_part4 i arg3 harg3 arg4 harg4 arg5 harg5 arg6 harg6 arg7 harg7 arg8 harg8 arg9 harg9 arg10 harg10 arg11 harg11 arg12 harg12 arg13 harg13 arg14 harg14 arg15 harg15 v47 v71
  let ⟨v141, v142⟩ : Σ' (v141 : FVec F S32x512 .f32), FVec F S32x1 .f32 ← k0_part5 i arg3 harg3 arg4 harg4 arg5 harg5 arg6 harg6 arg7 harg7 arg8 harg8 arg9 harg9 arg10 harg10 arg11 harg11 arg12 harg12 arg13 harg13 arg14 harg14 arg15 harg15 v47 v106 v107
  let v176 : FVec F S32x512 .bf16 ← k0_part6 i arg3 harg3 arg4 harg4 arg5 harg5 arg6 harg6 arg7 harg7 arg8 harg8 arg9 harg9 arg10 harg10 arg11 harg11 arg12 harg12 arg13 harg13 arg14 harg14 arg15 harg15 v47 v141 v142
  k0_part7 i arg3 harg3 arg4 harg4 arg5 harg5 arg6 harg6 arg7 harg7 arg8 harg8 arg9 harg9 arg10 harg10 arg11 harg11 arg12 harg12 arg13 harg13 arg14 harg14 arg15 harg15 v47 v176
  let ⟨v230, v232, v244⟩ : Σ' (v230 : FVec F S512x1 .f32) (v232 : FVec F S512x1 .f32), FVec F S32x512 .f32 ← k0_part8 i arg3 harg3 arg4 harg4 arg5 harg5 arg6 harg6 arg7 harg7 arg8 harg8 arg9 harg9 arg10 harg10 arg11 harg11 arg12 harg12 arg13 harg13 arg14 harg14 arg15 harg15 v16 v49
  let ⟨v279, v280⟩ : Σ' (v279 : FVec F S32x512 .bf16), Vec F S1x32x512 .bf16 ← k0_part9 i arg3 harg3 arg4 harg4 arg5 harg5 arg6 harg6 arg7 harg7 arg8 harg8 arg9 harg9 arg10 harg10 arg11 harg11 arg12 harg12 arg13 harg13 arg14 harg14 arg15 harg15 v230 v244
  let ⟨v314, v315⟩ : Σ' (v314 : FVec F S32x512 .f32), FVec F S32x1 .f32 ← k0_part10 i arg3 harg3 arg4 harg4 arg5 harg5 arg6 harg6 arg7 harg7 arg8 harg8 arg9 harg9 arg10 harg10 arg11 harg11 arg12 harg12 arg13 harg13 arg14 harg14 arg15 harg15 v230 v279 v280
  let v349 : FVec F S32x512 .bf16 ← k0_part11 i arg3 harg3 arg4 harg4 arg5 harg5 arg6 harg6 arg7 harg7 arg8 harg8 arg9 harg9 arg10 harg10 arg11 harg11 arg12 harg12 arg13 harg13 arg14 harg14 arg15 harg15 v230 v314 v315
  let ⟨v384, v386⟩ : Σ' (v384 : FVec F S32x512 .f32), FVec F S32x512 .f32 ← k0_part12 i arg3 harg3 arg4 harg4 arg5 harg5 arg6 harg6 arg7 harg7 arg8 harg8 arg9 harg9 arg10 harg10 arg11 harg11 arg12 harg12 arg13 harg13 arg14 harg14 arg15 harg15 v230 v349
  let ⟨v413, v415, v417⟩ : Σ' (v413 : FVec F S512x1 .f32) (v415 : FVec F S512x1 .f32), FVec F S32x512 .f32 ← k0_part13 i arg3 harg3 arg4 harg4 arg5 harg5 arg6 harg6 arg7 harg7 arg8 harg8 arg9 harg9 arg10 harg10 arg11 harg11 arg12 harg12 arg13 harg13 arg14 harg14 arg15 harg15 v16 v230 v232 v384 v386
  let ⟨v452, v453⟩ : Σ' (v452 : FVec F S32x512 .bf16), Vec F S1x32x512 .bf16 ← k0_part14 i arg3 harg3 arg4 harg4 arg5 harg5 arg6 harg6 arg7 harg7 arg8 harg8 arg9 harg9 arg10 harg10 arg11 harg11 arg12 harg12 arg13 harg13 arg14 harg14 arg15 harg15 v413 v417
  let ⟨v487, v488⟩ : Σ' (v487 : FVec F S32x512 .f32), FVec F S32x1 .f32 ← k0_part15 i arg3 harg3 arg4 harg4 arg5 harg5 arg6 harg6 arg7 harg7 arg8 harg8 arg9 harg9 arg10 harg10 arg11 harg11 arg12 harg12 arg13 harg13 arg14 harg14 arg15 harg15 v413 v452 v453
  let v522 : FVec F S32x512 .bf16 ← k0_part16 i arg3 harg3 arg4 harg4 arg5 harg5 arg6 harg6 arg7 harg7 arg8 harg8 arg9 harg9 arg10 harg10 arg11 harg11 arg12 harg12 arg13 harg13 arg14 harg14 arg15 harg15 v413 v487 v488
  let ⟨v557, v559⟩ : Σ' (v557 : FVec F S32x512 .f32), FVec F S32x512 .f32 ← k0_part17 i arg3 harg3 arg4 harg4 arg5 harg5 arg6 harg6 arg7 harg7 arg8 harg8 arg9 harg9 arg10 harg10 arg11 harg11 arg12 harg12 arg13 harg13 arg14 harg14 arg15 harg15 v413 v522
  let v590 : Vec F S1x512x512 .f32 ← k0_part18 i arg3 harg3 arg4 harg4 arg5 harg5 arg6 harg6 arg7 harg7 arg8 harg8 arg9 harg9 arg10 harg10 arg11 harg11 arg12 harg12 arg13 harg13 arg14 harg14 arg15 harg15 v16 v413 v415 v557 v559
  let ⟨v596, v598, v625, v626⟩ : Σ' (v596 : FVec F S512x1 .f32) (v598 : FVec F S512x1 .f32) (v625 : FVec F S32x512 .bf16), Vec F S1x32x512 .bf16 ← k0_part19 i arg3 harg3 arg4 harg4 arg5 harg5 arg6 harg6 arg7 harg7 arg8 harg8 arg9 harg9 arg10 harg10 arg11 harg11 arg12 harg12 arg13 harg13 arg14 harg14 arg15 harg15 v590
  let ⟨v660, v661⟩ : Σ' (v660 : FVec F S32x512 .f32), FVec F S32x1 .f32 ← k0_part20 i arg3 harg3 arg4 harg4 arg5 harg5 arg6 harg6 arg7 harg7 arg8 harg8 arg9 harg9 arg10 harg10 arg11 harg11 arg12 harg12 arg13 harg13 arg14 harg14 arg15 harg15 v596 v625 v626
  let v695 : FVec F S32x512 .bf16 ← k0_part21 i arg3 harg3 arg4 harg4 arg5 harg5 arg6 harg6 arg7 harg7 arg8 harg8 arg9 harg9 arg10 harg10 arg11 harg11 arg12 harg12 arg13 harg13 arg14 harg14 arg15 harg15 v596 v660 v661
  let ⟨v730, v732⟩ : Σ' (v730 : FVec F S32x512 .f32), FVec F S32x512 .f32 ← k0_part22 i arg3 harg3 arg4 harg4 arg5 harg5 arg6 harg6 arg7 harg7 arg8 harg8 arg9 harg9 arg10 harg10 arg11 harg11 arg12 harg12 arg13 harg13 arg14 harg14 arg15 harg15 v596 v695
  let v765 : FVec F S512x256 .f32 ← k0_part23 i arg3 harg3 arg4 harg4 arg5 harg5 arg6 harg6 arg7 harg7 arg8 harg8 arg9 harg9 arg10 harg10 arg11 harg11 arg12 harg12 arg13 harg13 arg14 harg14 arg15 harg15 v596 v598 v730 v732
  let v766 : Vec F S1x512x512 .bf16 ← Prog.lift (.load arg15 (Rect.unit (s := S4x512x512) ![3, 0, 0] S1x512x512.size inb_S4x512x512_S1x512x512_3_0_0).toLoadRect (View.loadsAt_vmem h_S1x512x512))
  let v770 : Vec F S1x512x256 .f32 ← Prog.lift (.load arg13 (Rect.unit (s := S2x1024x256) ![1, 512, 0] S1x512x256.size inb_S2x1024x256_S1x512x256_1_512_0).toLoadRect (View.loadsAt_vmem h_S1x512x256))
  Prog.lift (.store arg13 (Rect.unit (s := S2x1024x256) ![1, 512, 0] S1x512x256.size inb_S2x1024x256_S1x512x256_1_512_0) (k0_pay3 v16 v765 v766) Finset.univ (View.stores_vmem_bits_univ h_S1x512x256 rfl) (.inl rfl))
  rest

set_option maxRecDepth 65536 in
/-- Take in the diagonal block under its mask and write the finished rows. -/
noncomputable def maskP (i : grid0.Coords) (arg3 : Memref sig .tc .smem S36 .i32) (harg3 : arg3.IsWhole) (arg4 : Memref sig .tc .smem S36 .i32) (harg4 : arg4.IsWhole) (arg5 : Memref sig .tc .vmem S4x64 .f32) (harg5 : arg5.IsWhole) (arg6 : Memref sig .tc .vmem S1x128 .f32) (harg6 : arg6.IsWhole) (arg7 : Memref sig .tc .vmem S512x256 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S2x1024x128 .bf16) (harg11 : arg11.IsWhole) (arg12 : Memref sig .tc .vmem S2x1024x1 .f32) (harg12 : arg12.IsWhole) (arg13 : Memref sig .tc .vmem S2x1024x256 .f32) (harg13 : arg13.IsWhole) (arg14 : Memref sig .tc .vmem S4x512x512 .f32) (harg14 : arg14.IsWhole) (arg15 : Memref sig .tc .vmem S4x512x512 .bf16) (harg15 : arg15.IsWhole)
    (rest : Prog (TpuEff nD τ sig (Elt F) Λ₀ .tc) PUnit) : Prog (TpuEff nD τ sig (Elt F) Λ₀ .tc) PUnit := do
  let ⟨v16, v37⟩ : Σ' (v16 : FVec F S512x256 .bf16), FVec F S512x512 .f32 ← k0_part24 i arg3 harg3 arg4 harg4 arg5 harg5 arg6 harg6 arg7 harg7 arg8 harg8 arg9 harg9 arg10 harg10 arg11 harg11 arg12 harg12 arg13 harg13 arg14 harg14 arg15 harg15
  let ⟨v43, v46, v55, v57, v73, v74⟩ : Σ' (v43 : IVec S512x512 1) (v46 : IVec S32x512 32) (v55 : FVec F S512x1 .f32) (v57 : FVec F S512x1 .f32) (v73 : FVec F S32x512 .f32), IVec S32x512 32 ← k0_part25 i arg3 harg3 arg4 harg4 arg5 harg5 arg6 harg6 arg7 harg7 arg8 harg8 arg9 harg9 arg10 harg10 arg11 harg11 arg12 harg12 arg13 harg13 arg14 harg14 arg15 harg15 v37
  let v110 : FVec F S32x512 .bf16 ← k0_part26 i arg3 harg3 arg4 harg4 arg5 harg5 arg6 harg6 arg7 harg7 arg8 harg8 arg9 harg9 arg10 harg10 arg11 harg11 arg12 harg12 arg13 harg13 arg14 harg14 arg15 harg15 v46 v55 v73 v74
  let ⟨v147, v148⟩ : Σ' (v147 : FVec F S32x512 .f32), FVec F S32x1 .f32 ← k0_part27 i arg3 harg3 arg4 harg4 arg5 harg5 arg6 harg6 arg7 harg7 arg8 harg8 arg9 harg9 arg10 harg10 arg11 harg11 arg12 harg12 arg13 harg13 arg14 harg14 arg15 harg15 v46 v55 v110
  k0_part28 i arg3 harg3 arg4 harg4 arg5 harg5 arg6 harg6 arg7 harg7 arg8 harg8 arg9 harg9 arg10 harg10 arg11 harg11 arg12 harg12 arg13 harg13 arg14 harg14 arg15 harg15 v46 v55 v147 v148
  let v222 : FVec F S32x512 .bf16 ← k0_part29 i arg3 harg3 arg4 harg4 arg5 harg5 arg6 harg6 arg7 harg7 arg8 harg8 arg9 harg9 arg10 harg10 arg11 harg11 arg12 harg12 arg13 harg13 arg14 harg14 arg15 harg15 v46 v55
  let ⟨v255, v257⟩ : Σ' (v255 : FVec F S32x512 .f32), IVec S32x512 1 ← k0_part30 i arg3 harg3 arg4 harg4 arg5 harg5 arg6 harg6 arg7 harg7 arg8 harg8 arg9 harg9 arg10 harg10 arg11 harg11 arg12 harg12 arg13 harg13 arg14 harg14 arg15 harg15 v46 v55 v222
  let v292 : FVec F S512x256 .f32 ← k0_part31 i arg3 harg3 arg4 harg4 arg5 harg5 arg6 harg6 arg7 harg7 arg8 harg8 arg9 harg9 arg10 harg10 arg11 harg11 arg12 harg12 arg13 harg13 arg14 harg14 arg15 harg15 v16 v46 v55 v57 v255 v257
  let ⟨v304, v306, v326⟩ : Σ' (v304 : FVec F S512x1 .f32) (v306 : FVec F S512x1 .f32), FVec F S32x512 .f32 ← k0_part32 i arg3 harg3 arg4 harg4 arg5 harg5 arg6 harg6 arg7 harg7 arg8 harg8 arg9 harg9 arg10 harg10 arg11 harg11 arg12 harg12 arg13 harg13 arg14 harg14 arg15 harg15 v43 v46 v292
  k0_part33 i arg3 harg3 arg4 harg4 arg5 harg5 arg6 harg6 arg7 harg7 arg8 harg8 arg9 harg9 arg10 harg10 arg11 harg11 arg12 harg12 arg13 harg13 arg14 harg14 arg15 harg15 v46 v304 v326
  let v401 : FVec F S32x512 .bf16 ← k0_part34 i arg3 harg3 arg4 harg4 arg5 harg5 arg6 harg6 arg7 harg7 arg8 harg8 arg9 harg9 arg10 harg10 arg11 harg11 arg12 harg12 arg13 harg13 arg14 harg14 arg15 harg15 v46 v304
  let ⟨v434, v435⟩ : Σ' (v434 : FVec F S32x512 .f32), IVec S32x512 32 ← k0_part35 i arg3 harg3 arg4 harg4 arg5 harg5 arg6 harg6 arg7 harg7 arg8 harg8 arg9 harg9 arg10 harg10 arg11 harg11 arg12 harg12 arg13 harg13 arg14 harg14 arg15 harg15 v46 v304 v401
  let v471 : FVec F S32x512 .bf16 ← k0_part36 i arg3 harg3 arg4 harg4 arg5 harg5 arg6 harg6 arg7 harg7 arg8 harg8 arg9 harg9 arg10 harg10 arg11 harg11 arg12 harg12 arg13 harg13 arg14 harg14 arg15 harg15 v46 v304 v434 v435
  let ⟨v508, v509⟩ : Σ' (v508 : FVec F S32x512 .f32), FVec F S32x1 .f32 ← k0_part37 i arg3 harg3 arg4 harg4 arg5 harg5 arg6 harg6 arg7 harg7 arg8 harg8 arg9 harg9 arg10 harg10 arg11 harg11 arg12 harg12 arg13 harg13 arg14 harg14 arg15 harg15 v46 v304 v471
  let ⟨v541, v542⟩ : Σ' (v541 : FVec F S512x256 .f32), Vec F S1x512x256 .f32 ← k0_part38 i arg3 harg3 arg4 harg4 arg5 harg5 arg6 harg6 arg7 harg7 arg8 harg8 arg9 harg9 arg10 harg10 arg11 harg11 arg12 harg12 arg13 harg13 arg14 harg14 arg15 harg15 v16 v46 v304 v306 v508 v509
  let ⟨v553, v555, v579⟩ : Σ' (v553 : FVec F S512x1 .f32) (v555 : FVec F S512x1 .f32), FVec F S32x512 .f32 ← k0_part39 i arg3 harg3 arg4 harg4 arg5 harg5 arg6 harg6 arg7 harg7 arg8 harg8 arg9 harg9 arg10 harg10 arg11 harg11 arg12 harg12 arg13 harg13 arg14 harg14 arg15 harg15 v43 v46 v541 v542
  let ⟨v613, c128_i32_341⟩ : Σ' (v613 : FVec F S32x512 .f32), BitVec 32 ← k0_part40 i arg3 harg3 arg4 harg4 arg5 harg5 arg6 harg6 arg7 harg7 arg8 harg8 arg9 harg9 arg10 harg10 arg11 harg11 arg12 harg12 arg13 harg13 arg14 harg14 arg15 harg15 v46 v553 v579
  let ⟨v650, v651⟩ : Σ' (v650 : FVec F S32x512 .bf16), Vec F S1x32x512 .bf16 ← k0_part41 i arg3 harg3 arg4 harg4 arg5 harg5 arg6 harg6 arg7 harg7 arg8 harg8 arg9 harg9 arg10 harg10 arg11 harg11 arg12 harg12 arg13 harg13 arg14 harg14 arg15 harg15 v46 v553 v613 c128_i32_341
  let v687 : FVec F S32x512 .f32 ← k0_part42 i arg3 harg3 arg4 harg4 arg5 harg5 arg6 harg6 arg7 harg7 arg8 harg8 arg9 harg9 arg10 harg10 arg11 harg11 arg12 harg12 arg13 harg13 arg14 harg14 arg15 harg15 v46 v553 v650 v651
  k0_part43 i arg3 harg3 arg4 harg4 arg5 harg5 arg6 harg6 arg7 harg7 arg8 harg8 arg9 harg9 arg10 harg10 arg11 harg11 arg12 harg12 arg13 harg13 arg14 harg14 arg15 harg15 v46 v553 v687
  let v762 : FVec F S32x512 .bf16 ← k0_part44 i arg3 harg3 arg4 harg4 arg5 harg5 arg6 harg6 arg7 harg7 arg8 harg8 arg9 harg9 arg10 harg10 arg11 harg11 arg12 harg12 arg13 harg13 arg14 harg14 arg15 harg15 v46 v553
  k0_part45 i arg3 harg3 arg4 harg4 arg5 harg5 arg6 harg6 arg7 harg7 arg8 harg8 arg9 harg9 arg10 harg10 arg11 harg11 arg12 harg12 arg13 harg13 arg14 harg14 arg15 harg15 v16 v46 v553 v555 v762
  let ⟨v802, v804, v829⟩ : Σ' (v802 : FVec F S512x1 .f32) (v804 : FVec F S512x1 .f32), FVec F S32x512 .bf16 ← k0_part46 i arg3 harg3 arg4 harg4 arg5 harg5 arg6 harg6 arg7 harg7 arg8 harg8 arg9 harg9 arg10 harg10 arg11 harg11 arg12 harg12 arg13 harg13 arg14 harg14 arg15 harg15 v43 v46
  let ⟨v862, v864, v865⟩ : Σ' (v862 : FVec F S32x512 .f32) (v864 : IVec S32x512 1), FVec F S32x512 .f32 ← k0_part47 i arg3 harg3 arg4 harg4 arg5 harg5 arg6 harg6 arg7 harg7 arg8 harg8 arg9 harg9 arg10 harg10 arg11 harg11 arg12 harg12 arg13 harg13 arg14 harg14 arg15 harg15 v46 v802 v829
  k0_part48 i arg3 harg3 arg4 harg4 arg5 harg5 arg6 harg6 arg7 harg7 arg8 harg8 arg9 harg9 arg10 harg10 arg11 harg11 arg12 harg12 arg13 harg13 arg14 harg14 arg15 harg15 v46 v802 v862 v864 v865
  let v940 : FVec F S32x512 .f32 ← k0_part49 i arg3 harg3 arg4 harg4 arg5 harg5 arg6 harg6 arg7 harg7 arg8 harg8 arg9 harg9 arg10 harg10 arg11 harg11 arg12 harg12 arg13 harg13 arg14 harg14 arg15 harg15 v46 v802
  let ⟨v974, c384_i32_554⟩ : Σ' (v974 : FVec F S32x512 .f32), BitVec 32 ← k0_part50 i arg3 harg3 arg4 harg4 arg5 harg5 arg6 harg6 arg7 harg7 arg8 harg8 arg9 harg9 arg10 harg10 arg11 harg11 arg12 harg12 arg13 harg13 arg14 harg14 arg15 harg15 v46 v802 v940
  let ⟨v1011, v1012⟩ : Σ' (v1011 : FVec F S32x512 .bf16), Vec F S1x32x512 .bf16 ← k0_part51 i arg3 harg3 arg4 harg4 arg5 harg5 arg6 harg6 arg7 harg7 arg8 harg8 arg9 harg9 arg10 harg10 arg11 harg11 arg12 harg12 arg13 harg13 arg14 harg14 arg15 harg15 v46 v802 v974 c384_i32_554
  let ⟨v1043, v1044, v1045⟩ : Σ' (v1043 : Vec F S4x64 .f32) (v1044 : FVec F S1x64 .f32), FVec F S1x64 .f32 ← k0_part52 i arg3 harg3 arg4 harg4 arg5 harg5 arg6 harg6 arg7 harg7 arg8 harg8 arg9 harg9 arg10 harg10 arg11 harg11 arg12 harg12 arg13 harg13 arg14 harg14 arg15 harg15 v16 v46 v802 v804 v1011 v1012
  let ⟨v1087, v1089⟩ : Σ' (v1087 : FVec F S1024x128 .f32), FVec F S512x128 .bf16 ← k0_part53 i arg3 harg3 arg4 harg4 arg5 harg5 arg6 harg6 arg7 harg7 arg8 harg8 arg9 harg9 arg10 harg10 arg11 harg11 arg12 harg12 arg13 harg13 arg14 harg14 arg15 harg15 v1043 v1044 v1045
  let v1090 : Vec F S512x128 .bf16 ← Prog.lift (.load arg10 (Rect.unit (s := S512x256) ![0, 0] S512x128.size inb_S512x256_S512x128_0_0).toLoadRect (View.loadsAt_vmem h_S512x128))
  Prog.lift (.store arg10 (Rect.unit (s := S512x256) ![0, 0] S512x128.size inb_S512x256_S512x128_0_0) v1089 Finset.univ (View.stores_vmem h_S512x128 (harg10.storeExact_slice rfl _ packedbf16_S512x256_S512x128_0_0) (fun _ => rfl)) (.inl rfl))
  let v1093 : Vec F S512x128 .bf16 ← Prog.lift (.load arg10 (Rect.unit (s := S512x256) ![0, 128] S512x128.size inb_S512x256_S512x128_0_128).toLoadRect (View.loadsAt_vmem h_S512x128))
  Prog.lift (.store arg10 (Rect.unit (s := S512x256) ![0, 128] S512x128.size inb_S512x256_S512x128_0_128) (k0_pay4 v1087) Finset.univ (View.stores_vmem h_S512x128 (harg10.storeExact_slice rfl _ packedbf16_S512x256_S512x128_0_128) (fun _ => rfl)) (.inl rfl))
  rest

set_option maxRecDepth 65536 in
/-- The kernel body is: read the two tables; start the row at its first block; below the diagonal take the block in;
    on the diagonal take it in and finish. -/
theorem body_eq (i : grid0.Coords) (arg3 : Memref sig .tc .smem S36 .i32) (harg3 : arg3.IsWhole) (arg4 : Memref sig .tc .smem S36 .i32) (harg4 : arg4.IsWhole) (arg5 : Memref sig .tc .vmem S4x64 .f32) (harg5 : arg5.IsWhole) (arg6 : Memref sig .tc .vmem S1x128 .f32) (harg6 : arg6.IsWhole) (arg7 : Memref sig .tc .vmem S512x256 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S2x1024x128 .bf16) (harg11 : arg11.IsWhole) (arg12 : Memref sig .tc .vmem S2x1024x1 .f32) (harg12 : arg12.IsWhole) (arg13 : Memref sig .tc .vmem S2x1024x256 .f32) (harg13 : arg13.IsWhole) (arg14 : Memref sig .tc .vmem S4x512x512 .f32) (harg14 : arg14.IsWhole) (arg15 : Memref sig .tc .vmem S4x512x512 .bf16) (harg15 : arg15.IsWhole) :
    cc0_flash_diff_attn (F := F) i arg3 harg3 arg4 harg4 arg5 harg5 arg6 harg6 arg7 harg7 arg8 harg8 arg9 harg9 arg10 harg10 arg11 harg11 arg12 harg12 arg13 harg13 arg14 harg14 arg15 harg15 = (do
      let v1 : Elt F .i32 ← smemLoad arg3 (Rect.unit (s := S36) (k0_off1 i) S1.size (k0_off1_inb i)) numel1_S1 rfl
      let v3 : Elt F .i32 ← smemLoad arg4 (Rect.unit (s := S36) (k0_off1 i) S1.size (k0_off1_inb i)) numel1_S1 rfl
      let k3 : Prog (TpuEff nD τ sig (Elt F) Λ₀ .tc) PUnit :=
        if k0_h3 : k0_cond3 v1 v3 = 1#1 then maskP i arg3 harg3 arg4 harg4 arg5 harg5 arg6 harg6 arg7 harg7 arg8 harg8 arg9 harg9 arg10 harg10 arg11 harg11 arg12 harg12 arg13 harg13 arg14 harg14 arg15 harg15 (pure ⟨⟩) else pure ⟨⟩
      let k2 : Prog (TpuEff nD τ sig (Elt F) Λ₀ .tc) PUnit :=
        if Scalar.cmpi .ne (Scalar.extui (Scalar.cmpi .slt v3 v1)) 0#32 = 1#1 then updP i arg3 harg3 arg4 harg4 arg5 harg5 arg6 harg6 arg7 harg7 arg8 harg8 arg9 harg9 arg10 harg10 arg11 harg11 arg12 harg12 arg13 harg13 arg14 harg14 arg15 harg15 k3 else k3
      if Scalar.cmpi .ne (Scalar.extui (Scalar.cmpi .eq v3 0#32)) 0#32 = 1#1 then initP i arg3 harg3 arg4 harg4 arg5 harg5 arg6 harg6 arg7 harg7 arg8 harg8 arg9 harg9 arg10 harg10 arg11 harg11 arg12 harg12 arg13 harg13 arg14 harg14 arg15 harg15 k2 else k2) := by
  rw [cc0_flash_diff_attn_eq_skeleton]
  rfl

end Cert.FlashAttn

end
-- ==== Proof.FlashRuns.lean ====
module

public import proofs.«01_k».proof.Proof.FlashText
public import Idealize.ShloMosaic.Lib.Pipeline.Kit
public import Idealize.ShloMosaic.Lib.Pipeline.Frame

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and scratch buffers the body is handed, whole. -/
abbrev tbM0_0 : Memref sig .tc .smem S36 .i32 := Memref.whole main_c
abbrev tbM0_1 : Memref sig .tc .smem S36 .i32 := Memref.whole main_c_0
abbrev scM0_0 : Memref sig .tc .vmem S2x1024x128 .bf16 := Memref.whole cc0_scratch0
abbrev scM0_1 : Memref sig .tc .vmem S2x1024x1 .f32 := Memref.whole cc0_scratch1
abbrev scM0_2 : Memref sig .tc .vmem S2x1024x256 .f32 := Memref.whole cc0_scratch2
abbrev scM0_3 : Memref sig .tc .vmem S4x512x512 .f32 := Memref.whole cc0_scratch3
abbrev scM0_4 : Memref sig .tc .vmem S4x512x512 .bf16 := Memref.whole cc0_scratch4

/-! ## What each piece leaves, found by running it -/

set_option backward.proofsInPublic true in
set_option maxHeartbeats 8000000 in
/-- Starting a row: the queries, the maximum and the sums are left at words of the query block alone. -/
noncomputable def runInit (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole)
    (x2 : S512x256.Idx → Elt F .bf16) :
    Σ' (out0 : (Buf (Elt F) ((c : Thread nD τ).loc cc0_scratch0))) (out1 : (Buf (Elt F) ((c : Thread nD τ).loc cc0_scratch1))), { out2 : (Buf (Elt F) ((c : Thread nD τ).loc cc0_scratch2)) //
      ∀ (xa0 : (Buf (Elt F) ((c : Thread nD τ).loc cc0_scratch0))) (xa1 : (Buf (Elt F) ((c : Thread nD τ).loc cc0_scratch1))) (xa2 : (Buf (Elt F) ((c : Thread nD τ).loc cc0_scratch2))) (rest : Prog (TpuEff nD τ sig (Elt F) Λ₀ .tc) PUnit) (K : PUnit → sProp 𝕄),
        iprop((arg7.view.loc (c : Thread nD τ) ↦[arg7.view.set]{fullShare} arg7.view.rep x2)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x2)
          ∗   (scM0_0.view.loc (c : Thread nD τ) ↦{fullShare} out0)
          ∗   (scM0_1.view.loc (c : Thread nD τ) ↦{fullShare} out1)
          ∗   (scM0_2.view.loc (c : Thread nD τ) ↦{fullShare} out2))
              -∗ wp frame (wpE (defs₀ (F := F)) Variants.none c none) Set.univ rest K))
          ⊢ wp frame (wpE (defs₀ (F := F)) Variants.none c none) Set.univ (initP i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) rest) K } :=
  ⟨_, _, _, fun (xa0 : (Buf (Elt F) ((c : Thread nD τ).loc cc0_scratch0))) (xa1 : (Buf (Elt F) ((c : Thread nD τ).loc cc0_scratch1))) (xa2 : (Buf (Elt F) ((c : Thread nD τ).loc cc0_scratch2))) rest K => by
    unfold initP
    iintro ⟨H7, HS0, HS1, HS2, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    sl_exec!
    iapply Hk
    isplitl [H7]; · iexact H7
    isplitl [HS0]; · iexact HS0
    isplitl [HS1]; · iexact HS1
    iexact HS2⟩

set_option backward.proofsInPublic true in
set_option maxHeartbeats 8000000 in
/-- A block below the diagonal: the maximum and the sums move; the scores and weights are scratch. -/
noncomputable def runUpd (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole)
    (x3 : S512x128.Idx → Elt F .bf16) (x4 : S512x128.Idx → Elt F .bf16) (xa0 : (Buf (Elt F) ((c : Thread nD τ).loc cc0_scratch0))) (xa1 : (Buf (Elt F) ((c : Thread nD τ).loc cc0_scratch1))) (xa2 : (Buf (Elt F) ((c : Thread nD τ).loc cc0_scratch2))) :
    Σ' (out1 : (Buf (Elt F) ((c : Thread nD τ).loc cc0_scratch1))), { out2 : (Buf (Elt F) ((c : Thread nD τ).loc cc0_scratch2)) //
      ∀ (xa3 : (Buf (Elt F) ((c : Thread nD τ).loc cc0_scratch3))) (xa4 : (Buf (Elt F) ((c : Thread nD τ).loc cc0_scratch4))) (rest : Prog (TpuEff nD τ sig (Elt F) Λ₀ .tc) PUnit) (K : PUnit → sProp 𝕄),
        iprop((arg8.view.loc (c : Thread nD τ) ↦[arg8.view.set]{fullShare} arg8.view.rep x3)
          ∗ (arg9.view.loc (c : Thread nD τ) ↦[arg9.view.set]{fullShare} arg9.view.rep x4)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg8.view.loc (c : Thread nD τ) ↦[arg8.view.set]{fullShare} arg8.view.rep x3)
          ∗   (arg9.view.loc (c : Thread nD τ) ↦[arg9.view.set]{fullShare} arg9.view.rep x4)
          ∗   (scM0_0.view.loc (c : Thread nD τ) ↦{fullShare} xa0)
          ∗   (scM0_1.view.loc (c : Thread nD τ) ↦{fullShare} out1)
          ∗   (scM0_2.view.loc (c : Thread nD τ) ↦{fullShare} out2)
          ∗   (∃ f, scM0_3.view.loc (c : Thread nD τ) ↦{fullShare} f)
          ∗   (∃ f, scM0_4.view.loc (c : Thread nD τ) ↦{fullShare} f))
              -∗ wp frame (wpE (defs₀ (F := F)) Variants.none c none) Set.univ rest K))
          ⊢ wp frame (wpE (defs₀ (F := F)) Variants.none c none) Set.univ (updP i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) rest) K } :=
  ⟨_, _, fun (xa3 : (Buf (Elt F) ((c : Thread nD τ).loc cc0_scratch3))) (xa4 : (Buf (Elt F) ((c : Thread nD τ).loc cc0_scratch4))) rest K => by
    unfold updP
    iintro ⟨H8, H9, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    sl_exec!
    iapply Hk
    isplitl [H8]; · iexact H8
    isplitl [H9]; · iexact H9
    isplitl [HS0]; · iexact HS0
    isplitl [HS1]; · iexact HS1
    isplitl [HS2]; · iexact HS2
    isplitl [HS3]; · iexists _; iexact HS3
    iexists _; iexact HS4⟩

set_option backward.proofsInPublic true in
set_option maxHeartbeats 8000000 in
/-- The diagonal block: as below it, under the mask, and the finished rows are stored. -/
noncomputable def runMask (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole)
    (x0 : S4x64.Idx → Elt F .f32) (x1 : S1x128.Idx → Elt F .f32) (x3 : S512x128.Idx → Elt F .bf16) (x4 : S512x128.Idx → Elt F .bf16) (xa0 : (Buf (Elt F) ((c : Thread nD τ).loc cc0_scratch0))) (xa1 : (Buf (Elt F) ((c : Thread nD τ).loc cc0_scratch1))) (xa2 : (Buf (Elt F) ((c : Thread nD τ).loc cc0_scratch2))) :
    Σ' (outO : List (View.Piece (Elt F) S512x256 .bf16)) (out1 : (Buf (Elt F) ((c : Thread nD τ).loc cc0_scratch1))), { out2 : (Buf (Elt F) ((c : Thread nD τ).loc cc0_scratch2)) //
      ∀ (xa3 : (Buf (Elt F) ((c : Thread nD τ).loc cc0_scratch3))) (xa4 : (Buf (Elt F) ((c : Thread nD τ).loc cc0_scratch4))) (rest : Prog (TpuEff nD τ sig (Elt F) Λ₀ .tc) PUnit) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg8.view.loc (c : Thread nD τ) ↦[arg8.view.set]{fullShare} arg8.view.rep x3)
          ∗ (arg9.view.loc (c : Thread nD τ) ↦[arg9.view.set]{fullShare} arg9.view.rep x4)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg5.view.loc (c : Thread nD τ) ↦[arg5.view.set]{fullShare} arg5.view.rep x0)
          ∗   (arg6.view.loc (c : Thread nD τ) ↦[arg6.view.set]{fullShare} arg6.view.rep x1)
          ∗   (arg8.view.loc (c : Thread nD τ) ↦[arg8.view.set]{fullShare} arg8.view.rep x3)
          ∗   (arg9.view.loc (c : Thread nD τ) ↦[arg9.view.set]{fullShare} arg9.view.rep x4)
          ∗   (∃ f, arg10.view.loc (c : Thread nD τ) ↦[arg10.view.set]{fullShare} arg10.view.writes (Elt F) f outO)
          ∗   (scM0_0.view.loc (c : Thread nD τ) ↦{fullShare} xa0)
          ∗   (scM0_1.view.loc (c : Thread nD τ) ↦{fullShare} out1)
          ∗   (scM0_2.view.loc (c : Thread nD τ) ↦{fullShare} out2)
          ∗   (∃ f, scM0_3.view.loc (c : Thread nD τ) ↦{fullShare} f)
          ∗   (∃ f, scM0_4.view.loc (c : Thread nD τ) ↦{fullShare} f))
              -∗ wp frame (wpE (defs₀ (F := F)) Variants.none c none) Set.univ rest K))
          ⊢ wp frame (wpE (defs₀ (F := F)) Variants.none c none) Set.univ (maskP i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) rest) K } :=
  ⟨_, _, _, fun (xa3 : (Buf (Elt F) ((c : Thread nD τ).loc cc0_scratch3))) (xa4 : (Buf (Elt F) ((c : Thread nD τ).loc cc0_scratch4))) rest K => by
    unfold owns
    unfold maskP
    iintro ⟨H5, H6, H8, H9, ⟨%d5, %f5, -, HO⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    sl_exec!
    iapply Hk
    isplitl [H5]; · iexact H5
    isplitl [H6]; · iexact H6
    isplitl [H8]; · iexact H8
    isplitl [H9]; · iexact H9
    isplitl [HO]; · iexists _; iexact HO
    isplitl [HS0]; · iexact HS0
    isplitl [HS1]; · iexact HS1
    isplitl [HS2]; · iexact HS2
    isplitl [HS3]; · iexists _; iexact HS3
    iexists _; iexact HS4⟩

end Cert.FlashAttn

end
-- ==== Proof.FlashCfg.lean ====
module

public import proofs.«01_k».proof.Proof.FlashRuns
public import proofs.«01_k».proof.Proof.Gen.KernelIdeal.Launch
public import Idealize.ShloMosaic.PureOps.BitExact
public import Idealize.ShloMosaic.Lib.Affine
public import Idealize.ShloMosaic.Lib.Decide

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The tables, the pipeline at them, and what is decided of its points -/

/-- The two tables of the launch: the row block and the key block of each of the 36 steps. -/
def pfN {F : FTy → Type} [FloatOps F] : pre0.Contents (Elt F) := fun
  | ⟨0, _⟩ => fun i => lit0 (S36.rowMajor i)
  | ⟨1, _⟩ => fun i => lit1 (S36.rowMajor i)
  | ⟨_ + 2, h⟩ => absurd h (by simp)

theorem inb_B_2 : ∀ i : grid0.Coords, ∀ a, (cc0_transform_2 k0_off1_inb numel1_S1 (pfN (F := Bits)) i a + 1) * S512x256.size a ≤ S16384x1024.size a := by decide +kernel
theorem inb_B_3 : ∀ i : grid0.Coords, ∀ a, (cc0_transform_3 k0_off1_inb numel1_S1 (pfN (F := Bits)) i a + 1) * S512x128.size a ≤ S16384x512.size a := by decide +kernel
theorem inb_B_4 : ∀ i : grid0.Coords, ∀ a, (cc0_transform_4 k0_off1_inb numel1_S1 (pfN (F := Bits)) i a + 1) * S512x128.size a ≤ S16384x512.size a := by decide +kernel
theorem inb_B_5 : ∀ i : grid0.Coords, ∀ a, (cc0_transform_5 k0_off1_inb numel1_S1 (pfN (F := Bits)) i a + 1) * S512x256.size a ≤ S16384x1024.size a := by decide +kernel

variable {F : FTy → Type} [FloatOps F]

theorem tr_2 (i : grid0.Coords) : cc0_transform_2 k0_off1_inb numel1_S1 (pfN (F := F)) i = cc0_transform_2 k0_off1_inb numel1_S1 (pfN (F := Bits)) i := rfl
theorem ok_2 : ∀ i : grid0.Coords, ∃ h : (∀ a, (cc0_transform_2 k0_off1_inb numel1_S1 (pfN (F := F)) i a + 1) * S512x256.size a ≤ S16384x1024.size a), EltTy.bits .bf16 = 32 ∨ (Rect.block (s := S16384x1024) S512x256.size (cc0_transform_2 k0_off1_inb numel1_S1 (pfN (F := F)) i) h).WholeWords (EltTy.packing .bf16) :=
  fun i => ⟨fun a => by rw [tr_2]; exact inb_B_2 i a, .inr (Affine.block_words_dvd (s := S16384x1024) (p := EltTy.packing .bf16) (by decide) (by decide))⟩
theorem tr_3 (i : grid0.Coords) : cc0_transform_3 k0_off1_inb numel1_S1 (pfN (F := F)) i = cc0_transform_3 k0_off1_inb numel1_S1 (pfN (F := Bits)) i := rfl
theorem ok_3 : ∀ i : grid0.Coords, ∃ h : (∀ a, (cc0_transform_3 k0_off1_inb numel1_S1 (pfN (F := F)) i a + 1) * S512x128.size a ≤ S16384x512.size a), EltTy.bits .bf16 = 32 ∨ (Rect.block (s := S16384x512) S512x128.size (cc0_transform_3 k0_off1_inb numel1_S1 (pfN (F := F)) i) h).WholeWords (EltTy.packing .bf16) :=
  fun i => ⟨fun a => by rw [tr_3]; exact inb_B_3 i a, .inr (Affine.block_words_dvd (s := S16384x512) (p := EltTy.packing .bf16) (by decide) (by decide))⟩
theorem tr_4 (i : grid0.Coords) : cc0_transform_4 k0_off1_inb numel1_S1 (pfN (F := F)) i = cc0_transform_4 k0_off1_inb numel1_S1 (pfN (F := Bits)) i := rfl
theorem ok_4 : ∀ i : grid0.Coords, ∃ h : (∀ a, (cc0_transform_4 k0_off1_inb numel1_S1 (pfN (F := F)) i a + 1) * S512x128.size a ≤ S16384x512.size a), EltTy.bits .bf16 = 32 ∨ (Rect.block (s := S16384x512) S512x128.size (cc0_transform_4 k0_off1_inb numel1_S1 (pfN (F := F)) i) h).WholeWords (EltTy.packing .bf16) :=
  fun i => ⟨fun a => by rw [tr_4]; exact inb_B_4 i a, .inr (Affine.block_words_dvd (s := S16384x512) (p := EltTy.packing .bf16) (by decide) (by decide))⟩
theorem tr_5 (i : grid0.Coords) : cc0_transform_5 k0_off1_inb numel1_S1 (pfN (F := F)) i = cc0_transform_5 k0_off1_inb numel1_S1 (pfN (F := Bits)) i := rfl
theorem ok_5 : ∀ i : grid0.Coords, ∃ h : (∀ a, (cc0_transform_5 k0_off1_inb numel1_S1 (pfN (F := F)) i a + 1) * S512x256.size a ≤ S16384x1024.size a), EltTy.bits .bf16 = 32 ∨ (Rect.block (s := S16384x1024) S512x256.size (cc0_transform_5 k0_off1_inb numel1_S1 (pfN (F := F)) i) h).WholeWords (EltTy.packing .bf16) :=
  fun i => ⟨fun a => by rw [tr_5]; exact inb_B_5 i a, .inr (Affine.block_words_dvd (s := S16384x1024) (p := EltTy.packing .bf16) (by decide) (by decide))⟩
/-- Every block of every window lies inside its array. -/
theorem ok_pfN : ok0 (F := F) pfN := ⟨ok_2, ok_3, ok_4, ok_5⟩

/-- The tables as admissible contents, and the pipeline at them. -/
def adm : (pcfg0 (F := F)).Adm := ⟨pfN, ok_pfN⟩
abbrev cfgA (F : FTy → Type) [FloatOps F] : Pipeline.Cfg sig Λ₀ := cfg0 (F := F) adm

/-- The row block and key block words the body reads at coordinates `i`. -/
abbrev wq (F : FTy → Type) [FloatOps F] (i : grid0.Coords) : BitVec 32 :=
  View.readAt (Elt F) (tbM0_0).view (Rect.unit (s := S36) (k0_off1 i) S1.size (k0_off1_inb i)).toLoadRect (pfN (F := F) 0) (Shape.Idx.first (numel1_S1.symm ▸ Nat.one_pos))
abbrev wk (F : FTy → Type) [FloatOps F] (i : grid0.Coords) : BitVec 32 :=
  View.readAt (Elt F) (tbM0_1).view (Rect.unit (s := S36) (k0_off1 i) S1.size (k0_off1_inb i)).toLoadRect (pfN (F := F) 1) (Shape.Idx.first (numel1_S1.symm ▸ Nat.one_pos))

/-- The row starts here; the block is below the diagonal; the block is on it. -/
abbrev PS (F : FTy → Type) [FloatOps F] (t : Fin (cfgA F).N) : Prop := Scalar.cmpi .ne (Scalar.extui (Scalar.cmpi .eq (wk F ((cfgA F).grid.coords t)) 0#32)) 0#32 = 1#1
abbrev PL (F : FTy → Type) [FloatOps F] (t : Fin (cfgA F).N) : Prop := Scalar.cmpi .ne (Scalar.extui (Scalar.cmpi .slt (wk F ((cfgA F).grid.coords t)) (wq F ((cfgA F).grid.coords t)))) 0#32 = 1#1
abbrev PD (F : FTy → Type) [FloatOps F] (t : Fin (cfgA F).N) : Prop := k0_cond3 (wq F ((cfgA F).grid.coords t)) (wk F ((cfgA F).grid.coords t)) = 1#1

/-- The row block and the key block of step `x` of 36, in closed form by counting the steps of earlier rows. -/
def qOf (x : ℕ) : ℕ := if x < 1 then 0 else if x < 3 then 1 else if x < 6 then 2 else if x < 10 then 3 else if x < 15 then 4 else if x < 21 then 5 else if x < 28 then 6 else 7
def kOf (x : ℕ) : ℕ := x - qOf x * (qOf x + 1) / 2

/-- What is decided of point `t`: where the rows start, which blocks are below the diagonal, when the output is idle and
    when it is written back, and the block each window is at. -/
abbrev FactsAt (F : FTy → Type) [FloatOps F] (t : Fin (cfgA F).N) : Prop :=
  (PS F t ↔ kOf (t.val % 36) = 0)
  ∧ (PL F t ↔ kOf (t.val % 36) < qOf (t.val % 36))
  ∧ (PD F t ↔ kOf (t.val % 36) = qOf (t.val % 36))
  ∧ (cfgA F).idle (5 : Fin 6) ((cfgA F).grid.coords t) = decide (kOf (t.val % 36) < qOf (t.val % 36))
  ∧ ((cfgA F).win (5 : Fin 6)).flush t = decide (kOf (t.val % 36) = qOf (t.val % 36))
  ∧ (kOf (t.val % 36) ≤ qOf (t.val % 36))
  ∧ (((cfgA F).win (2 : Fin 6)).index t 0 = t.val / 144 * 8 + qOf (t.val % 36) ∧ ((cfgA F).win (2 : Fin 6)).index t 1 = t.val / 36 % 4)
  ∧ (((cfgA F).win (3 : Fin 6)).index t 0 = t.val / 144 * 8 + kOf (t.val % 36) ∧ ((cfgA F).win (3 : Fin 6)).index t 1 = t.val / 36 % 4)
  ∧ (((cfgA F).win (4 : Fin 6)).index t 0 = t.val / 144 * 8 + kOf (t.val % 36) ∧ ((cfgA F).win (4 : Fin 6)).index t 1 = t.val / 36 % 4)
  ∧ (((cfgA F).win (5 : Fin 6)).index t 0 = t.val / 144 * 8 + qOf (t.val % 36) ∧ ((cfgA F).win (5 : Fin 6)).index t 1 = t.val / 36 % 4)

theorem facts_0 : ∀ t : Fin (cfgA Bits).N, 0 ≤ t.val → t.val < 72 → FactsAt Bits t := by decide +kernel
theorem facts_1 : ∀ t : Fin (cfgA Bits).N, 72 ≤ t.val → t.val < 144 → FactsAt Bits t := by decide +kernel
theorem facts_2 : ∀ t : Fin (cfgA Bits).N, 144 ≤ t.val → t.val < 216 → FactsAt Bits t := by decide +kernel
theorem facts_3 : ∀ t : Fin (cfgA Bits).N, 216 ≤ t.val → t.val < 288 → FactsAt Bits t := by decide +kernel
theorem facts_4 : ∀ t : Fin (cfgA Bits).N, 288 ≤ t.val → t.val < 360 → FactsAt Bits t := by decide +kernel
theorem facts_5 : ∀ t : Fin (cfgA Bits).N, 360 ≤ t.val → t.val < 432 → FactsAt Bits t := by decide +kernel
theorem facts_6 : ∀ t : Fin (cfgA Bits).N, 432 ≤ t.val → t.val < 504 → FactsAt Bits t := by decide +kernel
theorem facts_7 : ∀ t : Fin (cfgA Bits).N, 504 ≤ t.val → t.val < 576 → FactsAt Bits t := by decide +kernel
theorem factsB : ∀ t : Fin (cfgA Bits).N, FactsAt Bits t := fun t => by
  have h0 : 0 ≤ t.val := Nat.zero_le _
  rcases Nat.lt_or_ge t.val 72 with h1 | h1; · exact facts_0 t h0 h1
  rcases Nat.lt_or_ge t.val 144 with h2 | h2; · exact facts_1 t h1 h2
  rcases Nat.lt_or_ge t.val 216 with h3 | h3; · exact facts_2 t h2 h3
  rcases Nat.lt_or_ge t.val 288 with h4 | h4; · exact facts_3 t h3 h4
  rcases Nat.lt_or_ge t.val 360 with h5 | h5; · exact facts_4 t h4 h5
  rcases Nat.lt_or_ge t.val 432 with h6 | h6; · exact facts_5 t h5 h6
  rcases Nat.lt_or_ge t.val 504 with h7 | h7; · exact facts_6 t h6 h7
  exact facts_7 t h7 t.isLt

/-- The facts hold whatever the float values are: no table or index map reads one. -/
theorem facts (t : Fin (cfgA F).N) : FactsAt F t := factsB t

end Cert.FlashAttn

end
-- ==== Proof.FlashBody.lean ====
module

public import proofs.«01_k».proof.Proof.FlashCfg
public import Idealize.ShloMosaic.Lib.Exec
public import Idealize.ShloMosaic.Lib.Tactic
public import Idealize.ShloMosaic.Lib.Writes
public import Idealize.ShloMosaic.Lib.Ring

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] runInit runUpd runMask

/-! ## What the scratch buffers carry from point to point -/

/-- The carried scratch: the split queries, the running maxima, the running sums. -/
abbrev St (F : FTy → Type) [FloatOps F] (c : Dev nD) : Type :=
  Buf (Elt F) ((c : Thread nD τ).loc cc0_scratch0) × Buf (Elt F) ((c : Thread nD τ).loc cc0_scratch1) × Buf (Elt F) ((c : Thread nD τ).loc cc0_scratch2)

/-- The carried scratch after a row starts. -/
def initS (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x2 : S512x256.Idx → Elt F .bf16) : St F c :=
  ((runInit c i arg5 harg5 arg6 harg6 arg7 harg7 arg8 harg8 arg9 harg9 arg10 harg10 x2).1, (runInit c i arg5 harg5 arg6 harg6 arg7 harg7 arg8 harg8 arg9 harg9 arg10 harg10 x2).2.1, (runInit c i arg5 harg5 arg6 harg6 arg7 harg7 arg8 harg8 arg9 harg9 arg10 harg10 x2).2.2.1)
/-- The carried scratch after a block below the diagonal. -/
def updS (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x3 : S512x128.Idx → Elt F .bf16) (x4 : S512x128.Idx → Elt F .bf16) (s : St F c) : St F c :=
  (s.1, (runUpd c i arg5 harg5 arg6 harg6 arg7 harg7 arg8 harg8 arg9 harg9 arg10 harg10 x3 x4 s.1 s.2.1 s.2.2).1, (runUpd c i arg5 harg5 arg6 harg6 arg7 harg7 arg8 harg8 arg9 harg9 arg10 harg10 x3 x4 s.1 s.2.1 s.2.2).2.1)
/-- The carried scratch after the diagonal block. -/
def maskS (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt F .f32) (x1 : S1x128.Idx → Elt F .f32) (x3 : S512x128.Idx → Elt F .bf16) (x4 : S512x128.Idx → Elt F .bf16) (s : St F c) : St F c :=
  (s.1, (runMask c i arg5 harg5 arg6 harg6 arg7 harg7 arg8 harg8 arg9 harg9 arg10 harg10 x0 x1 x3 x4 s.1 s.2.1 s.2.2).2.1, (runMask c i arg5 harg5 arg6 harg6 arg7 harg7 arg8 harg8 arg9 harg9 arg10 harg10 x0 x1 x3 x4 s.1 s.2.1 s.2.2).2.2.1)
/-- The pieces of the finished rows stored at the diagonal block. -/
def outL (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt F .f32) (x1 : S1x128.Idx → Elt F .f32) (x3 : S512x128.Idx → Elt F .bf16) (x4 : S512x128.Idx → Elt F .bf16) (s : St F c) : List (View.Piece (Elt F) S512x256 .bf16) :=
  (runMask c i arg5 harg5 arg6 harg6 arg7 harg7 arg8 harg8 arg9 harg9 arg10 harg10 x0 x1 x3 x4 s.1 s.2.1 s.2.2).1

/-- One staging buffer of the output window, through which its contents are stated. -/
abbrev VO : View sig .tc .vmem S512x256 .bf16 := (Memref.whole cc0_stg5_0 : Memref sig .tc .vmem S512x256 .bf16).view

set_option backward.proofsInPublic true in
/-- The two stored halves tile the output block. -/
theorem out_cover (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt F .f32) (x1 : S1x128.Idx → Elt F .f32) (x3 : S512x128.Idx → Elt F .bf16) (x4 : S512x128.Idx → Elt F .bf16) (s : St F c) (y : S512x256.Idx) :
    ∃ pc ∈ outL c i arg5 harg5 arg6 harg6 arg7 harg7 arg8 harg8 arg9 harg9 arg10 harg10 x0 x1 x3 x4 s, y ∈ pc.1.set :=
  View.cover_of_tiledL (outL c i arg5 harg5 arg6 harg6 arg7 harg7 arg8 harg8 arg9 harg9 arg10 harg10 x0 x1 x3 x4 s) S512x128.size (by unfold outL; sl_kernel_rfl) y

/-- The finished rows, as the output block holds them. -/
def outV (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt F .f32) (x1 : S1x128.Idx → Elt F .f32) (x3 : S512x128.Idx → Elt F .bf16) (x4 : S512x128.Idx → Elt F .bf16) (s : St F c) : S512x256.Idx → Elt F .bf16 :=
  VO.read (Elt F) (VO.writes (Elt F) VO.junk (outL c i arg5 harg5 arg6 harg6 arg7 harg7 arg8 harg8 arg9 harg9 arg10 harg10 x0 x1 x3 x4 s))

/-- The two words are read from the tables. -/
theorem load_run (c : Dev nD) (i : grid0.Coords) (k : BitVec 32 → BitVec 32 → Prog (TpuEff nD τ sig (Elt F) Λ₀ .tc) PUnit) (K : PUnit → sProp 𝕄) :
    iprop((tbM0_0.view.loc (c : Thread nD τ) ↦{fullShare.right} pfN (F := F) 0) ∗ (tbM0_1.view.loc (c : Thread nD τ) ↦{fullShare.right} pfN (F := F) 1) ∗ (iprop((tbM0_0.view.loc (c : Thread nD τ) ↦{fullShare.right} pfN (F := F) 0) ∗ (tbM0_1.view.loc (c : Thread nD τ) ↦{fullShare.right} pfN (F := F) 1)) -∗ wp frame (wpE (defs₀ (F := F)) Variants.none c none) Set.univ (k (wq F i) (wk F i)) K))
    ⊢ wp frame (wpE (defs₀ (F := F)) Variants.none c none) Set.univ (do
      let v1 : Elt F .i32 ← smemLoad tbM0_0 (Rect.unit (s := S36) (k0_off1 i) S1.size (k0_off1_inb i)) numel1_S1 rfl
      let v3 : Elt F .i32 ← smemLoad tbM0_1 (Rect.unit (s := S36) (k0_off1 i) S1.size (k0_off1_inb i)) numel1_S1 rfl
      k v1 v3) K := by
  iintro ⟨HT0, HT1, Hk⟩
  have hT0 : tbM0_0.IsWhole := Memref.isWhole_whole _
  have hT1 : tbM0_1.IsWhole := Memref.isWhole_whole _
  sl_exec
  iapply Hk
  isplitl [HT0]; · iexact HT0
  iexact HT1

/-- Starting a row or going on with one: the rest runs from the carried scratch `s`. -/
theorem start_run (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x2 : S512x256.Idx → Elt F .bf16) (s a : St F c)
    (hs : (Scalar.cmpi .ne (Scalar.extui (Scalar.cmpi .eq (wk F i) 0#32)) 0#32 = 1#1 ∧ s = initS c i arg5 harg5 arg6 harg6 arg7 harg7 arg8 harg8 arg9 harg9 arg10 harg10 x2) ∨ (¬(Scalar.cmpi .ne (Scalar.extui (Scalar.cmpi .eq (wk F i) 0#32)) 0#32 = 1#1) ∧ s = a))
    (rest : Prog (TpuEff nD τ sig (Elt F) Λ₀ .tc) PUnit) (K : PUnit → sProp 𝕄) :
    iprop((arg7.view.loc (c : Thread nD τ) ↦[arg7.view.set]{fullShare} arg7.view.rep x2) ∗ (scM0_0.view.loc (c : Thread nD τ) ↦{fullShare} a.1) ∗ (scM0_1.view.loc (c : Thread nD τ) ↦{fullShare} a.2.1) ∗ (scM0_2.view.loc (c : Thread nD τ) ↦{fullShare} a.2.2)
      ∗ (iprop((arg7.view.loc (c : Thread nD τ) ↦[arg7.view.set]{fullShare} arg7.view.rep x2) ∗ (scM0_0.view.loc (c : Thread nD τ) ↦{fullShare} s.1) ∗ (scM0_1.view.loc (c : Thread nD τ) ↦{fullShare} s.2.1) ∗ (scM0_2.view.loc (c : Thread nD τ) ↦{fullShare} s.2.2)) -∗ wp frame (wpE (defs₀ (F := F)) Variants.none c none) Set.univ rest K))
    ⊢ wp frame (wpE (defs₀ (F := F)) Variants.none c none) Set.univ (if Scalar.cmpi .ne (Scalar.extui (Scalar.cmpi .eq (wk F i) 0#32)) 0#32 = 1#1 then initP i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) rest else rest) K := by
  rcases hs with ⟨h, rfl⟩ | ⟨h, rfl⟩
  · rw [if_pos h]
    dsimp only [initS]
    exact (runInit c i arg5 harg5 arg6 harg6 arg7 harg7 arg8 harg8 arg9 harg9 arg10 harg10 x2).2.2.2 a.1 a.2.1 a.2.2 rest K
  · rw [if_neg h]
    iintro ⟨H7, HS0, HS1, HS2, Hk⟩
    iapply Hk
    isplitl [H7]; · iexact H7
    isplitl [HS0]; · iexact HS0
    isplitl [HS1]; · iexact HS1
    iexact HS2

/-- The body at a block below the diagonal. -/
theorem body_low (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt F .f32) (x1 : S1x128.Idx → Elt F .f32) (x2 : S512x256.Idx → Elt F .bf16) (x3 : S512x128.Idx → Elt F .bf16) (x4 : S512x128.Idx → Elt F .bf16) (s a : St F c)
    (hs : (Scalar.cmpi .ne (Scalar.extui (Scalar.cmpi .eq (wk F i) 0#32)) 0#32 = 1#1 ∧ s = initS c i arg5 harg5 arg6 harg6 arg7 harg7 arg8 harg8 arg9 harg9 arg10 harg10 x2) ∨ (¬(Scalar.cmpi .ne (Scalar.extui (Scalar.cmpi .eq (wk F i) 0#32)) 0#32 = 1#1) ∧ s = a))
    (h1 : Scalar.cmpi .ne (Scalar.extui (Scalar.cmpi .slt (wk F i) (wq F i))) 0#32 = 1#1) (h3 : ¬(k0_cond3 (wq F i) (wk F i) = 1#1)) (K : PUnit → sProp 𝕄) :
    iprop((arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tbM0_0.view.loc (c : Thread nD τ) ↦{fullShare.right} pfN (F := F) 0) ∗ (tbM0_1.view.loc (c : Thread nD τ) ↦{fullShare.right} pfN (F := F) 1) ∗ (scM0_0.view.loc (c : Thread nD τ) ↦{fullShare} a.1) ∗ (scM0_1.view.loc (c : Thread nD τ) ↦{fullShare} a.2.1) ∗ (scM0_2.view.loc (c : Thread nD τ) ↦{fullShare} a.2.2) ∗ (∃ f, scM0_3.view.loc (c : Thread nD τ) ↦{fullShare} f) ∗ (∃ f, scM0_4.view.loc (c : Thread nD τ) ↦{fullShare} f)
      ∗ (iprop((arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tbM0_0.view.loc (c : Thread nD τ) ↦{fullShare.right} pfN (F := F) 0) ∗ (tbM0_1.view.loc (c : Thread nD τ) ↦{fullShare.right} pfN (F := F) 1) ∗ (scM0_0.view.loc (c : Thread nD τ) ↦{fullShare} (updS c i arg5 harg5 arg6 harg6 arg7 harg7 arg8 harg8 arg9 harg9 arg10 harg10 x3 x4 s).1) ∗ (scM0_1.view.loc (c : Thread nD τ) ↦{fullShare} (updS c i arg5 harg5 arg6 harg6 arg7 harg7 arg8 harg8 arg9 harg9 arg10 harg10 x3 x4 s).2.1) ∗ (scM0_2.view.loc (c : Thread nD τ) ↦{fullShare} (updS c i arg5 harg5 arg6 harg6 arg7 harg7 arg8 harg8 arg9 harg9 arg10 harg10 x3 x4 s).2.2) ∗ (∃ f, scM0_3.view.loc (c : Thread nD τ) ↦{fullShare} f) ∗ (∃ f, scM0_4.view.loc (c : Thread nD τ) ↦{fullShare} f)) -∗ K ⟨⟩))
    ⊢ wp frame (wpE (defs₀ (F := F)) Variants.none c none) Set.univ (cc0_flash_diff_attn i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _)) K := by
  rw [body_eq]
  iintro ⟨H7, H8, H9, HT0, HT1, HS0, HS1, HS2, ⟨%f3, HS3⟩, ⟨%f4, HS4⟩, Hk⟩
  iapply (load_run c i _ K)
  isplitl [HT0]; · iexact HT0
  isplitl [HT1]; · iexact HT1
  iintro ⟨HT0, HT1⟩
  dsimp only
  rw [dif_neg h3, if_pos h1]
  iapply (start_run c i arg5 harg5 arg6 harg6 arg7 harg7 arg8 harg8 arg9 harg9 arg10 harg10 x2 s a hs)
  isplitl [H7]; · iexact H7
  isplitl [HS0]; · iexact HS0
  isplitl [HS1]; · iexact HS1
  isplitl [HS2]; · iexact HS2
  iintro ⟨H7, HS0, HS1, HS2⟩
  iapply ((runUpd c i arg5 harg5 arg6 harg6 arg7 harg7 arg8 harg8 arg9 harg9 arg10 harg10 x3 x4 s.1 s.2.1 s.2.2).2.2 f3 f4)
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H8, H9, HS0, HS1, HS2, HS3, HS4⟩
  sl_step
  iapply Hk
  isplitl [H7]; · iexact H7
  isplitl [H8]; · iexact H8
  isplitl [H9]; · iexact H9
  isplitl [HT0]; · iexact HT0
  isplitl [HT1]; · iexact HT1
  isplitl [HS0]; · iexact HS0
  isplitl [HS1]; · iexact HS1
  isplitl [HS2]; · iexact HS2
  isplitl [HS3]; · iexact HS3
  iexact HS4

/-- The body at the diagonal block. -/
theorem body_diag (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt F .f32) (x1 : S1x128.Idx → Elt F .f32) (x2 : S512x256.Idx → Elt F .bf16) (x3 : S512x128.Idx → Elt F .bf16) (x4 : S512x128.Idx → Elt F .bf16) (s a : St F c)
    (hs : (Scalar.cmpi .ne (Scalar.extui (Scalar.cmpi .eq (wk F i) 0#32)) 0#32 = 1#1 ∧ s = initS c i arg5 harg5 arg6 harg6 arg7 harg7 arg8 harg8 arg9 harg9 arg10 harg10 x2) ∨ (¬(Scalar.cmpi .ne (Scalar.extui (Scalar.cmpi .eq (wk F i) 0#32)) 0#32 = 1#1) ∧ s = a))
    (h1 : ¬(Scalar.cmpi .ne (Scalar.extui (Scalar.cmpi .slt (wk F i) (wq F i))) 0#32 = 1#1)) (h3 : k0_cond3 (wq F i) (wk F i) = 1#1) (K : PUnit → sProp 𝕄) :
    iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (∃ d, owns (c : Thread nD τ) arg10 fullShare d) ∗ (tbM0_0.view.loc (c : Thread nD τ) ↦{fullShare.right} pfN (F := F) 0) ∗ (tbM0_1.view.loc (c : Thread nD τ) ↦{fullShare.right} pfN (F := F) 1) ∗ (scM0_0.view.loc (c : Thread nD τ) ↦{fullShare} a.1) ∗ (scM0_1.view.loc (c : Thread nD τ) ↦{fullShare} a.2.1) ∗ (scM0_2.view.loc (c : Thread nD τ) ↦{fullShare} a.2.2) ∗ (∃ f, scM0_3.view.loc (c : Thread nD τ) ↦{fullShare} f) ∗ (∃ f, scM0_4.view.loc (c : Thread nD τ) ↦{fullShare} f)
      ∗ (iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ owns (c : Thread nD τ) arg10 fullShare (outV c i arg5 harg5 arg6 harg6 arg7 harg7 arg8 harg8 arg9 harg9 arg10 harg10 x0 x1 x3 x4 s) ∗ (tbM0_0.view.loc (c : Thread nD τ) ↦{fullShare.right} pfN (F := F) 0) ∗ (tbM0_1.view.loc (c : Thread nD τ) ↦{fullShare.right} pfN (F := F) 1) ∗ (scM0_0.view.loc (c : Thread nD τ) ↦{fullShare} (maskS c i arg5 harg5 arg6 harg6 arg7 harg7 arg8 harg8 arg9 harg9 arg10 harg10 x0 x1 x3 x4 s).1) ∗ (scM0_1.view.loc (c : Thread nD τ) ↦{fullShare} (maskS c i arg5 harg5 arg6 harg6 arg7 harg7 arg8 harg8 arg9 harg9 arg10 harg10 x0 x1 x3 x4 s).2.1) ∗ (scM0_2.view.loc (c : Thread nD τ) ↦{fullShare} (maskS c i arg5 harg5 arg6 harg6 arg7 harg7 arg8 harg8 arg9 harg9 arg10 harg10 x0 x1 x3 x4 s).2.2) ∗ (∃ f, scM0_3.view.loc (c : Thread nD τ) ↦{fullShare} f) ∗ (∃ f, scM0_4.view.loc (c : Thread nD τ) ↦{fullShare} f)) -∗ K ⟨⟩))
    ⊢ wp frame (wpE (defs₀ (F := F)) Variants.none c none) Set.univ (cc0_flash_diff_attn i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _)) K := by
  rw [body_eq]
  iintro ⟨H5, H6, H7, H8, H9, HO, HT0, HT1, HS0, HS1, HS2, ⟨%f3, HS3⟩, ⟨%f4, HS4⟩, Hk⟩
  iapply (load_run c i _ K)
  isplitl [HT0]; · iexact HT0
  isplitl [HT1]; · iexact HT1
  iintro ⟨HT0, HT1⟩
  dsimp only
  rw [dif_pos h3, if_neg h1]
  iapply (start_run c i arg5 harg5 arg6 harg6 arg7 harg7 arg8 harg8 arg9 harg9 arg10 harg10 x2 s a hs)
  isplitl [H7]; · iexact H7
  isplitl [HS0]; · iexact HS0
  isplitl [HS1]; · iexact HS1
  isplitl [HS2]; · iexact HS2
  iintro ⟨H7, HS0, HS1, HS2⟩
  iapply ((runMask c i arg5 harg5 arg6 harg6 arg7 harg7 arg8 harg8 arg9 harg9 arg10 harg10 x0 x1 x3 x4 s.1 s.2.1 s.2.2).2.2.2 f3 f4)
  isplitl [H5]; · iexact H5
  isplitl [H6]; · iexact H6
  isplitl [H8]; · iexact H8
  isplitl [H9]; · iexact H9
  isplitl [HO]; · iexact HO
  isplitl [HS0]; · iexact HS0
  isplitl [HS1]; · iexact HS1
  isplitl [HS2]; · iexact HS2
  isplitl [HS3]; · iexact HS3
  isplitl [HS4]; · iexact HS4
  iintro ⟨H5, H6, H8, H9, ⟨%e, HO⟩, HS0, HS1, HS2, HS3, HS4⟩
  sl_step
  iapply Hk
  isplitl [H5]; · iexact H5
  isplitl [H6]; · iexact H6
  isplitl [H7]; · iexact H7
  isplitl [H8]; · iexact H8
  isplitl [H9]; · iexact H9
  isplitl [HO]
  · unfold owns; iexists _; isplitr; swap
    · iexact HO
    · ipureintro; exact View.read_writes_of_cover _ _ _ _ _ (out_cover c i arg5 harg5 arg6 harg6 arg7 harg7 arg8 harg8 arg9 harg9 arg10 harg10 x0 x1 x3 x4 s)
  isplitl [HT0]; · iexact HT0
  isplitl [HT1]; · iexact HT1
  isplitl [HS0]; · iexact HS0
  isplitl [HS1]; · iexact HS1
  isplitl [HS2]; · iexact HS2
  isplitl [HS3]; · iexact HS3
  iexact HS4

end Cert.FlashAttn

end
-- ==== Proof.FlashFrame.lean ====
module

public import proofs.«01_k».proof.Proof.FlashBody
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The staging buffers of a point -/

abbrev crd (t : Fin (cfgA F).N) : grid0.Coords := (cfgA F).grid.coords t
abbrev ms0_0 (t : Fin (cfgA F).N) : Memref sig .tc .vmem S4x64 .f32 := spec0_0.stage ((cfgA F).slots t (0 : Fin 6))
abbrev hs0_0 (t : Fin (cfgA F).N) : (ms0_0 (F := F) t).IsWhole := hstage0_0 (((cfgA F).slots t (0 : Fin 6)).cast nbuf0_0)
abbrev ms0_1 (t : Fin (cfgA F).N) : Memref sig .tc .vmem S1x128 .f32 := spec0_1.stage ((cfgA F).slots t (1 : Fin 6))
abbrev hs0_1 (t : Fin (cfgA F).N) : (ms0_1 (F := F) t).IsWhole := hstage0_1 (((cfgA F).slots t (1 : Fin 6)).cast nbuf0_1)
abbrev ms0_2 (t : Fin (cfgA F).N) : Memref sig .tc .vmem S512x256 .bf16 := spec0_2.stage ((cfgA F).slots t (2 : Fin 6))
abbrev hs0_2 (t : Fin (cfgA F).N) : (ms0_2 (F := F) t).IsWhole := hstage0_2 (((cfgA F).slots t (2 : Fin 6)).cast nbuf0_2)
abbrev ms0_3 (t : Fin (cfgA F).N) : Memref sig .tc .vmem S512x128 .bf16 := spec0_3.stage ((cfgA F).slots t (3 : Fin 6))
abbrev hs0_3 (t : Fin (cfgA F).N) : (ms0_3 (F := F) t).IsWhole := hstage0_3 (((cfgA F).slots t (3 : Fin 6)).cast nbuf0_3)
abbrev ms0_4 (t : Fin (cfgA F).N) : Memref sig .tc .vmem S512x128 .bf16 := spec0_4.stage ((cfgA F).slots t (4 : Fin 6))
abbrev hs0_4 (t : Fin (cfgA F).N) : (ms0_4 (F := F) t).IsWhole := hstage0_4 (((cfgA F).slots t (4 : Fin 6)).cast nbuf0_4)
abbrev ms0_5 (t : Fin (cfgA F).N) : Memref sig .tc .vmem S512x256 .bf16 := spec0_5.stage ((cfgA F).slots t (5 : Fin 6))
abbrev hs0_5 (t : Fin (cfgA F).N) : (ms0_5 (F := F) t).IsWhole := hstage0_5 (((cfgA F).slots t (5 : Fin 6)).cast nbuf0_5)

/-! ## The buffers at the launch, the blocks, and the scratch point by point -/

variable (m : (ℓ : Loc nD τ sig) → Buf (Elt F) ℓ) (ρ : Dev nD → PrngReg)

/-- The buffers when the pipeline starts: the host operations have run. -/
def V (c : Dev nD) (b : Ref sig .tc) : Buf (Elt F) ((c.tc : Thread nD τ).loc b) :=
  StableHlo.after (hostOps0 (F := F)) (fun b => m (c, b)) b

/-- Window `w`'s block at point `t`, read off its array at the launch. -/
def iblk (c : Dev nD) (w : Fin (cfgA F).W) (t : Fin (cfgA F).N) : (((cfgA F).win w).xblock (crd t)).Idx → Elt F ((cfgA F).win w).elt :=
  (((cfgA F).win w).blk t).view.read (Elt F) (V m c (Pipeline.arrRef (cfgA F).spec w))

/-- The carried scratch when the block's update begins. -/
def startS (c : Dev nD) (t : Fin (cfgA F).N) (prev : St F c) : St F c :=
  if PS F t then initS c (crd t) (ms0_0 t) (hs0_0 t) (ms0_1 t) (hs0_1 t) (ms0_2 t) (hs0_2 t) (ms0_3 t) (hs0_3 t) (ms0_4 t) (hs0_4 t) (ms0_5 t) (hs0_5 t) (iblk m c (2 : Fin 6) t) else prev
/-- The carried scratch after point `t`. -/
def stepS (c : Dev nD) (t : Fin (cfgA F).N) (prev : St F c) : St F c :=
  if PL F t then updS c (crd t) (ms0_0 t) (hs0_0 t) (ms0_1 t) (hs0_1 t) (ms0_2 t) (hs0_2 t) (ms0_3 t) (hs0_3 t) (ms0_4 t) (hs0_4 t) (ms0_5 t) (hs0_5 t) (iblk m c (3 : Fin 6) t) (iblk m c (4 : Fin 6) t) (startS m c t prev)
  else maskS c (crd t) (ms0_0 t) (hs0_0 t) (ms0_1 t) (hs0_1 t) (ms0_2 t) (hs0_2 t) (ms0_3 t) (hs0_3 t) (ms0_4 t) (hs0_4 t) (ms0_5 t) (hs0_5 t) (iblk m c (0 : Fin 6) t) (iblk m c (1 : Fin 6) t) (iblk m c (3 : Fin 6) t) (iblk m c (4 : Fin 6) t) (startS m c t prev)
/-- The carried scratch before position `n`. -/
def trajS (c : Dev nD) : ℕ → St F c
  | 0 => Classical.choice ⟨((Memref.whole cc0_scratch0).view.junk, (Memref.whole cc0_scratch1).view.junk, (Memref.whole cc0_scratch2).view.junk)⟩
  | n + 1 => if h : n < (cfgA F).N then stepS m c ⟨n, h⟩ (trajS c n) else trajS c n
/-- The output block the diagonal point `t` stores. -/
def outT (c : Dev nD) (t : Fin (cfgA F).N) : S512x256.Idx → Elt F .bf16 :=
  outV c (crd t) (ms0_0 t) (hs0_0 t) (ms0_1 t) (hs0_1 t) (ms0_2 t) (hs0_2 t) (ms0_3 t) (hs0_3 t) (ms0_4 t) (hs0_4 t) (ms0_5 t) (hs0_5 t) (iblk m c (0 : Fin 6) t) (iblk m c (1 : Fin 6) t) (iblk m c (3 : Fin 6) t) (iblk m c (4 : Fin 6) t) (startS m c t (trajS m c t.val))

theorem trajS_succ (c : Dev nD) (t : Fin (cfgA F).N) : trajS m c (t.val + 1) = stepS m c t (trajS m c t.val) := by
  rw [trajS, dif_pos t.isLt]
theorem stepS_low (c : Dev nD) (t : Fin (cfgA F).N) (s : St F c) (h : PL F t) :
    stepS m c t s = updS c (crd t) (ms0_0 t) (hs0_0 t) (ms0_1 t) (hs0_1 t) (ms0_2 t) (hs0_2 t) (ms0_3 t) (hs0_3 t) (ms0_4 t) (hs0_4 t) (ms0_5 t) (hs0_5 t) (iblk m c (3 : Fin 6) t) (iblk m c (4 : Fin 6) t) (startS m c t s) := by unfold stepS; rw [if_pos h]
theorem stepS_diag (c : Dev nD) (t : Fin (cfgA F).N) (s : St F c) (h : ¬PL F t) :
    stepS m c t s = maskS c (crd t) (ms0_0 t) (hs0_0 t) (ms0_1 t) (hs0_1 t) (ms0_2 t) (hs0_2 t) (ms0_3 t) (hs0_3 t) (ms0_4 t) (hs0_4 t) (ms0_5 t) (hs0_5 t) (iblk m c (0 : Fin 6) t) (iblk m c (1 : Fin 6) t) (iblk m c (3 : Fin 6) t) (iblk m c (4 : Fin 6) t) (startS m c t s) := by unfold stepS; rw [if_neg h]

/-- The invariant before position `t`: the carried scratch at what the points before have left (anything before the
    first), the two working buffers at anything, the body's halves of the tables. -/
def Phi (c : Dev nD) (t : Fin ((cfgA F).N + 1)) : sProp 𝕄 :=
  iprop((∃ s : St F c, ⌜t.val ≠ 0 → s = trajS m c t.val⌝ ∗ (scM0_0.view.loc (c : Thread nD τ) ↦{fullShare} s.1) ∗ (scM0_1.view.loc (c : Thread nD τ) ↦{fullShare} s.2.1) ∗ (scM0_2.view.loc (c : Thread nD τ) ↦{fullShare} s.2.2)) ∗ (∃ f, scM0_3.view.loc (c : Thread nD τ) ↦{fullShare} f) ∗ (∃ f, scM0_4.view.loc (c : Thread nD τ) ↦{fullShare} f) ∗ (tbM0_0.view.loc (c : Thread nD τ) ↦{fullShare.right} pfN (F := F) 0) ∗ (tbM0_1.view.loc (c : Thread nD τ) ↦{fullShare.right} pfN (F := F) 1) ∗ ∃ r, prngReg c r)

/-- The proof data of the one pipeline on core `c`. -/
def dats (_ : Fin 1) (c : Dev nD) : Dat τ (Elt F) Unit ℕ (UR sig nD τ) ℕ (cfgA F) c where
  A w := V m c (Pipeline.arrRef (cfgA F).spec w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => outT m c t
  Φ t := Phi m c t
  q _ := fullShare
  owed _ := 0

theorem after0_0 (c : Dev nD) (t : Fin (cfgA F).N) : (dats m 0 c).after (0 : Fin 6) t = iblk m c (0 : Fin 6) t := rfl
theorem before0_0 (c : Dev nD) (t : Fin (cfgA F).N) (d) : (dats m 0 c).before (0 : Fin 6) t d = iblk m c (0 : Fin 6) t :=
  ((dats m 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem after0_1 (c : Dev nD) (t : Fin (cfgA F).N) : (dats m 0 c).after (1 : Fin 6) t = iblk m c (1 : Fin 6) t := rfl
theorem before0_1 (c : Dev nD) (t : Fin (cfgA F).N) (d) : (dats m 0 c).before (1 : Fin 6) t d = iblk m c (1 : Fin 6) t :=
  ((dats m 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem after0_2 (c : Dev nD) (t : Fin (cfgA F).N) : (dats m 0 c).after (2 : Fin 6) t = iblk m c (2 : Fin 6) t := rfl
theorem before0_2 (c : Dev nD) (t : Fin (cfgA F).N) (d) : (dats m 0 c).before (2 : Fin 6) t d = iblk m c (2 : Fin 6) t :=
  ((dats m 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem after0_3 (c : Dev nD) (t : Fin (cfgA F).N) : (dats m 0 c).after (3 : Fin 6) t = iblk m c (3 : Fin 6) t := rfl
theorem before0_3 (c : Dev nD) (t : Fin (cfgA F).N) (d) : (dats m 0 c).before (3 : Fin 6) t d = iblk m c (3 : Fin 6) t :=
  ((dats m 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem after0_4 (c : Dev nD) (t : Fin (cfgA F).N) : (dats m 0 c).after (4 : Fin 6) t = iblk m c (4 : Fin 6) t := rfl
theorem before0_4 (c : Dev nD) (t : Fin (cfgA F).N) (d) : (dats m 0 c).before (4 : Fin 6) t d = iblk m c (4 : Fin 6) t :=
  ((dats m 0 c).before_in_eq_fetched (4 : Fin 6) rfl (fun _ => rfl) (fun _ _ _ => rfl) (fun t => by rw [after0_4]; unfold Dat.blockOf iblk; rfl) t d).trans
    (by unfold Dat.fetched Dat.blockOf iblk; rfl)
attribute [local irreducible] outT in
theorem after0_5 (c : Dev nD) (t : Fin (cfgA F).N) : (dats m 0 c).after (5 : Fin 6) t = outT m c t := rfl

/-! ## The body obligation -/

/-- Before point `t` a row starts, or the scratch is what the points before have left. -/
theorem start_or (c : Dev nD) (t : Fin (cfgA F).N) (s : St F c) (hs : t.val ≠ 0 → s = trajS m c t.val) (h0 : kOf (t.val % 36) = 0 → PS F t) :
    (PS F t ∧ startS m c t (trajS m c t.val) = initS c (crd t) (ms0_0 t) (hs0_0 t) (ms0_1 t) (hs0_1 t) (ms0_2 t) (hs0_2 t) (ms0_3 t) (hs0_3 t) (ms0_4 t) (hs0_4 t) (ms0_5 t) (hs0_5 t) (iblk m c (2 : Fin 6) t)) ∨ (¬PS F t ∧ startS m c t (trajS m c t.val) = s) := by
  by_cases h : PS F t
  · left; refine ⟨h, ?_⟩; unfold startS; rw [if_pos h]
  · right; refine ⟨h, ?_⟩; unfold startS; rw [if_neg h]
    exact (hs fun hz => h (h0 (by rw [hz]; rfl))).symm

/-- The body at point `t` on its staging memrefs, as the pipeline calls it. -/
abbrev bodyAt0 (t : Fin (cfgA F).N) : Prog (TpuEff nD τ sig (Elt F) Λ₀ .tc) PUnit :=
  cc0_flash_diff_attn (crd t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)

set_option maxHeartbeats 4000000 in
/-- The obligation at point `t`: below the diagonal the scratch goes on, at the diagonal the output block is stored. -/
theorem sound_body (c : Dev nD) (t : Fin (cfgA F).N) :
    iprop((dats m 0 c).Φ t.castSucc ∗ (dats m 0 c).owesAt () t.castSucc
        ∗ (∃ d, owns (c : Thread nD τ) (ms0_0 t) fullShare ((dats m 0 c).before (0 : Fin 6) t d)) ∗ (∃ d, owns (c : Thread nD τ) (ms0_1 t) fullShare ((dats m 0 c).before (1 : Fin 6) t d)) ∗ (∃ d, owns (c : Thread nD τ) (ms0_2 t) fullShare ((dats m 0 c).before (2 : Fin 6) t d)) ∗ (∃ d, owns (c : Thread nD τ) (ms0_3 t) fullShare ((dats m 0 c).before (3 : Fin 6) t d)) ∗ (∃ d, owns (c : Thread nD τ) (ms0_4 t) fullShare ((dats m 0 c).before (4 : Fin 6) t d)) ∗ (∃ d, owns (c : Thread nD τ) (ms0_5 t) fullShare ((dats m 0 c).before (5 : Fin 6) t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  obtain ⟨F0, F1, F3, F4, F5, F6, -⟩ := facts (F := F) t
  by_cases h1 : PL F t
  ·
    have h3 : ¬ PD F t := fun h => by have := F3.mp h; have := F1.mp h1; omega
    rewrite [show (cfgA F).idle (5 : Fin 6) ((cfgA F).grid.coords t) = true from F4.trans (decide_eq_true (F1.mp h1)), show ((cfgA F).win (5 : Fin 6)).flush t = false from F5.trans (decide_eq_false (fun h => by have := F1.mp h1; omega))]
    simp only [before0_0, before0_1, before0_2, before0_3, before0_4, after0_0, after0_1, after0_2, after0_3, after0_4, after0_5]
    rewrite [show (dats m 0 c).Φ t.succ = Phi m c t.succ from rfl, show (dats m 0 c).Φ t.castSucc = Phi m c t.castSucc from rfl,
      show (dats m 0 c).owesAt () t.succ = (dats m 0 c).owesAt () t.castSucc from rfl]
    unfold Phi; simp only [Fin.val_castSucc, Fin.val_succ]
    iintro ⟨⟨⟨%s, %hs, HS0, HS1, HS2⟩, HS3, HS4, HT0, HT1, Hp⟩, Ho, ⟨%d0, H0⟩, ⟨%d1, H1⟩, ⟨%d2, H2⟩, ⟨%d3, H3⟩, ⟨%d4, H4⟩, ⟨%d5, H5⟩⟩
    have hst := start_or m c t s hs (fun h => F0.mpr h)
    iapply (body_low c (crd t) (ms0_0 t) (hs0_0 t) (ms0_1 t) (hs0_1 t) (ms0_2 t) (hs0_2 t) (ms0_3 t) (hs0_3 t) (ms0_4 t) (hs0_4 t) (ms0_5 t) (hs0_5 t) (iblk m c (0 : Fin 6) t) (iblk m c (1 : Fin 6) t) (iblk m c (2 : Fin 6) t) (iblk m c (3 : Fin 6) t) (iblk m c (4 : Fin 6) t) (startS m c t (trajS m c t.val)) s hst h1 h3)
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HS0]; · iexact HS0
    isplitl [HS1]; · iexact HS1
    isplitl [HS2]; · iexact HS2
    isplitl [HS3]; · iexact HS3
    isplitl [HS4]; · iexact HS4
    iintro ⟨H2, H3, H4, HT0, HT1, HS0, HS1, HS2, HS3, HS4⟩
    isplitl [HS0 HS1 HS2 HS3 HS4 HT0 HT1 Hp]
    · isplitl [HS0 HS1 HS2]
      · iexists (stepS m c t (trajS m c t.val))
        isplitr; · ipureintro; exact fun _ => (trajS_succ m c t).symm
        rw [stepS_low m c t _ h1]
        isplitl [HS0]; · iexact HS0
        isplitl [HS1]; · iexact HS1
        iexact HS2
      isplitl [HS3]; · iexact HS3
      isplitl [HS4]; · iexact HS4
      isplitl [HT0]; · iexact HT0
      isplitl [HT1]; · iexact HT1
      iexact Hp
    isplitl [Ho]; · iexact Ho
    isplitl [H0]; · iexact H0
    isplitl [H1]; · iexact H1
    isplitl [H2]; · iapply owns_of_rep; iexact H2
    isplitl [H3]; · iapply owns_of_rep; iexact H3
    isplitl [H4]; · iapply owns_of_rep; iexact H4
    iexists d5; iexact H5
  ·
    have h3 : PD F t := F3.mpr (by have : ¬ _ := fun h => h1 (F1.mpr h); omega)
    rewrite [show (cfgA F).idle (5 : Fin 6) ((cfgA F).grid.coords t) = false from F4.trans (decide_eq_false (fun h => h1 (F1.mpr h)))]
    simp only [before0_0, before0_1, before0_2, before0_3, before0_4, after0_0, after0_1, after0_2, after0_3, after0_4, after0_5]
    rewrite [show (dats m 0 c).Φ t.succ = Phi m c t.succ from rfl, show (dats m 0 c).Φ t.castSucc = Phi m c t.castSucc from rfl,
      show (dats m 0 c).owesAt () t.succ = (dats m 0 c).owesAt () t.castSucc from rfl]
    unfold Phi; simp only [Fin.val_castSucc, Fin.val_succ]
    iintro ⟨⟨⟨%s, %hs, HS0, HS1, HS2⟩, HS3, HS4, HT0, HT1, Hp⟩, Ho, ⟨%d0, H0⟩, ⟨%d1, H1⟩, ⟨%d2, H2⟩, ⟨%d3, H3⟩, ⟨%d4, H4⟩, ⟨%d5, H5⟩⟩
    have hst := start_or m c t s hs (fun h => F0.mpr h)
    iapply (body_diag c (crd t) (ms0_0 t) (hs0_0 t) (ms0_1 t) (hs0_1 t) (ms0_2 t) (hs0_2 t) (ms0_3 t) (hs0_3 t) (ms0_4 t) (hs0_4 t) (ms0_5 t) (hs0_5 t) (iblk m c (0 : Fin 6) t) (iblk m c (1 : Fin 6) t) (iblk m c (2 : Fin 6) t) (iblk m c (3 : Fin 6) t) (iblk m c (4 : Fin 6) t) (startS m c t (trajS m c t.val)) s hst h1 h3)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iexists _; iexact H5
    isplitl [HT0]; · iexact HT0
    isplitl [HT1]; · iexact HT1
    isplitl [HS0]; · iexact HS0
    isplitl [HS1]; · iexact HS1
    isplitl [HS2]; · iexact HS2
    isplitl [HS3]; · iexact HS3
    isplitl [HS4]; · iexact HS4
    iintro ⟨H0, H1, H2, H3, H4, H5, HT0, HT1, HS0, HS1, HS2, HS3, HS4⟩
    isplitl [HS0 HS1 HS2 HS3 HS4 HT0 HT1 Hp]
    · isplitl [HS0 HS1 HS2]
      · iexists (stepS m c t (trajS m c t.val))
        isplitr; · ipureintro; exact fun _ => (trajS_succ m c t).symm
        rw [stepS_diag m c t _ h1]
        isplitl [HS0]; · iexact HS0
        isplitl [HS1]; · iexact HS1
        iexact HS2
      isplitl [HS3]; · iexact HS3
      isplitl [HS4]; · iexact HS4
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexact H5

/-- The library's body obligation, at every point. -/
theorem body_obligation (c : Dev nD) : BodyObligation (dats m 0 c) (defs₀ (F := F)) Variants.none () Set.univ := fun t => by
  rw [bigSep_W0]
  exact sound_body m c t

/-! ## The launch -/

theorem share_eq (c : Dev nD) (w : Fin (cfgA F).W) : (dats m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA spec0 c ∗ Pipeline.ΦT pre0 (adm (F := F)).1 c) ⊢ (dats m 0 c).Φ 0 := by
  rw [show (dats m 0 c).Φ 0 = Phi m c 0 from rfl]
  unfold Pipeline.ΦA Pipeline.ΦT Phi
  rw [prefHeld_eq, scopedRest0_eq]
  iintro ⟨⟨⟨⟨%a0, HS0⟩, ⟨%a1, HS1⟩, ⟨%a2, HS2⟩, HS3, HS4⟩, Hp⟩, HT0, HT1⟩
  isplitl [HS0 HS1 HS2]
  · iexists (a0, a1, a2)
    isplitr; · ipureintro; exact fun h => absurd rfl h
    isplitl [HS0]; · iexact HS0
    isplitl [HS1]; · iexact HS1
    iexact HS2
  isplitl [HS3]; · iexact HS3
  isplitl [HS4]; · iexact HS4
  isplitl [HT0]; · iexact HT0
  isplitl [HT1]; · iexact HT1
  iexact Hp

theorem phi_out (c : Dev nD) : (dats m 0 c).Φ (Fin.last (cfgA F).N) ⊢ Pipeline.ΦA spec0 c := by
  rw [show (dats m 0 c).Φ (Fin.last (cfgA F).N) = Phi m c (Fin.last _) from rfl]
  unfold Pipeline.ΦA Phi
  rw [scopedRest0_eq]
  iintro ⟨⟨%s, -, HS0, HS1, HS2⟩, HS3, HS4, -, -, Hp⟩
  isplitr [Hp]
  · isplitl [HS0]; · iexists s.1; iexact HS0
    isplitl [HS1]; · iexists s.2.1; iexact HS1
    isplitl [HS2]; · iexists s.2.2; iexact HS2
    isplitl [HS3]; · iexact HS3
    iexact HS4
  iexact Hp

theorem V_pre (c : Dev nD) (j : Fin 2) : V m c (pre0.ref j) = (adm (F := F)).1 j := by
  fin_cases j
  · rfl
  · rfl

/-- The pipeline pinned at the tables. -/
abbrev pcs (F : FTy → Type) [FloatOps F] : Fin 1 → Pipeline.Cfg sig Λ₀ := Pipeline.pin (pcfgs (F := F)) fun | 0 => adm

set_option backward.isDefEq.respectTransparency.types false in
set_option maxHeartbeats 4000000 in
/-- From any memory with zero counters every weakly fair execution of @main terminates; each window's array then holds
    what the library computes, every other buffer what the host operations left, and every counter is zero. -/
theorem run_main : θ_run (defs (F := F)) (onTc (τ := τ) (main (F := F))) (s₀ m ρ)
    (fun r => Pipeline.FramePost (fun _ : Fin 1 => cfgA F) (dats m) 0 (V m) r ∧ r.2.sem = fun _ => 0) :=
  Pipeline.θ_run_frameP_track pcfgs (fun _ => adm) (dats m) (0 : Fin 1) (launch0 (F := F)) defs₀ Variants.none m ρ main
    (hbody := fun c => (body_obligation m c).loose) (hshare := share_eq m) (howed := fun _ _ => rfl)
    (V := V m)
    (hmain := Pipeline.hmainP_prefix pcfgs 0 defs₀ Variants.none m main hostOps0 hostOps0_sub ⟨rfl, rfl, rfl⟩ main_chain)
    (hA := fun _ _ => rfl) (hpf := V_pre m)
    (hin := phi_in m) (hout := phi_out m)
    (Q' := fun r => Pipeline.FramePost (fun _ : Fin 1 => cfgA F) (dats m) 0 (V m) r ∧ r.2.sem = fun _ => 0)
    (hQ' := fun _ h => h)

end Cert.FlashAttn

end
-- ==== Proof.FlashClaims.lean ====
module

public import proofs.«01_k».proof.Proof.FlashFrame
public import proofs.«01_k».proof.Defs
public import proofs.«01_k».proof.Proof.Gen.Kernel
public import Idealize.ShloMosaic.PureOps.BitExact

@[expose] public section

set_option maxRecDepth 16384

noncomputable section

namespace Cert.FlashAttn

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem V_arg0 (c : Dev nD) : V m c main_arg0 = m ((c.tc : Thread nD τ).loc main_arg0) := rfl
theorem V_arg1 (c : Dev nD) : V m c main_arg1 = m ((c.tc : Thread nD τ).loc main_arg1) := rfl
theorem V_arg2 (c : Dev nD) : V m c main_arg2 = m ((c.tc : Thread nD τ).loc main_arg2) := rfl
theorem V_arg3 (c : Dev nD) : V m c main_arg3 = m ((c.tc : Thread nD τ).loc main_arg3) := rfl
theorem V_arg4 (c : Dev nD) : V m c main_arg4 = m ((c.tc : Thread nD τ).loc main_arg4) := rfl

/-- The fifth argument is no window's array. -/
theorem arg4_rest : main_arg4 ∈ Pipeline.restRefs sig (cfgA F).spec :=
  (show main_arg4 ∈ Pipeline.restRefs sig (cfgA Bits).spec by decide +kernel)

/-- The arguments at the end of the run are those of its start. -/
theorem args_of_post (r : PUnit × MemSt nD τ sig (Elt F)) (h : Pipeline.FramePost (fun _ : Fin 1 => cfgA F) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 (2 : Fin 6)).trans (((dats m 0 c).arrAt_in (2 : Fin 6) rfl _).trans (V_arg0 m c)),
   ((h c).1 (3 : Fin 6)).trans (((dats m 0 c).arrAt_in (3 : Fin 6) rfl _).trans (V_arg1 m c)),
   ((h c).1 (4 : Fin 6)).trans (((dats m 0 c).arrAt_in (4 : Fin 6) rfl _).trans (V_arg2 m c)),
   ((h c).1 (0 : Fin 6)).trans (((dats m 0 c).arrAt_in (0 : Fin 6) rfl _).trans (V_arg3 m c)),
   ((h c).2 main_arg4 arg4_rest).trans (V_arg4 m c)⟩

set_option maxHeartbeats 4000000 in
/-- The two programs' main functions are one. -/
theorem kmain_eq : Cert.Kernel.main (F := F) = Cert.KernelIdeal.main (F := F) := rfl

/-- The bodies of the two programs' pallas_calls are one. -/
theorem kdefs₀_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨n + 1, h⟩, _ => exact absurd h (Nat.not_lt.2 (Nat.le_add_left _ _))

set_option maxHeartbeats 4000000 in
/-- The two programs' body tables are one. -/
theorem kdefs_eq : Cert.Kernel.defs (F := F) = Cert.KernelIdeal.defs (F := F) :=
  congrArg (Pipeline.defs (Cert.KernelIdeal.pcfgs (F := F))) kdefs₀_eq

/-- The kernel's frame, from the run at words. -/
theorem frame_kernel : Cert.quiescent_Kernel := by
  intro m ρ _
  rw [kdefs_eq, kmain_eq]
  exact (θ_run (Cert.KernelIdeal.defs (F := Bits)) _ _).mono (fun r h => ⟨fun c => args_of_post (F := Bits) m r h.1 c, h.2⟩) (run_main (F := Bits) m ρ)

/-- The idealized kernel's frame, from the run at extended reals. -/
theorem frame_kernelIdeal : Cert.quiescent_KernelIdeal := fun m ρ _ =>
  (θ_run Cert.KernelIdeal.defs _ _).mono (fun r h => ⟨fun c => args_of_post (F := Ideal) m r h.1 c, h.2⟩) (run_main (F := Ideal) m ρ)

end Cert.FlashAttn

end
-- ==== Proof.FlashCanon.lean ====
module

public import proofs.«01_k».proof.Proof.Gen.KernelIdeal.Skeleton
public import Idealize.ShloMosaic.Lib.Pipeline.FrameBody
public import Idealize.ShloMosaic.Lib.Pointwise

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## Stored pieces that agree with one function -/

/-- Every piece of the list stores the values of one function of the whole shape. -/
def Agree {s : Shape} {e : EltTy} (L : List (View.Piece (Elt Ideal) s e)) (G : s.Idx → Elt Ideal e) : Prop :=
  ∀ p ∈ L, ∀ x, p.2 x = G (p.1.emb x)

theorem Agree.nil {s : Shape} {e : EltTy} (G : s.Idx → Elt Ideal e) : Agree [] G := fun _ h => absurd h (List.not_mem_nil)

theorem Agree.cons {s : Shape} {e : EltTy} {L : List (View.Piece (Elt Ideal) s e)} {G : s.Idx → Elt Ideal e} {r : Rect s}
    {w : r.shape.Idx → Elt Ideal e} (hL : Agree L G) (h : ∀ x, w x = G (r.emb x)) : Agree (⟨r, w⟩ :: L) G := by
  intro p hp
  rcases List.mem_cons.mp hp with rfl | hp
  · exact h
  · exact hL p hp

/-- Where some piece covers an index, the contents there are the function's. -/
theorem Agree.canon {s : Shape} {e : EltTy} {L : List (View.Piece (Elt Ideal) s e)} {G : s.Idx → Elt Ideal e} (h : Agree L G)
    {y : s.Idx} (hy : ∃ p ∈ L, y ∈ p.1.set) : View.canon L y = G y := by
  induction L with
  | nil => obtain ⟨p, hp, _⟩ := hy; exact absurd hp (List.not_mem_nil)
  | cons p L ih =>
    by_cases hm : y ∈ p.1.set
    · obtain ⟨x, rfl⟩ := p.1.exists_idx_of_mem hm
      exact (View.canon_cons_emb p.1 p.2 L x).trans (h p (List.mem_cons_self) x)
    · rw [View.canon_cons_of_not_mem p L hm]
      refine ih (fun q hq => h q (List.mem_cons_of_mem _ hq)) ?_
      obtain ⟨q, hq, hy⟩ := hy
      rcases List.mem_cons.mp hq with rfl | hq
      · exact absurd hy hm
      · exact ⟨q, hq, hy⟩

/-! ## The functions one block of keys computes -/

/-- The number the kernel fills masked entries with. -/
theorem ofBits_neg_inf : Ideal.ofBits .f32 0xFF800000#32 = ⊥ := by simp [Ideal.ofBits, Ideal.ieee]

theorem ofBits_one : Ideal.ofBits .bf16 0x3F80#16 = 1 := by simp [Ideal.ofBits, Ideal.ieee, -EReal.coe_mul]; norm_num

/-- The scores: unit `u` holds half `u % 2` of the keys and query group `u / 2`. -/
def Sc (X : S2x1024x128.Idx → EReal) (K : S512x128.Idx → EReal) (y : S4x512x512.Idx) : EReal :=
  ∑ d : Fin 128, X (ix3 ⟨(y 0).val % 2, by omega⟩ ⟨(y 0).val / 2 * 512 + (y 1).val, by have := (y 0).isLt; have := (y 1).isLt; simp at *; omega⟩ d) * K (ix2 (y 2) d)

/-- The scores with the keys after a query taken away. -/
def msk (T : S4x512x512.Idx → EReal) (y : S4x512x512.Idx) : EReal := if (y 2).val ≤ (y 1).val then T y else ⊥

/-- The row of scores a row of the maximum stands for. -/
def rowIx (y0 : Fin 2) (y1 : Fin 1024) (k : Fin 512) : S4x512x512.Idx :=
  ix3 ⟨y1.val / 512 * 2 + y0.val, by omega⟩ ⟨y1.val % 512, by omega⟩ k

/-- The running maximum after the block. -/
def newM (T : S4x512x512.Idx → EReal) (X1 : S2x1024x1.Idx → EReal) (y : S2x1024x1.Idx) : EReal :=
  max (X1 y) (Finset.univ.fold max ⊥ fun k => T (rowIx (y 0) (y 1) k))

/-- The row of the maximum an entry of the scores belongs to. -/
def mIx (y : S4x512x512.Idx) : S2x1024x1.Idx :=
  ix3 ⟨(y 0).val % 2, by omega⟩ ⟨(y 0).val / 2 * 512 + (y 1).val, by have := (y 0).isLt; have := (y 1).isLt; simp at *; omega⟩ 0

/-- The weights of the block. -/
def Pw (T : S4x512x512.Idx → EReal) (NM : S2x1024x1.Idx → EReal) (y : S4x512x512.Idx) : EReal := Ideal.exp (T y - NM (mIx y))

/-- The values with a column of ones beside them. -/
def Vx (V : S512x128.Idx → EReal) (k : Fin 512) (e : Fin 256) : EReal := if h : e.val < 128 then V (ix2 k ⟨e.val, h⟩) else 1

/-- The sums after the block. -/
def newA (T : S4x512x512.Idx → EReal) (X1 : S2x1024x1.Idx → EReal) (A : S2x1024x256.Idx → EReal) (V : S512x128.Idx → EReal) (y : S2x1024x256.Idx) : EReal :=
  Ideal.exp (X1 (ix3 (y 0) (y 1) 0) - newM T X1 (ix3 (y 0) (y 1) 0)) * A y
    + ∑ k : Fin 512, Pw T (newM T X1) (rowIx (y 0) (y 1) k) * Vx V k (y 2)

/-! ## The payloads, read at an index -/

theorem score_piece (X : S2x1024x128.Idx → EReal) (K : FVec Ideal S512x128 .bf16) (u c r0 : ℕ) (inb inb') (hc : u % 2 = c) (hr : u / 2 * 512 = r0)
    (v : FVec Ideal S1x512x128 .bf16) (hv : v = fun y => X ((Rect.unit (s := S2x1024x128) ![c, r0, 0] S1x512x128.size inb').idx y))
    (x : S1x512x512.Idx) :
    (shapeCast S1x512x512 (matmul dot_S512x128_S512x128_S512x512_1_1_0_0_n_n none
        (shapeCast S512x128 v shapeCasts_S1x512x128_S512x128) K
        (constant S512x512 .f32 0x00000000#32) : FVec Ideal S512x512 .f32) shapeCasts_S512x512_S1x512x512 : FVec Ideal S1x512x512 .f32) x
      = Sc X K ((Rect.unit (s := S4x512x512) ![u, 0, 0] S1x512x512.size inb).emb x) := by
  subst hc hr hv
  obtain ⟨a, b, d, rfl⟩ : ∃ a b d, x = ix3 a b d := ⟨_, _, _, eq_ix3 x⟩
  pointwise [Sc]
  refine Finset.sum_congr rfl fun k _ => ?_
  congr 2 <;> funext t <;> fin_cases t <;> apply Fin.ext <;> simp [Rect.emb_apply, LoadRect.idx_apply] <;> omega

/-- The running maximum of one unit, as a column. -/
theorem m_col (T : S4x512x512.Idx → EReal) (X1 : S2x1024x1.Idx → EReal) (u c r0 : ℕ) (inb inb') (hc : u % 2 = c) (hr : u / 2 * 512 = r0)
    (s : FVec Ideal S512x512 .f32) (hs : s = fun z => T ((Rect.unit (s := S4x512x512) ![u, 0, 0] S1x512x512.size inb).idx (ix3 0 (z 0) (z 1))))
    (v : FVec Ideal S1x512x1 .f32) (hv : v = fun y => X1 ((Rect.unit (s := S2x1024x1) ![c, r0, 0] S1x512x1.size inb').idx y)) :
    (maximumf (shapeCast S512x1 v shapeCasts_S1x512x1_S512x1)
      (shapeCast S512x1 (multiReduction .maximumf [1] S512 s 0xFF800000#32 reduces_S512x512_S512 (.inl rfl) rfl) shapeCasts_S512_S512x1) : FVec Ideal S512x1 .f32)
      = fun z => newM T X1 ((Rect.unit (s := S2x1024x1) ![c, r0, 0] S1x512x1.size inb').idx (ix3 0 (z 0) 0)) := by
  subst hc hr hs hv
  funext z
  obtain ⟨a, b, rfl⟩ : ∃ a b, z = ix2 a b := ⟨_, _, eq_ix2 z⟩
  pointwise [newM]
  rw [ofBits_neg_inf]
  congr 1
  · refine Finset.fold_congr fun k _ => congrArg T ?_
    funext t; fin_cases t <;> apply Fin.ext <;> simp [LoadRect.idx_apply, rowIx] <;> omega

/-- A block of weights. -/
theorem p_piece (T : S4x512x512.Idx → EReal) (NM : S2x1024x1.Idx → EReal) (u c r0 o : ℕ) (inb inb' hsl) (hc : u % 2 = c) (hr : u / 2 * 512 = r0)
    (s : FVec Ideal S32x512 .f32) (hs : s = fun z => T ((Rect.unit (s := S4x512x512) ![u, o, 0] S1x32x512.size inb).idx (ix3 0 (z 0) (z 1))))
    (M : FVec Ideal S512x1 .f32) (hM : M = fun z => NM ((Rect.unit (s := S2x1024x1) ![c, r0, 0] S1x512x1.size inb').idx (ix3 0 (z 0) 0)))
    (x : S1x32x512.Idx) :
    (shapeCast S1x32x512 (truncf .bf16 (exp (subf s (broadcastTo S32x512 (extractStridedSlice S32x1 ![o, 0] M hsl) broadcasts_S32x1_S32x512))) bitsLt_bf16_f32)
      shapeCasts_S32x512_S1x32x512 : FVec Ideal S1x32x512 .bf16) x
      = Pw T NM ((Rect.unit (s := S4x512x512) ![u, o, 0] S1x32x512.size inb).emb x) := by
  subst hc hr hs hM
  obtain ⟨a, b, d, rfl⟩ : ∃ a b d, x = ix3 a b d := ⟨_, _, _, eq_ix3 x⟩
  pointwise [Pw]
  congr 2
  · congr 1
    funext t; fin_cases t <;> apply Fin.ext <;> simp [LoadRect.idx_apply, Rect.emb_apply] <;> omega
  · congr 1
    funext t; fin_cases t <;> apply Fin.ext <;> simp [LoadRect.idx_apply, Rect.emb_apply, mIx] <;> omega

/-- The values beside ones. -/
theorem vx_piece (V : FVec Ideal S512x128 .bf16) :
    (concatenate S512x256 1 [⟨S512x128, V⟩, ⟨S512x128, broadcast S512x128 (Scalar.ofBits .bf16 0x3F80#16)⟩] concatenates_S512x128_S512x128_S512x256_d1 : FVec Ideal S512x256 .bf16)
      = fun z => Vx V (z 0) (z 1) := by
  funext z
  obtain ⟨a, b, rfl⟩ : ∃ a b, z = ix2 a b := ⟨_, _, eq_ix2 z⟩
  pointwise [Vx, ofBits_one]

/-- The sums of one unit. -/
theorem a_piece (T : S4x512x512.Idx → EReal) (X1 : S2x1024x1.Idx → EReal) (A : S2x1024x256.Idx → EReal) (V : S512x128.Idx → EReal)
    (u c r0 : ℕ) (inb inb' inb'') (hc : u % 2 = c) (hr : u / 2 * 512 = r0)
    (al M0 M : FVec Ideal S512x1 .f32) (hal : al = exp (subf M0 M))
    (h0 : M0 = fun z => X1 ((Rect.unit (s := S2x1024x1) ![c, r0, 0] S1x512x1.size inb').idx (ix3 0 (z 0) 0)))
    (hM : M = fun z => newM T X1 ((Rect.unit (s := S2x1024x1) ![c, r0, 0] S1x512x1.size inb').idx (ix3 0 (z 0) 0)))
    (a : FVec Ideal S1x512x256 .f32) (ha : a = fun y => A ((Rect.unit (s := S2x1024x256) ![c, r0, 0] S1x512x256.size inb'').idx y))
    (p : FVec Ideal S1x512x512 .bf16) (hp : p = fun y => Pw T (newM T X1) ((Rect.unit (s := S4x512x512) ![u, 0, 0] S1x512x512.size inb).idx y))
    (vx : FVec Ideal S512x256 .bf16) (hvx : vx = fun z => Vx V (z 0) (z 1))
    (x : S1x512x256.Idx) :
    (shapeCast S1x512x256 (addf (mulf (broadcastTo S512x256 al broadcasts_S512x1_S512x256) (shapeCast S512x256 a shapeCasts_S1x512x256_S512x256))
        (matmul dot_S512x512_S512x256_S512x256_1_0_0_1_n_n none (shapeCast S512x512 p shapeCasts_S1x512x512_S512x512) vx (constant S512x256 .f32 0x00000000#32)))
      shapeCasts_S512x256_S1x512x256 : FVec Ideal S1x512x256 .f32) x
      = newA T X1 A V ((Rect.unit (s := S2x1024x256) ![c, r0, 0] S1x512x256.size inb'').emb x) := by
  subst hc hr hal h0 hM ha hp hvx
  obtain ⟨a, b, d, rfl⟩ : ∃ a b d, x = ix3 a b d := ⟨_, _, _, eq_ix3 x⟩
  have hu : u / 2 * 512 + b.val < 1024 := by
    have := inb' 1
    simp at this; omega
  have e : (Rect.unit (s := S2x1024x256) ![u % 2, u / 2 * 512, 0] S1x512x256.size inb'').emb (ix3 a b d)
      = ix3 ⟨u % 2, by omega⟩ ⟨u / 2 * 512 + b.val, hu⟩ d := by
    funext t; fin_cases t <;> apply Fin.ext <;> simp [LoadRect.idx_apply, Rect.emb_apply] <;> omega
  rw [e]
  pointwise [newA]
  congr 1
  refine Finset.sum_congr rfl fun k _ => congrArg (· * _) (congrArg _ ?_)
  funext t; fin_cases t <;> apply Fin.ext <;> simp [rowIx] <;> omega

end Cert.FlashAttn

end
-- ==== Proof.FlashMask.lean ====
module

public import proofs.«01_k».proof.Proof.FlashCanon

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The diagonal block's mask -/

theorem mask_full (T : S4x512x512.Idx → EReal) (u : ℕ) (inb)
    (s : FVec Ideal S512x512 .f32) (hs : s = fun z => T ((Rect.unit (s := S4x512x512) ![u, 0, 0] S1x512x512.size inb).idx (ix3 0 (z 0) (z 1)))) :
    (select k0_pay133 s (broadcast S512x512 (Scalar.ofBits .f32 0xFF800000#32)) : FVec Ideal S512x512 .f32)
      = fun z => msk T ((Rect.unit (s := S4x512x512) ![u, 0, 0] S1x512x512.size inb).idx (ix3 0 (z 0) (z 1))) := by
  subst hs
  funext z
  obtain ⟨a, b, rfl⟩ : ∃ a b, z = ix2 a b := ⟨_, _, eq_ix2 z⟩
  have hw : (BitVec.ofNat 32 b.val).sle (BitVec.ofNat 32 a.val) = decide (b.val ≤ a.val) := by
    have := a.isLt; have := b.isLt
    rw [BitVec.sle_eq_decide, BitVec.toInt_eq_toNat_of_lt (by simp; omega), BitVec.toInt_eq_toNat_of_lt (by simp; omega)]
    simp; omega
  pointwise [msk, k0_pay133]
  rw [ofBits_neg_inf]
  simp only [Scalar.select, IntOp.cmpi, hw]
  by_cases h : b.val ≤ a.val <;> simp [h]

theorem mask_chunk (T : S4x512x512.Idx → EReal) (u o : ℕ) (ho : o < 512) (inb)
    (s : FVec Ideal S32x512 .f32) (hs : s = fun z => T ((Rect.unit (s := S4x512x512) ![u, o, 0] S1x32x512.size inb).idx (ix3 0 (z 0) (z 1)))) :
    (select (cmpi .sle k0_pay134 (broadcast S32x512 (BitVec.ofNat 32 o))) s (broadcast S32x512 (Scalar.ofBits .f32 0xFF800000#32)) : FVec Ideal S32x512 .f32)
      = fun z => msk T ((Rect.unit (s := S4x512x512) ![u, o, 0] S1x32x512.size inb).idx (ix3 0 (z 0) (z 1))) := by
  subst hs
  funext z
  obtain ⟨a, b, rfl⟩ : ∃ a b, z = ix2 a b := ⟨_, _, eq_ix2 z⟩
  have hw : (BitVec.ofNat 32 b.val - BitVec.ofNat 32 a.val).sle (BitVec.ofNat 32 o) = decide (b.val ≤ o + a.val) := by
    have := a.isLt; have := b.isLt
    have e : (BitVec.ofNat 32 b.val - BitVec.ofNat 32 a.val).toInt = (b.val : ℤ) - a.val := by
      rw [BitVec.toInt_sub, BitVec.toInt_eq_toNat_of_lt (by simp; omega), BitVec.toInt_eq_toNat_of_lt (by simp; omega)]
      rw [Int.bmod_eq_of_le] <;> simp <;> omega
    rw [BitVec.sle_eq_decide, e, BitVec.toInt_eq_toNat_of_lt (by simp; omega)]
    simp; omega
  pointwise [msk, k0_pay134]
  rw [ofBits_neg_inf]
  simp only [Scalar.select, IntOp.cmpi, IntOp.subi, hw]
  by_cases h : b.val ≤ o + a.val <;> simp [h]

/-- A block of keys or values, as the body reads it. -/
abbrev kb (arg8 : Memref sig .tc .vmem S512x128 .bf16) (x3 : S512x128.Idx → Elt Ideal .bf16) : S512x128.Idx → EReal :=
  View.readAt (Elt Ideal) arg8.view (Rect.unit (s := S512x128) ![0, 0] S512x128.size inb_S512x128_S512x128_0_0).toLoadRect (arg8.view.rep x3)

/-- A unit's rows of the maximum, as a column. -/
abbrev mcol (NM : S2x1024x1.Idx → EReal) (c r0 : ℕ) (inb : ∀ a, (![c, r0, 0] : Fin 3 → ℕ) a + S1x512x1.size a ≤ S2x1024x1.size a) : FVec Ideal S512x1 .f32 :=
  fun z => NM ((Rect.unit (s := S2x1024x1) ![c, r0, 0] S1x512x1.size inb).idx (ix3 0 (z 0) 0))

theorem sc512 {T : S4x512x512.Idx → EReal} {u : ℕ} {inb} {v : FVec Ideal S1x512x512 .f32}
    (hv : v = fun j => T ((Rect.unit (s := S4x512x512) ![u, 0, 0] S1x512x512.size inb).idx j)) :
    shapeCast S512x512 v shapeCasts_S1x512x512_S512x512
      = fun z => T ((Rect.unit (s := S4x512x512) ![u, 0, 0] S1x512x512.size inb).idx (ix3 0 (z 0) (z 1))) := by
  subst hv; funext z; pointwise

theorem sc32 {T : S4x512x512.Idx → EReal} {u o : ℕ} {inb} {v : FVec Ideal S1x32x512 .f32}
    (hv : v = fun j => T ((Rect.unit (s := S4x512x512) ![u, o, 0] S1x32x512.size inb).idx j)) :
    shapeCast S32x512 v shapeCasts_S1x32x512_S32x512
      = fun z => T ((Rect.unit (s := S4x512x512) ![u, o, 0] S1x32x512.size inb).idx (ix3 0 (z 0) (z 1))) := by
  subst hv; funext z; pointwise

theorem m0_col (X : S2x1024x1.Idx → EReal) (c r0 : ℕ) (inb) :
    shapeCast S512x1 (fun y : S1x512x1.Idx => X ((Rect.unit (s := S2x1024x1) ![c, r0, 0] S1x512x1.size inb).idx y)) shapeCasts_S1x512x1_S512x1 = mcol X c r0 inb := by
  funext z
  obtain ⟨a, b, rfl⟩ : ∃ a b, z = ix2 a b := ⟨_, _, eq_ix2 z⟩
  pointwise [mcol]

theorem m_piece (NM : S2x1024x1.Idx → EReal) (c r0 : ℕ) (inb) (v : FVec Ideal S512x1 .f32) (hv : v = mcol NM c r0 inb) (x : S1x512x1.Idx) :
    shapeCast S1x512x1 v shapeCasts_S512x1_S1x512x1 x = NM ((Rect.unit (s := S2x1024x1) ![c, r0, 0] S1x512x1.size inb).emb x) := by
  subst hv
  obtain ⟨a, b, d, rfl⟩ : ∃ a b d, x = ix3 a b d := ⟨_, _, _, eq_ix3 x⟩
  pointwise [mcol]
  congr 1
  funext t; fin_cases t <;> apply Fin.ext <;> simp [LoadRect.idx_apply, Rect.emb_apply] <;> omega

/-- Sixteen pieces of the list are unit `u`'s bands of 32 rows. -/
def bands (L : List (View.Piece (Elt Ideal) S4x512x512 .bf16)) (u : ℕ) : Bool :=
  (List.range 16).all fun j => L.any fun p =>
    (p.1.off 0 == u) && (p.1.off 1 == 32 * j) && (p.1.off 2 == 0) && (p.1.size 0 == 1) && (p.1.size 1 == 32) && (p.1.size 2 == 512)
      && (p.1.stride 0 == 1) && (p.1.stride 1 == 1) && (p.1.stride 2 == 1)

theorem band_cover (L : List (View.Piece (Elt Ideal) S4x512x512 .bf16)) (u : ℕ) (h : bands L u = true) (y : S4x512x512.Idx) (hy : (y 0).val = u) :
    ∃ p ∈ L, y ∈ p.1.set := by
  have h1 : (y 1).val < 512 := (y 1).isLt
  have h2 : (y 2).val < 512 := (y 2).isLt
  obtain ⟨p, hp, q⟩ := List.any_eq_true.mp (List.all_eq_true.mp h ((y 1).val / 32) (List.mem_range.mpr (by omega)))
  simp only [Bool.and_eq_true, beq_iff_eq] at q
  obtain ⟨⟨⟨⟨⟨⟨⟨⟨o0, o1⟩, o2⟩, s0⟩, s1⟩, s2⟩, t0⟩, t1⟩, t2⟩ := q
  refine ⟨p, hp, p.1.mem_set.mpr fun a => ?_⟩
  fin_cases a
  · exact ⟨0, by simp [s0], by simp [o0, hy]⟩
  · refine ⟨(y 1).val % 32, ?_, ?_⟩
    · show (y 1).val % 32 < p.1.size 1
      rw [s1]; omega
    · show (y 1).val = p.1.off 1 + p.1.stride 1 * ((y 1).val % 32)
      rw [o1, t1]; omega
  · refine ⟨(y 2).val, ?_, ?_⟩
    · show (y 2).val < p.1.size 2
      rw [s2]; omega
    · show (y 2).val = p.1.off 2 + p.1.stride 2 * (y 2).val
      rw [o2, t2]; omega

theorem band_row (u : ℕ) (inb) (j : S1x512x512.Idx) :
    ((Rect.unit (s := S4x512x512) ![u, 0, 0] S1x512x512.size inb).idx j 0).val = u := by
  have : (j 0).val < 1 := (j 0).isLt
  simp [LoadRect.idx_apply]; omega

end Cert.FlashAttn

end
-- ==== Proof.FlashUpd.lean ====
module

public import proofs.«01_k».proof.Proof.FlashMask
public import proofs.«01_k».proof.Proof.FlashRuns
public import Idealize.ShloMosaic.Lib.Tactic
public import Idealize.ShloMosaic.Lib.Ring

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (c : Dev nD) (arg8 arg9 : Memref sig .tc .vmem S512x128 .bf16) (x3 x4 : S512x128.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-! ## A block below the diagonal -/

theorem upd_agree3 : Agree (runUpd.sl.HS3_4 c arg8 x3 xa0) (Sc xa0 (kb arg8 x3)) := by
  unfold runUpd.sl.HS3_4
  exact Agree.cons (Agree.cons (Agree.cons (Agree.cons (Agree.nil _)
    (fun x => score_piece xa0 _ 0 0 0 _ _ rfl rfl _ rfl x)) (fun x => score_piece xa0 _ 1 1 0 _ _ rfl rfl _ rfl x))
    (fun x => score_piece xa0 _ 2 0 512 _ _ rfl rfl _ rfl x)) (fun x => score_piece xa0 _ 3 1 512 _ _ rfl rfl _ rfl x)

/-- What a load of the scores finds. -/
theorem upd_read3 (B : LoadRect S4x512x512) : scM0_3.view.readCov (runUpd.sl.HS3_4 c arg8 x3 xa0) B = fun j => Sc xa0 (kb arg8 x3) (B.idx j) :=
  (View.readCov_eq_canon' _ _ B).trans (funext fun j => (upd_agree3 c arg8 x3 xa0).canon
    (View.cover_of_tiledL (runUpd.sl.HS3_4 c arg8 x3 xa0) S1x512x512.size (by unfold runUpd.sl.HS3_4; sl_kernel_rfl) _))

theorem upd_m0 : runUpd.sl.r_2 c arg8 x3 xa0 xa1 = mcol (newM (Sc xa0 (kb arg8 x3)) xa1) 0 0 inb_S2x1024x1_S1x512x1_0_0_0 :=
  m_col (Sc xa0 (kb arg8 x3)) xa1 0 0 0 inb_S4x512x512_S1x512x512_0_0_0 inb_S2x1024x1_S1x512x1_0_0_0 rfl rfl _ (sc512 (upd_read3 c arg8 x3 xa0 _)) _ rfl

theorem upd_m1 : runUpd.sl.r_9 c arg8 x3 xa0 xa1 = mcol (newM (Sc xa0 (kb arg8 x3)) xa1) 1 0 inb_S2x1024x1_S1x512x1_1_0_0 :=
  m_col (Sc xa0 (kb arg8 x3)) xa1 1 1 0 inb_S4x512x512_S1x512x512_1_0_0 inb_S2x1024x1_S1x512x1_1_0_0 rfl rfl _ (sc512 (upd_read3 c arg8 x3 xa0 _)) _ rfl

theorem upd_m2 : runUpd.sl.r_18 c arg8 x3 xa0 xa1 = mcol (newM (Sc xa0 (kb arg8 x3)) xa1) 0 512 inb_S2x1024x1_S1x512x1_0_512_0 :=
  m_col (Sc xa0 (kb arg8 x3)) xa1 2 0 512 inb_S4x512x512_S1x512x512_2_0_0 inb_S2x1024x1_S1x512x1_0_512_0 rfl rfl _ (sc512 (upd_read3 c arg8 x3 xa0 _)) _ rfl

theorem upd_m3 : runUpd.sl.r_27 c arg8 x3 xa0 xa1 = mcol (newM (Sc xa0 (kb arg8 x3)) xa1) 1 512 inb_S2x1024x1_S1x512x1_1_512_0 :=
  m_col (Sc xa0 (kb arg8 x3)) xa1 3 1 512 inb_S4x512x512_S1x512x512_3_0_0 inb_S2x1024x1_S1x512x1_1_512_0 rfl rfl _ (sc512 (upd_read3 c arg8 x3 xa0 _)) _ rfl

set_option maxHeartbeats 2000000 in
theorem upd_agree4_0 : Agree (runUpd.sl.HS4_16 c arg8 x3 xa0 xa1) (Pw (Sc xa0 (kb arg8 x3)) (newM (Sc xa0 (kb arg8 x3)) xa1)) := by
  dsimp only [runUpd.sl.HS4_16, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, runUpd.sl.r_4, runUpd.sl.r_5, runUpd.sl.r_6, runUpd.sl.r_7, runUpd.sl.r_8]
  iterate 16 refine Agree.cons ?_ fun x => p_piece (Sc xa0 (kb arg8 x3)) (newM (Sc xa0 (kb arg8 x3)) xa1) 0 0 0 _ _ inb_S2x1024x1_S1x512x1_0_0_0 _ rfl rfl _ (sc32 (T := (Sc xa0 (kb arg8 x3))) (upd_read3 c arg8 x3 xa0 (Rect.unit (s := S4x512x512) ![_, _, 0] S1x32x512.size _).toLoadRect)) _ (upd_m0 c arg8 x3 xa0 xa1) x
  exact Agree.nil _

theorem upd_p0 : runUpd.sl.v217 c arg8 x3 xa0 xa1 = fun y => Pw (Sc xa0 (kb arg8 x3)) (newM (Sc xa0 (kb arg8 x3)) xa1) ((Rect.unit (s := S4x512x512) ![0, 0, 0] S1x512x512.size inb_S4x512x512_S1x512x512_0_0_0).idx y) :=
  (View.readCov_eq_canon' _ _ _).trans (funext fun j => (upd_agree4_0 c arg8 x3 xa0 xa1).canon
    (band_cover _ 0 (by unfold runUpd.sl.HS4_16; rfl) _ (band_row 0 _ j)))

set_option maxHeartbeats 2000000 in
theorem upd_agree4_1 : Agree (runUpd.sl.HS4_32 c arg8 x3 xa0 xa1) (Pw (Sc xa0 (kb arg8 x3)) (newM (Sc xa0 (kb arg8 x3)) xa1)) := by
  dsimp only [runUpd.sl.HS4_32, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, runUpd.sl.r_11, runUpd.sl.r_12, runUpd.sl.r_13, runUpd.sl.r_14, runUpd.sl.r_15, runUpd.sl.r_16, runUpd.sl.r_17]
  iterate 16 refine Agree.cons ?_ fun x => p_piece (Sc xa0 (kb arg8 x3)) (newM (Sc xa0 (kb arg8 x3)) xa1) 1 1 0 _ _ inb_S2x1024x1_S1x512x1_1_0_0 _ rfl rfl _ (sc32 (T := (Sc xa0 (kb arg8 x3))) (upd_read3 c arg8 x3 xa0 (Rect.unit (s := S4x512x512) ![_, _, 0] S1x32x512.size _).toLoadRect)) _ (upd_m1 c arg8 x3 xa0 xa1) x
  exact upd_agree4_0 c arg8 x3 xa0 xa1

theorem upd_p1 : runUpd.sl.v400 c arg8 x3 xa0 xa1 = fun y => Pw (Sc xa0 (kb arg8 x3)) (newM (Sc xa0 (kb arg8 x3)) xa1) ((Rect.unit (s := S4x512x512) ![1, 0, 0] S1x512x512.size inb_S4x512x512_S1x512x512_1_0_0).idx y) :=
  (View.readCov_eq_canon' _ _ _).trans (funext fun j => (upd_agree4_1 c arg8 x3 xa0 xa1).canon
    (band_cover _ 1 (by unfold runUpd.sl.HS4_32; rfl) _ (band_row 1 _ j)))

set_option maxHeartbeats 2000000 in
theorem upd_agree4_2 : Agree (runUpd.sl.HS4_48 c arg8 x3 xa0 xa1) (Pw (Sc xa0 (kb arg8 x3)) (newM (Sc xa0 (kb arg8 x3)) xa1)) := by
  dsimp only [runUpd.sl.HS4_48, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, runUpd.sl.r_20, runUpd.sl.r_21, runUpd.sl.r_22, runUpd.sl.r_23, runUpd.sl.r_24, runUpd.sl.r_25, runUpd.sl.r_26]
  iterate 16 refine Agree.cons ?_ fun x => p_piece (Sc xa0 (kb arg8 x3)) (newM (Sc xa0 (kb arg8 x3)) xa1) 2 0 512 _ _ inb_S2x1024x1_S1x512x1_0_512_0 _ rfl rfl _ (sc32 (T := (Sc xa0 (kb arg8 x3))) (upd_read3 c arg8 x3 xa0 (Rect.unit (s := S4x512x512) ![_, _, 0] S1x32x512.size _).toLoadRect)) _ (upd_m2 c arg8 x3 xa0 xa1) x
  exact upd_agree4_1 c arg8 x3 xa0 xa1

theorem upd_p2 : runUpd.sl.v583 c arg8 x3 xa0 xa1 = fun y => Pw (Sc xa0 (kb arg8 x3)) (newM (Sc xa0 (kb arg8 x3)) xa1) ((Rect.unit (s := S4x512x512) ![2, 0, 0] S1x512x512.size inb_S4x512x512_S1x512x512_2_0_0).idx y) :=
  (View.readCov_eq_canon' _ _ _).trans (funext fun j => (upd_agree4_2 c arg8 x3 xa0 xa1).canon
    (band_cover _ 2 (by unfold runUpd.sl.HS4_48; rfl) _ (band_row 2 _ j)))

set_option maxHeartbeats 2000000 in
theorem upd_agree4_3 : Agree (runUpd.sl.HS4_64 c arg8 x3 xa0 xa1) (Pw (Sc xa0 (kb arg8 x3)) (newM (Sc xa0 (kb arg8 x3)) xa1)) := by
  dsimp only [runUpd.sl.HS4_64, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, runUpd.sl.r_29, runUpd.sl.r_30, runUpd.sl.r_31, runUpd.sl.r_32, runUpd.sl.r_33, runUpd.sl.r_34]
  iterate 16 refine Agree.cons ?_ fun x => p_piece (Sc xa0 (kb arg8 x3)) (newM (Sc xa0 (kb arg8 x3)) xa1) 3 1 512 _ _ inb_S2x1024x1_S1x512x1_1_512_0 _ rfl rfl _ (sc32 (T := (Sc xa0 (kb arg8 x3))) (upd_read3 c arg8 x3 xa0 (Rect.unit (s := S4x512x512) ![_, _, 0] S1x32x512.size _).toLoadRect)) _ (upd_m3 c arg8 x3 xa0 xa1) x
  exact upd_agree4_2 c arg8 x3 xa0 xa1

theorem upd_p3 : runUpd.sl.v766 c arg8 x3 xa0 xa1 = fun y => Pw (Sc xa0 (kb arg8 x3)) (newM (Sc xa0 (kb arg8 x3)) xa1) ((Rect.unit (s := S4x512x512) ![3, 0, 0] S1x512x512.size inb_S4x512x512_S1x512x512_3_0_0).idx y) :=
  (View.readCov_eq_canon' _ _ _).trans (funext fun j => (upd_agree4_3 c arg8 x3 xa0 xa1).canon
    (band_cover _ 3 (by unfold runUpd.sl.HS4_64; rfl) _ (band_row 3 _ j)))

theorem upd_agree1 : Agree (runUpd.sl.HS1_4 c arg8 x3 xa0 xa1) (newM (Sc xa0 (kb arg8 x3)) xa1) := by
  unfold runUpd.sl.HS1_4
  exact Agree.cons (Agree.cons (Agree.cons (Agree.cons (Agree.nil _)
    (fun x => m_piece _ 0 0 _ _ (upd_m0 c arg8 x3 xa0 xa1) x)) (fun x => m_piece _ 1 0 _ _ (upd_m1 c arg8 x3 xa0 xa1) x))
    (fun x => m_piece _ 0 512 _ _ (upd_m2 c arg8 x3 xa0 xa1) x)) (fun x => m_piece _ 1 512 _ _ (upd_m3 c arg8 x3 xa0 xa1) x)

theorem upd_agree2 : Agree (runUpd.sl.HS2_4 c arg8 arg9 x3 x4 xa0 xa1 xa2) (newA (Sc xa0 (kb arg8 x3)) xa1 xa2 (kb arg9 x4)) := by
  unfold runUpd.sl.HS2_4
  exact Agree.cons (Agree.cons (Agree.cons (Agree.cons (Agree.nil _)
    (fun x => a_piece (Sc xa0 (kb arg8 x3)) xa1 xa2 (kb arg9 x4) 0 0 0 inb_S4x512x512_S1x512x512_0_0_0 inb_S2x1024x1_S1x512x1_0_0_0 _ rfl rfl _ _ _ rfl (m0_col xa1 0 0 _) (upd_m0 c arg8 x3 xa0 xa1) _ rfl _ (upd_p0 c arg8 x3 xa0 xa1) _ (vx_piece _) x))
    (fun x => a_piece (Sc xa0 (kb arg8 x3)) xa1 xa2 (kb arg9 x4) 1 1 0 inb_S4x512x512_S1x512x512_1_0_0 inb_S2x1024x1_S1x512x1_1_0_0 _ rfl rfl _ _ _ rfl (m0_col xa1 1 0 _) (upd_m1 c arg8 x3 xa0 xa1) _ rfl _ (upd_p1 c arg8 x3 xa0 xa1) _ (vx_piece _) x))
    (fun x => a_piece (Sc xa0 (kb arg8 x3)) xa1 xa2 (kb arg9 x4) 2 0 512 inb_S4x512x512_S1x512x512_2_0_0 inb_S2x1024x1_S1x512x1_0_512_0 _ rfl rfl _ _ _ rfl (m0_col xa1 0 512 _) (upd_m2 c arg8 x3 xa0 xa1) _ rfl _ (upd_p2 c arg8 x3 xa0 xa1) _ (vx_piece _) x))
    (fun x => a_piece (Sc xa0 (kb arg8 x3)) xa1 xa2 (kb arg9 x4) 3 1 512 inb_S4x512x512_S1x512x512_3_0_0 inb_S2x1024x1_S1x512x1_1_512_0 _ rfl rfl _ _ _ rfl (m0_col xa1 1 512 _) (upd_m3 c arg8 x3 xa0 xa1) _ rfl _ (upd_p3 c arg8 x3 xa0 xa1) _ (vx_piece _) x)

/-- The maximum the block leaves. -/
theorem upd_max : View.canon (runUpd.sl.HS1_4 c arg8 x3 xa0 xa1) = newM (Sc xa0 (kb arg8 x3)) xa1 :=
  funext fun y => (upd_agree1 c arg8 x3 xa0 xa1).canon
    (View.cover_of_tiledL (runUpd.sl.HS1_4 c arg8 x3 xa0 xa1) S1x512x1.size (by unfold runUpd.sl.HS1_4; sl_kernel_rfl) y)

/-- The sums the block leaves. -/
theorem upd_sum : View.canon (runUpd.sl.HS2_4 c arg8 arg9 x3 x4 xa0 xa1 xa2) = newA (Sc xa0 (kb arg8 x3)) xa1 xa2 (kb arg9 x4) :=
  funext fun y => (upd_agree2 c arg8 arg9 x3 x4 xa0 xa1 xa2).canon
    (View.cover_of_tiledL (runUpd.sl.HS2_4 c arg8 arg9 x3 x4 xa0 xa1 xa2) S1x512x256.size (by unfold runUpd.sl.HS2_4; sl_kernel_rfl) y)

end Cert.FlashAttn

end
-- ==== Proof.FlashDiag.lean ====
module

public import proofs.«01_k».proof.Proof.FlashMask
public import proofs.«01_k».proof.Proof.FlashRuns
public import Idealize.ShloMosaic.Lib.Tactic
public import Idealize.ShloMosaic.Lib.Ring

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (c : Dev nD) (arg8 arg9 : Memref sig .tc .vmem S512x128 .bf16) (x3 x4 : S512x128.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-! ## The diagonal block -/

theorem mask_agree3 : Agree (runMask.sl.HS3_4 c arg8 x3 xa0) (Sc xa0 (kb arg8 x3)) := by
  unfold runMask.sl.HS3_4
  exact Agree.cons (Agree.cons (Agree.cons (Agree.cons (Agree.nil _)
    (fun x => score_piece xa0 _ 0 0 0 _ _ rfl rfl _ rfl x)) (fun x => score_piece xa0 _ 1 1 0 _ _ rfl rfl _ rfl x))
    (fun x => score_piece xa0 _ 2 0 512 _ _ rfl rfl _ rfl x)) (fun x => score_piece xa0 _ 3 1 512 _ _ rfl rfl _ rfl x)

/-- What a load of the scores finds. -/
theorem mask_read3 (B : LoadRect S4x512x512) : scM0_3.view.readCov (runMask.sl.HS3_4 c arg8 x3 xa0) B = fun j => Sc xa0 (kb arg8 x3) (B.idx j) :=
  (View.readCov_eq_canon' _ _ B).trans (funext fun j => (mask_agree3 c arg8 x3 xa0).canon
    (View.cover_of_tiledL (runMask.sl.HS3_4 c arg8 x3 xa0) S1x512x512.size (by unfold runMask.sl.HS3_4; sl_kernel_rfl) _))

theorem mask_m0 : runMask.sl.r_2 c arg8 x3 xa0 xa1 = mcol (newM (msk (Sc xa0 (kb arg8 x3))) xa1) 0 0 inb_S2x1024x1_S1x512x1_0_0_0 :=
  m_col (msk (Sc xa0 (kb arg8 x3))) xa1 0 0 0 inb_S4x512x512_S1x512x512_0_0_0 inb_S2x1024x1_S1x512x1_0_0_0 rfl rfl _ (mask_full (Sc xa0 (kb arg8 x3)) 0 inb_S4x512x512_S1x512x512_0_0_0 _ (sc512 (mask_read3 c arg8 x3 xa0 _))) _ rfl

theorem mask_m1 : runMask.sl.r_11 c arg8 x3 xa0 xa1 = mcol (newM (msk (Sc xa0 (kb arg8 x3))) xa1) 1 0 inb_S2x1024x1_S1x512x1_1_0_0 :=
  m_col (msk (Sc xa0 (kb arg8 x3))) xa1 1 1 0 inb_S4x512x512_S1x512x512_1_0_0 inb_S2x1024x1_S1x512x1_1_0_0 rfl rfl _ (mask_full (Sc xa0 (kb arg8 x3)) 1 inb_S4x512x512_S1x512x512_1_0_0 _ (sc512 (mask_read3 c arg8 x3 xa0 _))) _ rfl

theorem mask_m2 : runMask.sl.r_20 c arg8 x3 xa0 xa1 = mcol (newM (msk (Sc xa0 (kb arg8 x3))) xa1) 0 512 inb_S2x1024x1_S1x512x1_0_512_0 :=
  m_col (msk (Sc xa0 (kb arg8 x3))) xa1 2 0 512 inb_S4x512x512_S1x512x512_2_0_0 inb_S2x1024x1_S1x512x1_0_512_0 rfl rfl _ (mask_full (Sc xa0 (kb arg8 x3)) 2 inb_S4x512x512_S1x512x512_2_0_0 _ (sc512 (mask_read3 c arg8 x3 xa0 _))) _ rfl

theorem mask_m3 : runMask.sl.r_27 c arg8 x3 xa0 xa1 = mcol (newM (msk (Sc xa0 (kb arg8 x3))) xa1) 1 512 inb_S2x1024x1_S1x512x1_1_512_0 :=
  m_col (msk (Sc xa0 (kb arg8 x3))) xa1 3 1 512 inb_S4x512x512_S1x512x512_3_0_0 inb_S2x1024x1_S1x512x1_1_512_0 rfl rfl _ (mask_full (Sc xa0 (kb arg8 x3)) 3 inb_S4x512x512_S1x512x512_3_0_0 _ (sc512 (mask_read3 c arg8 x3 xa0 _))) _ rfl

set_option maxHeartbeats 2000000 in
theorem mask_agree4_0 : Agree (runMask.sl.HS4_16 c arg8 x3 xa0 xa1) (Pw (msk (Sc xa0 (kb arg8 x3))) (newM (msk (Sc xa0 (kb arg8 x3))) xa1)) := by
  dsimp only [runMask.sl.HS4_16, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, runMask.sl.r_4, runMask.sl.r_5, runMask.sl.r_6, runMask.sl.r_7, runMask.sl.r_8, runMask.sl.r_9]
  iterate 16 refine Agree.cons ?_ fun x => p_piece (msk (Sc xa0 (kb arg8 x3))) (newM (msk (Sc xa0 (kb arg8 x3))) xa1) 0 0 0 _ _ inb_S2x1024x1_S1x512x1_0_0_0 _ rfl rfl _ (mask_chunk (Sc xa0 (kb arg8 x3)) _ _ (by omega) _ _ (sc32 (T := (Sc xa0 (kb arg8 x3))) (mask_read3 c arg8 x3 xa0 (Rect.unit (s := S4x512x512) ![_, _, 0] S1x32x512.size _).toLoadRect))) _ (mask_m0 c arg8 x3 xa0 xa1) x
  exact Agree.nil _

theorem mask_p0 : runMask.sl.v289 c arg8 x3 xa0 xa1 = fun y => Pw (msk (Sc xa0 (kb arg8 x3))) (newM (msk (Sc xa0 (kb arg8 x3))) xa1) ((Rect.unit (s := S4x512x512) ![0, 0, 0] S1x512x512.size inb_S4x512x512_S1x512x512_0_0_0).idx y) :=
  (View.readCov_eq_canon' _ _ _).trans (funext fun j => (mask_agree4_0 c arg8 x3 xa0 xa1).canon
    (band_cover _ 0 (by unfold runMask.sl.HS4_16; rfl) _ (band_row 0 _ j)))

set_option maxHeartbeats 2000000 in
theorem mask_agree4_1 : Agree (runMask.sl.HS4_32 c arg8 x3 xa0 xa1) (Pw (msk (Sc xa0 (kb arg8 x3))) (newM (msk (Sc xa0 (kb arg8 x3))) xa1)) := by
  dsimp only [runMask.sl.HS4_32, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, runMask.sl.r_13, runMask.sl.r_14, runMask.sl.r_15, runMask.sl.r_16, runMask.sl.r_17, runMask.sl.r_18]
  iterate 16 refine Agree.cons ?_ fun x => p_piece (msk (Sc xa0 (kb arg8 x3))) (newM (msk (Sc xa0 (kb arg8 x3))) xa1) 1 1 0 _ _ inb_S2x1024x1_S1x512x1_1_0_0 _ rfl rfl _ (mask_chunk (Sc xa0 (kb arg8 x3)) _ _ (by omega) _ _ (sc32 (T := (Sc xa0 (kb arg8 x3))) (mask_read3 c arg8 x3 xa0 (Rect.unit (s := S4x512x512) ![_, _, 0] S1x32x512.size _).toLoadRect))) _ (mask_m1 c arg8 x3 xa0 xa1) x
  exact mask_agree4_0 c arg8 x3 xa0 xa1

theorem mask_p1 : runMask.sl.v538 c arg8 x3 xa0 xa1 = fun y => Pw (msk (Sc xa0 (kb arg8 x3))) (newM (msk (Sc xa0 (kb arg8 x3))) xa1) ((Rect.unit (s := S4x512x512) ![1, 0, 0] S1x512x512.size inb_S4x512x512_S1x512x512_1_0_0).idx y) :=
  (View.readCov_eq_canon' _ _ _).trans (funext fun j => (mask_agree4_1 c arg8 x3 xa0 xa1).canon
    (band_cover _ 1 (by unfold runMask.sl.HS4_32; rfl) _ (band_row 1 _ j)))

set_option maxHeartbeats 2000000 in
theorem mask_agree4_2 : Agree (runMask.sl.HS4_48 c arg8 x3 xa0 xa1) (Pw (msk (Sc xa0 (kb arg8 x3))) (newM (msk (Sc xa0 (kb arg8 x3))) xa1)) := by
  dsimp only [runMask.sl.HS4_48, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, runMask.sl.r_22, runMask.sl.r_23, runMask.sl.r_24, runMask.sl.r_25, runMask.sl.r_26]
  iterate 16 refine Agree.cons ?_ fun x => p_piece (msk (Sc xa0 (kb arg8 x3))) (newM (msk (Sc xa0 (kb arg8 x3))) xa1) 2 0 512 _ _ inb_S2x1024x1_S1x512x1_0_512_0 _ rfl rfl _ (mask_chunk (Sc xa0 (kb arg8 x3)) _ _ (by omega) _ _ (sc32 (T := (Sc xa0 (kb arg8 x3))) (mask_read3 c arg8 x3 xa0 (Rect.unit (s := S4x512x512) ![_, _, 0] S1x32x512.size _).toLoadRect))) _ (mask_m2 c arg8 x3 xa0 xa1) x
  exact mask_agree4_1 c arg8 x3 xa0 xa1

theorem mask_p2 : runMask.sl.v787 c arg8 x3 xa0 xa1 = fun y => Pw (msk (Sc xa0 (kb arg8 x3))) (newM (msk (Sc xa0 (kb arg8 x3))) xa1) ((Rect.unit (s := S4x512x512) ![2, 0, 0] S1x512x512.size inb_S4x512x512_S1x512x512_2_0_0).idx y) :=
  (View.readCov_eq_canon' _ _ _).trans (funext fun j => (mask_agree4_2 c arg8 x3 xa0 xa1).canon
    (band_cover _ 2 (by unfold runMask.sl.HS4_48; rfl) _ (band_row 2 _ j)))

set_option maxHeartbeats 2000000 in
theorem mask_agree4_3 : Agree (runMask.sl.HS4_64 c arg8 x3 xa0 xa1) (Pw (msk (Sc xa0 (kb arg8 x3))) (newM (msk (Sc xa0 (kb arg8 x3))) xa1)) := by
  dsimp only [runMask.sl.HS4_64, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, runMask.sl.r_29, runMask.sl.r_30, runMask.sl.r_31, runMask.sl.r_32, runMask.sl.r_33]
  iterate 16 refine Agree.cons ?_ fun x => p_piece (msk (Sc xa0 (kb arg8 x3))) (newM (msk (Sc xa0 (kb arg8 x3))) xa1) 3 1 512 _ _ inb_S2x1024x1_S1x512x1_1_512_0 _ rfl rfl _ (mask_chunk (Sc xa0 (kb arg8 x3)) _ _ (by omega) _ _ (sc32 (T := (Sc xa0 (kb arg8 x3))) (mask_read3 c arg8 x3 xa0 (Rect.unit (s := S4x512x512) ![_, _, 0] S1x32x512.size _).toLoadRect))) _ (mask_m3 c arg8 x3 xa0 xa1) x
  exact mask_agree4_2 c arg8 x3 xa0 xa1

theorem mask_p3 : runMask.sl.v1036 c arg8 x3 xa0 xa1 = fun y => Pw (msk (Sc xa0 (kb arg8 x3))) (newM (msk (Sc xa0 (kb arg8 x3))) xa1) ((Rect.unit (s := S4x512x512) ![3, 0, 0] S1x512x512.size inb_S4x512x512_S1x512x512_3_0_0).idx y) :=
  (View.readCov_eq_canon' _ _ _).trans (funext fun j => (mask_agree4_3 c arg8 x3 xa0 xa1).canon
    (band_cover _ 3 (by unfold runMask.sl.HS4_64; rfl) _ (band_row 3 _ j)))

theorem mask_agree1 : Agree (runMask.sl.HS1_4 c arg8 x3 xa0 xa1) (newM (msk (Sc xa0 (kb arg8 x3))) xa1) := by
  unfold runMask.sl.HS1_4
  exact Agree.cons (Agree.cons (Agree.cons (Agree.cons (Agree.nil _)
    (fun x => m_piece _ 0 0 _ _ (mask_m0 c arg8 x3 xa0 xa1) x)) (fun x => m_piece _ 1 0 _ _ (mask_m1 c arg8 x3 xa0 xa1) x))
    (fun x => m_piece _ 0 512 _ _ (mask_m2 c arg8 x3 xa0 xa1) x)) (fun x => m_piece _ 1 512 _ _ (mask_m3 c arg8 x3 xa0 xa1) x)

theorem mask_agree2 : Agree (runMask.sl.HS2_4 c arg8 arg9 x3 x4 xa0 xa1 xa2) (newA (msk (Sc xa0 (kb arg8 x3))) xa1 xa2 (kb arg9 x4)) := by
  unfold runMask.sl.HS2_4
  exact Agree.cons (Agree.cons (Agree.cons (Agree.cons (Agree.nil _)
    (fun x => a_piece (msk (Sc xa0 (kb arg8 x3))) xa1 xa2 (kb arg9 x4) 0 0 0 inb_S4x512x512_S1x512x512_0_0_0 inb_S2x1024x1_S1x512x1_0_0_0 _ rfl rfl _ _ _ rfl (m0_col xa1 0 0 _) (mask_m0 c arg8 x3 xa0 xa1) _ rfl _ (mask_p0 c arg8 x3 xa0 xa1) _ (vx_piece _) x))
    (fun x => a_piece (msk (Sc xa0 (kb arg8 x3))) xa1 xa2 (kb arg9 x4) 1 1 0 inb_S4x512x512_S1x512x512_1_0_0 inb_S2x1024x1_S1x512x1_1_0_0 _ rfl rfl _ _ _ rfl (m0_col xa1 1 0 _) (mask_m1 c arg8 x3 xa0 xa1) _ rfl _ (mask_p1 c arg8 x3 xa0 xa1) _ (vx_piece _) x))
    (fun x => a_piece (msk (Sc xa0 (kb arg8 x3))) xa1 xa2 (kb arg9 x4) 2 0 512 inb_S4x512x512_S1x512x512_2_0_0 inb_S2x1024x1_S1x512x1_0_512_0 _ rfl rfl _ _ _ rfl (m0_col xa1 0 512 _) (mask_m2 c arg8 x3 xa0 xa1) _ rfl _ (mask_p2 c arg8 x3 xa0 xa1) _ (vx_piece _) x))
    (fun x => a_piece (msk (Sc xa0 (kb arg8 x3))) xa1 xa2 (kb arg9 x4) 3 1 512 inb_S4x512x512_S1x512x512_3_0_0 inb_S2x1024x1_S1x512x1_1_512_0 _ rfl rfl _ _ _ rfl (m0_col xa1 1 512 _) (mask_m3 c arg8 x3 xa0 xa1) _ rfl _ (mask_p3 c arg8 x3 xa0 xa1) _ (vx_piece _) x)

/-- The maximum the block leaves. -/
theorem mask_max : View.canon (runMask.sl.HS1_4 c arg8 x3 xa0 xa1) = newM (msk (Sc xa0 (kb arg8 x3))) xa1 :=
  funext fun y => (mask_agree1 c arg8 x3 xa0 xa1).canon
    (View.cover_of_tiledL (runMask.sl.HS1_4 c arg8 x3 xa0 xa1) S1x512x1.size (by unfold runMask.sl.HS1_4; sl_kernel_rfl) y)

/-- The sums the block leaves. -/
theorem mask_sum : View.canon (runMask.sl.HS2_4 c arg8 arg9 x3 x4 xa0 xa1 xa2) = newA (msk (Sc xa0 (kb arg8 x3))) xa1 xa2 (kb arg9 x4) :=
  funext fun y => (mask_agree2 c arg8 arg9 x3 x4 xa0 xa1 xa2).canon
    (View.cover_of_tiledL (runMask.sl.HS2_4 c arg8 arg9 x3 x4 xa0 xa1 xa2) S1x512x256.size (by unfold runMask.sl.HS2_4; sl_kernel_rfl) y)

end Cert.FlashAttn

end
-- ==== Proof.FlashState.lean ====
module

public import proofs.«01_k».proof.Proof.FlashUpd
public import proofs.«01_k».proof.Proof.FlashDiag
public import proofs.«01_k».proof.Proof.FlashBody

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## Starting a row -/

/-- The queries with one half of each group's lanes kept: half `y 0`. -/
def Qs (Q : S512x256.Idx → EReal) (y : S2x1024x128.Idx) : EReal :=
  if (y 2).val / 64 = (y 0).val then
    Q (ix2 ⟨(y 1).val % 512, by omega⟩ ⟨(y 1).val / 512 * 128 + (y 2).val, by have h1 : (y 1).val < 1024 := (y 1).isLt; have h2 : (y 2).val < 128 := (y 2).isLt; omega⟩)
  else 0

theorem half_lo (a : Fin 512) (b : Fin 128) : (k0_pay5 (ix2 a b) = 1#1) ↔ b.val / 64 = 0 := by
  have hb := b.isLt
  have hw : (BitVec.ofNat 32 b.val).slt 64#32 = decide (b.val / 64 = 0) := by
    rw [BitVec.slt_eq_decide, BitVec.toInt_eq_toNat_of_lt (by simp; omega)]
    simp; omega
  have e : k0_pay5 (ix2 a b) = IntOp.cmpi .slt (BitVec.ofNat 32 b.val) 64#32 := by pointwise [k0_pay5]
  rw [e]; simp only [IntOp.cmpi, hw]
  by_cases h : b.val / 64 = 0 <;> simp [h]

theorem half_hi (a : Fin 512) (b : Fin 128) : (k0_pay8 (ix2 a b) = 1#1) ↔ b.val / 64 = 1 := by
  have hb := b.isLt
  have hw : (64#32).sle (BitVec.ofNat 32 b.val) = decide (b.val / 64 = 1) := by
    rw [BitVec.sle_eq_decide, BitVec.toInt_eq_toNat_of_lt (x := BitVec.ofNat 32 b.val) (by simp; omega)]
    simp; omega
  have e : k0_pay8 (ix2 a b) = IntOp.cmpi .sge (BitVec.ofNat 32 b.val) 64#32 := by pointwise [k0_pay8]
  rw [e]; simp only [IntOp.cmpi, hw]
  by_cases h : b.val / 64 = 1 <;> simp [h]

theorem q_piece (Q : FVec Ideal S512x256 .bf16) (cc g : ℕ) (hg : g < 2) (inb hsl) (k : IVec S512x128 1)
    (hk : ∀ a b, (k (ix2 a b) = 1#1) ↔ b.val / 64 = cc) (x : S1x512x128.Idx) :
    (shapeCast S1x512x128 (select k (extractStridedSlice S512x128 ![0, g * 128] Q hsl) (broadcast S512x128 (Scalar.sitofp .bf16 0#32))) shapeCasts_S512x128_S1x512x128 : FVec Ideal S1x512x128 .bf16) x
      = Qs Q ((Rect.unit (s := S2x1024x128) ![cc, g * 512, 0] S1x512x128.size inb).emb x) := by
  obtain ⟨a, b, d, rfl⟩ : ∃ a b d, x = ix3 a b d := ⟨_, _, _, eq_ix3 x⟩
  have hcc : cc < 2 := by have := inb 0; simp at this; omega
  have e : (Rect.unit (s := S2x1024x128) ![cc, g * 512, 0] S1x512x128.size inb).emb (ix3 a b d) = ix3 ⟨cc, hcc⟩ ⟨g * 512 + b.val, by omega⟩ d := by
    funext t; fin_cases t <;> apply Fin.ext <;> simp [LoadRect.idx_apply, Rect.emb_apply] <;> omega
  rw [e]
  pointwise [Qs]
  have hk' : (k (ix2 b d) = 1) ↔ d.val / 64 = cc := hk b d
  simp only [Scalar.select]
  by_cases h : d.val / 64 = cc
  · rw [if_pos (hk'.mpr h), if_pos h]
    refine congrArg Q ?_
    funext t; fin_cases t <;> apply Fin.ext <;> simp <;> omega
  · rw [if_neg (fun hh => h (hk'.mp hh)), if_neg h]
    simp

/-- The query block, as the body reads it. -/
abbrev qb (arg7 : Memref sig .tc .vmem S512x256 .bf16) (x2 : S512x256.Idx → Elt Ideal .bf16) : S512x256.Idx → EReal :=
  View.readAt (Elt Ideal) arg7.view (Rect.unit (s := S512x256) ![0, 0] S512x256.size inb_S512x256_S512x256_0_0).toLoadRect (arg7.view.rep x2)

theorem init_q (arg7 : Memref sig .tc .vmem S512x256 .bf16) (x2 : S512x256.Idx → Elt Ideal .bf16) :
    View.canon (runInit.sl.HS0_4 arg7 x2) = Qs (qb arg7 x2) := by
  refine funext fun y => Agree.canon ?_ (View.cover_of_tiledL (runInit.sl.HS0_4 arg7 x2) S1x512x128.size (by unfold runInit.sl.HS0_4; sl_kernel_rfl) y)
  unfold runInit.sl.HS0_4
  exact Agree.cons (Agree.cons (Agree.cons (Agree.cons (Agree.nil _)
    (fun x => q_piece _ 0 0 (by omega) inb_S2x1024x128_S1x512x128_0_0_0 slices_S512x256_o0_0_S512x128 _ half_lo x)) (fun x => q_piece _ 0 1 (by omega) inb_S2x1024x128_S1x512x128_0_512_0 slices_S512x256_o0_128_S512x128 _ half_lo x))
    (fun x => q_piece _ 1 0 (by omega) inb_S2x1024x128_S1x512x128_1_0_0 slices_S512x256_o0_0_S512x128 _ half_hi x)) (fun x => q_piece _ 1 1 (by omega) inb_S2x1024x128_S1x512x128_1_512_0 slices_S512x256_o0_128_S512x128 _ half_hi x)

theorem init_m : View.canon (runInit.sl.HS1_1 (F := Ideal)) = fun _ => (⊥ : EReal) := by
  refine funext fun y => Agree.canon (G := fun _ => (⊥ : EReal)) ?_ (View.cover_of_tiledL (runInit.sl.HS1_1 (F := Ideal)) S2x1024x1.size (by unfold runInit.sl.HS1_1; sl_kernel_rfl) y)
  unfold runInit.sl.HS1_1
  refine Agree.cons (Agree.nil _) fun x => ?_
  show Ideal.ofBits .f32 0xFF800000#32 = ⊥
  exact ofBits_neg_inf

theorem init_a : View.canon (runInit.sl.HS2_1 (F := Ideal)) = fun _ => (0 : EReal) := by
  refine funext fun y => Agree.canon (G := fun _ => (0 : EReal)) ?_ (View.cover_of_tiledL (runInit.sl.HS2_1 (F := Ideal)) S2x1024x256.size (by unfold runInit.sl.HS2_1; sl_kernel_rfl) y)
  unfold runInit.sl.HS2_1
  refine Agree.cons (Agree.nil _) fun x => ?_
  show Ideal.ofBits .f32 0x00000000#32 = 0
  simp

theorem whole0 (L : List (View.Piece (Elt Ideal) S2x1024x128 .bf16)) :
    (View.whole cc0_scratch0 : View sig .tc .vmem S2x1024x128 .bf16).writes (Elt Ideal) (View.whole cc0_scratch0 : View sig .tc .vmem S2x1024x128 .bf16).junk L = View.canon L :=
  View.read_writes_junk_eq_canon (View.whole cc0_scratch0 : View sig .tc .vmem S2x1024x128 .bf16) L

theorem whole1 (L : List (View.Piece (Elt Ideal) S2x1024x1 .f32)) :
    (View.whole cc0_scratch1 : View sig .tc .vmem S2x1024x1 .f32).writes (Elt Ideal) (View.whole cc0_scratch1 : View sig .tc .vmem S2x1024x1 .f32).junk L = View.canon L :=
  View.read_writes_junk_eq_canon (View.whole cc0_scratch1 : View sig .tc .vmem S2x1024x1 .f32) L

theorem whole2 (L : List (View.Piece (Elt Ideal) S2x1024x256 .f32)) :
    (View.whole cc0_scratch2 : View sig .tc .vmem S2x1024x256 .f32).writes (Elt Ideal) (View.whole cc0_scratch2 : View sig .tc .vmem S2x1024x256 .f32).junk L = View.canon L :=
  View.read_writes_junk_eq_canon (View.whole cc0_scratch2 : View sig .tc .vmem S2x1024x256 .f32) L

theorem initS_val (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x2 : S512x256.Idx → Elt Ideal .bf16) :
    initS c i arg5 harg5 arg6 harg6 arg7 harg7 arg8 harg8 arg9 harg9 arg10 harg10 x2 = (Qs (qb arg7 x2), (fun _ => (⊥ : EReal)), (fun _ => (0 : EReal))) := by
  dsimp only [initS, runInit]
  rw [whole0, whole1, whole2, init_q, init_m, init_a]
  exact rfl

/-! ## The blocks of keys -/

theorem updS_val (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x3 x4 : S512x128.Idx → Elt Ideal .bf16) (s : St Ideal c) :
    updS c i arg5 harg5 arg6 harg6 arg7 harg7 arg8 harg8 arg9 harg9 arg10 harg10 x3 x4 s = (s.1, newM (Sc s.1 (kb arg8 x3)) s.2.1, newA (Sc s.1 (kb arg8 x3)) s.2.1 s.2.2 (kb arg9 x4)) := by
  dsimp only [updS, runUpd]
  rw [whole1, whole2, upd_max, upd_sum]

/-! ## The rows written -/

/-- The weight of the second attention. -/
def lamK (lq : S4x64.Idx → EReal) : EReal :=
  Ideal.exp (∑ k : Fin 64, lq (ix2 0 k) * lq (ix2 1 k)) - Ideal.exp (∑ k : Fin 64, lq (ix2 2 k) * lq (ix2 3 k)) + Ideal.ofBits .f32 0x3E4CCCCD#32

/-- The difference of the two attentions at a row. -/
def difK (lam : EReal) (A : S2x1024x256.Idx → EReal) (ρ : Fin 1024) (e : Fin 128) : EReal :=
  Ideal.div (A (ix3 0 ρ ⟨e.val, by omega⟩)) (A (ix3 0 ρ ⟨128 + e.val, by omega⟩))
    - lam * Ideal.div (A (ix3 1 ρ ⟨e.val, by omega⟩)) (A (ix3 1 ρ ⟨128 + e.val, by omega⟩))

/-- The normalised row. -/
def outK (D : Fin 128 → EReal) (sub : Fin 128 → EReal) (e : Fin 128) : EReal :=
  D e * Ideal.rsqrt (Ideal.div (∑ k : Fin 128, D k * D k) (Ideal.ofBits .f32 0x43000000#32) + Ideal.ofBits .f32 0x358637BD#32) * sub e
    * Ideal.ofBits .f32 0x3F4CCCCD#32

theorem row_out (lq : FVec Ideal S4x64 .f32) (sub : FVec Ideal S1x128 .f32) (A : S2x1024x256.Idx → EReal) (a0 a1 : FVec Ideal S1x1024x256 .f32)
    (h0 : a0 = fun j => A ((Rect.unit (s := S2x1024x256) ![0, 0, 0] S1x1024x256.size inb_S2x1024x256_S1x1024x256_0_0_0).idx j))
    (h1 : a1 = fun j => A ((Rect.unit (s := S2x1024x256) ![1, 0, 0] S1x1024x256.size inb_S2x1024x256_S1x1024x256_1_0_0).idx j))
    (ρ : Fin 1024) (e : Fin 128) :
    k0_pay250 (F := Ideal) lq (k0_pay248 lq) (k0_pay249 lq) a0 a1 sub (ix2 ρ e) = outK (difK (lamK lq) A ρ) (fun e => sub (ix2 0 e)) e := by
  subst h0 h1
  pointwise [k0_pay250, k0_pay248, k0_pay249, outK, difK, lamK]

/-! ## The diagonal block -/

theorem maskS_val (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt Ideal .f32) (x1 : S1x128.Idx → Elt Ideal .f32) (x3 x4 : S512x128.Idx → Elt Ideal .bf16) (s : St Ideal c) :
    maskS c i arg5 harg5 arg6 harg6 arg7 harg7 arg8 harg8 arg9 harg9 arg10 harg10 x0 x1 x3 x4 s = (s.1, newM (msk (Sc s.1 (kb arg8 x3))) s.2.1, newA (msk (Sc s.1 (kb arg8 x3))) s.2.1 s.2.2 (kb arg9 x4)) := by
  dsimp only [maskS, runMask]
  rw [whole1, whole2, mask_max, mask_sum]

/-- The small weights and the scale, as the body reads them. -/
abbrev lb (arg5 : Memref sig .tc .vmem S4x64 .f32) (x0 : S4x64.Idx → Elt Ideal .f32) : S4x64.Idx → EReal :=
  View.readAt (Elt Ideal) arg5.view (Rect.unit (s := S4x64) ![0, 0] S4x64.size inb_S4x64_S4x64_0_0).toLoadRect (arg5.view.rep x0)
abbrev sb (arg6 : Memref sig .tc .vmem S1x128 .f32) (x1 : S1x128.Idx → Elt Ideal .f32) : S1x128.Idx → EReal :=
  View.readAt (Elt Ideal) arg6.view (Rect.unit (s := S1x128) ![0, 0] S1x128.size inb_S1x128_S1x128_0_0).toLoadRect (arg6.view.rep x1)

/-- The block of finished rows. -/
def blkK (lq : S4x64.Idx → EReal) (sub : S1x128.Idx → EReal) (A : S2x1024x256.Idx → EReal) (y : S512x256.Idx) : EReal :=
  outK (difK (lamK lq) A ⟨(y 1).val / 128 * 512 + (y 0).val, by have h1 : (y 1).val < 256 := (y 1).isLt; have h0 : (y 0).val < 512 := (y 0).isLt; omega⟩)
    (fun e => sub (ix2 0 e)) ⟨(y 1).val % 128, by omega⟩

/-- What the sums read as, a half at a time. -/
theorem mask_read2 (c : Dev nD) (arg8 arg9 : Memref sig .tc .vmem S512x128 .bf16) (x3 x4 : S512x128.Idx → Elt Ideal .bf16) (s : St Ideal c) (B : LoadRect S2x1024x256) :
    scM0_2.view.readCov (runMask.sl.HS2_4 c arg8 arg9 x3 x4 s.1 s.2.1 s.2.2) B
      = fun j => newA (msk (Sc s.1 (kb arg8 x3))) s.2.1 s.2.2 (kb arg9 x4) (B.idx j) :=
  (View.readCov_eq_canon' _ _ B).trans (by rw [mask_sum])

theorem out_piece (lq : FVec Ideal S4x64 .f32) (sub : FVec Ideal S1x128 .f32) (A : S2x1024x256.Idx → EReal) (g : ℕ) (hg : g < 2) (inb hsl)
    (R : FVec Ideal S1024x128 .f32) (hR : ∀ ρ e, R (ix2 ρ e) = outK (difK (lamK lq) A ρ) (fun e => sub (ix2 0 e)) e) (x : S512x128.Idx) :
    (truncf .bf16 (extractStridedSlice S512x128 ![g * 512, 0] R hsl) bitsLt_bf16_f32 : FVec Ideal S512x128 .bf16) x
      = blkK lq sub A ((Rect.unit (s := S512x256) ![0, g * 128] S512x128.size inb).emb x) := by
  obtain ⟨a, b, rfl⟩ : ∃ a b, x = ix2 a b := ⟨_, _, eq_ix2 x⟩
  have e : (Rect.unit (s := S512x256) ![0, g * 128] S512x128.size inb).emb (ix2 a b) = ix2 ⟨a.val, by omega⟩ ⟨g * 128 + b.val, by omega⟩ := by
    funext t; fin_cases t <;> apply Fin.ext <;> simp [LoadRect.idx_apply, Rect.emb_apply] <;> omega
  rw [e]
  pointwise [blkK, hR]
  have e0 : (⟨g * 512 + a.val, by omega⟩ : Fin 1024) = ⟨(g * 128 + b.val) / 128 * 512 + a.val, by omega⟩ := Fin.ext (by simp only; omega)
  have e1 : b = (⟨(g * 128 + b.val) % 128, by omega⟩ : Fin 128) := Fin.ext (by simp only; omega)
  rw [← e0, ← e1]

theorem outV_val (c : Dev nD) (i : grid0.Coords) (arg5 : Memref sig .tc .vmem S4x64 .f32) (harg5 : arg5.IsWhole) (arg6 : Memref sig .tc .vmem S1x128 .f32) (harg6 : arg6.IsWhole)
    (arg7 : Memref sig .tc .vmem S512x256 .bf16) (harg7 : arg7.IsWhole) (arg8 : Memref sig .tc .vmem S512x128 .bf16) (harg8 : arg8.IsWhole)
    (arg9 : Memref sig .tc .vmem S512x128 .bf16) (harg9 : arg9.IsWhole) (arg10 : Memref sig .tc .vmem S512x256 .bf16) (harg10 : arg10.IsWhole) (x0 : S4x64.Idx → Elt Ideal .f32) (x1 : S1x128.Idx → Elt Ideal .f32) (x3 x4 : S512x128.Idx → Elt Ideal .bf16) (s : St Ideal c) :
    outV c i arg5 harg5 arg6 harg6 arg7 harg7 arg8 harg8 arg9 harg9 arg10 harg10 x0 x1 x3 x4 s = blkK (lb arg5 x0) (sb arg6 x1) (newA (msk (Sc s.1 (kb arg8 x3))) s.2.1 s.2.2 (kb arg9 x4)) := by
  unfold outV
  rw [View.read_writes_junk_eq_canon]
  refine funext fun y => Agree.canon ?_ (out_cover c i arg5 harg5 arg6 harg6 arg7 harg7 arg8 harg8 arg9 harg9 arg10 harg10 x0 x1 x3 x4 s y)
  have h := row_out (lb arg5 x0) (sb arg6 x1) (newA (msk (Sc s.1 (kb arg8 x3))) s.2.1 s.2.2 (kb arg9 x4)) _ _
    (mask_read2 c arg8 arg9 x3 x4 s (Rect.unit (s := S2x1024x256) ![0, 0, 0] S1x1024x256.size inb_S2x1024x256_S1x1024x256_0_0_0).toLoadRect)
    (mask_read2 c arg8 arg9 x3 x4 s (Rect.unit (s := S2x1024x256) ![1, 0, 0] S1x1024x256.size inb_S2x1024x256_S1x1024x256_1_0_0).toLoadRect)
  dsimp only [outL, runMask, runMask.sl.HO_2]
  exact Agree.cons (Agree.cons (Agree.nil _)
    (fun x => out_piece (lb arg5 x0) (sb arg6 x1) _ 0 (by omega) inb_S512x256_S512x128_0_0 slices_S1024x128_o0_0_S512x128 _ h x))
    (fun x => out_piece (lb arg5 x0) (sb arg6 x1) _ 1 (by omega) inb_S512x256_S512x128_0_128 slices_S1024x128_o512_0_S512x128 _ h x)

end Cert.FlashAttn

end
-- ==== Proof.FlashBlk.lean ====
module

public import Idealize.ShloMosaic.Lib.Pointwise
public import Idealize.ShloMosaic.Lib.Pipeline.ValueKit
public import proofs.«01_k».proof.Proof.FlashState
public import proofs.«01_k».proof.Proof.FlashClaims

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The blocks of a grid point, as entries of the arrays -/

/-- The place of a grid point: its sequence, its pair of heads, its block of queries and its block of keys. -/
def tb (t : Fin (cfgA Ideal).N) : ℕ := t.val / 144
def th (t : Fin (cfgA Ideal).N) : ℕ := t.val / 36 % 4
def tq (t : Fin (cfgA Ideal).N) : ℕ := qOf (t.val % 36)
def tk (t : Fin (cfgA Ideal).N) : ℕ := kOf (t.val % 36)

theorem qOf_lt (x : ℕ) : qOf x < 8 := by unfold qOf; split_ifs <;> omega
theorem tb_lt (t : Fin (cfgA Ideal).N) : tb t < 4 := by have h : t.val < 576 := t.isLt; unfold tb; omega
theorem th_lt (t : Fin (cfgA Ideal).N) : th t < 4 := by unfold th; omega
theorem tq_lt (t : Fin (cfgA Ideal).N) : tq t < 8 := qOf_lt _
theorem tk_le (t : Fin (cfgA Ideal).N) : tk t ≤ tq t := (facts (F := Ideal) t).2.2.2.2.2.1
theorem tk_lt (t : Fin (cfgA Ideal).N) : tk t < 8 := lt_of_le_of_lt (tk_le t) (tq_lt t)

/-- A row of block `o` of the point's sequence. -/
def rowOf (t : Fin (cfgA Ideal).N) (o : ℕ) (ho : o < 8) (r : Fin 512) : Fin 16384 := ⟨(tb t * 8 + o) * 512 + r.val, by have := tb_lt t; omega⟩

theorem blk2 (c : Dev nD) (t : Fin (cfgA Ideal).N) (r : Fin 512) (j : Fin 256) :
    (iblk m c (2 : Fin 6) t : S512x256.Idx → EReal) (ix2 r j)
      = m ((c.tc : Thread nD τ).loc main_arg0) (ix2 (rowOf t (tq t) (tq_lt t) r) ⟨th t * 256 + j.val, by have := th_lt t; omega⟩) := by
  have e := facts (F := Ideal) t
  unfold iblk
  rw [show V m c (Pipeline.arrRef (cfgA Ideal).spec (2 : Fin 6)) = m ((c.tc : Thread nD τ).loc main_arg0) from V_arg0 m c]
  refine congrArg (m ((c.tc : Thread nD τ).loc main_arg0)) (?_ : (((cfgA Ideal).win (2 : Fin 6)).rect t).emb (ix2 r j) = _)
  funext a
  fin_cases a
  · exact Fin.ext ((((cfgA Ideal).win (2 : Fin 6)).rect_emb_val t (ix2 r j) 0).trans (by rw [show ((cfgA Ideal).win (2 : Fin 6)).index t 0 = _ from e.2.2.2.2.2.2.1.1]; rfl))
  · exact Fin.ext ((((cfgA Ideal).win (2 : Fin 6)).rect_emb_val t (ix2 r j) 1).trans (by rw [show ((cfgA Ideal).win (2 : Fin 6)).index t 1 = _ from e.2.2.2.2.2.2.1.2]; rfl))

theorem blk3 (c : Dev nD) (t : Fin (cfgA Ideal).N) (r : Fin 512) (j : Fin 128) :
    (iblk m c (3 : Fin 6) t : S512x128.Idx → EReal) (ix2 r j)
      = m ((c.tc : Thread nD τ).loc main_arg1) (ix2 (rowOf t (tk t) (tk_lt t) r) ⟨th t * 128 + j.val, by have := th_lt t; omega⟩) := by
  have e := facts (F := Ideal) t
  unfold iblk
  rw [show V m c (Pipeline.arrRef (cfgA Ideal).spec (3 : Fin 6)) = m ((c.tc : Thread nD τ).loc main_arg1) from V_arg1 m c]
  refine congrArg (m ((c.tc : Thread nD τ).loc main_arg1)) (?_ : (((cfgA Ideal).win (3 : Fin 6)).rect t).emb (ix2 r j) = _)
  funext a
  fin_cases a
  · exact Fin.ext ((((cfgA Ideal).win (3 : Fin 6)).rect_emb_val t (ix2 r j) 0).trans (by rw [show ((cfgA Ideal).win (3 : Fin 6)).index t 0 = _ from e.2.2.2.2.2.2.2.1.1]; rfl))
  · exact Fin.ext ((((cfgA Ideal).win (3 : Fin 6)).rect_emb_val t (ix2 r j) 1).trans (by rw [show ((cfgA Ideal).win (3 : Fin 6)).index t 1 = _ from e.2.2.2.2.2.2.2.1.2]; rfl))

theorem blk4 (c : Dev nD) (t : Fin (cfgA Ideal).N) (r : Fin 512) (j : Fin 128) :
    (iblk m c (4 : Fin 6) t : S512x128.Idx → EReal) (ix2 r j)
      = m ((c.tc : Thread nD τ).loc main_arg2) (ix2 (rowOf t (tk t) (tk_lt t) r) ⟨th t * 128 + j.val, by have := th_lt t; omega⟩) := by
  have e := facts (F := Ideal) t
  unfold iblk
  rw [show V m c (Pipeline.arrRef (cfgA Ideal).spec (4 : Fin 6)) = m ((c.tc : Thread nD τ).loc main_arg2) from V_arg2 m c]
  refine congrArg (m ((c.tc : Thread nD τ).loc main_arg2)) (?_ : (((cfgA Ideal).win (4 : Fin 6)).rect t).emb (ix2 r j) = _)
  funext a
  fin_cases a
  · exact Fin.ext ((((cfgA Ideal).win (4 : Fin 6)).rect_emb_val t (ix2 r j) 0).trans (by rw [show ((cfgA Ideal).win (4 : Fin 6)).index t 0 = _ from e.2.2.2.2.2.2.2.2.1.1]; rfl))
  · exact Fin.ext ((((cfgA Ideal).win (4 : Fin 6)).rect_emb_val t (ix2 r j) 1).trans (by rw [show ((cfgA Ideal).win (4 : Fin 6)).index t 1 = _ from e.2.2.2.2.2.2.2.2.1.2]; rfl))

theorem blk0 (c : Dev nD) (t : Fin (cfgA Ideal).N) :
    (iblk m c (0 : Fin 6) t : S4x64.Idx → EReal) = m ((c.tc : Thread nD τ).loc main_arg3) := by
  unfold iblk
  rw [show V m c (Pipeline.arrRef (cfgA Ideal).spec (0 : Fin 6)) = m ((c.tc : Thread nD τ).loc main_arg3) from V_arg3 m c]
  funext y
  refine congrArg (m ((c.tc : Thread nD τ).loc main_arg3)) (?_ : (((cfgA Ideal).win (0 : Fin 6)).rect t).emb y = _)
  funext a
  fin_cases a
  · exact Fin.ext (((cfgA Ideal).win (0 : Fin 6)).rect_emb_val_of_index_zero t 0 rfl y)
  · exact Fin.ext (((cfgA Ideal).win (0 : Fin 6)).rect_emb_val_of_index_zero t 1 rfl y)

theorem blk1 (c : Dev nD) (t : Fin (cfgA Ideal).N) (e : Fin 128) :
    (iblk m c (1 : Fin 6) t : S1x128.Idx → EReal) (ix2 0 e) = m ((c.tc : Thread nD τ).loc main_arg4) (ix1 e) := by
  have hv : (V m c main_v0 : S1x128.Idx → EReal) (ix2 0 e) = m ((c.tc : Thread nD τ).loc main_arg4) (ix1 e) := by
    show (shapeCast S1x128 (m ((c.tc : Thread nD τ).loc main_arg4) : FVec Ideal S128 .f32) shapeCasts_S128_S1x128) (ix2 0 e) = _
    pointwise []
  unfold iblk
  refine Eq.trans (congrArg (V m c main_v0) (?_ : (((cfgA Ideal).win (1 : Fin 6)).rect t).emb (ix2 0 e) = ix2 0 e)) hv
  funext a
  fin_cases a
  · exact Fin.ext (((cfgA Ideal).win (1 : Fin 6)).rect_emb_val_of_index_zero t 0 rfl (ix2 0 e))
  · exact Fin.ext (((cfgA Ideal).win (1 : Fin 6)).rect_emb_val_of_index_zero t 1 rfl (ix2 0 e))

/-! ## What the body reads of its windows -/

theorem kb_eq (a : Memref sig .tc .vmem S512x128 .bf16) (x : S512x128.Idx → Elt Ideal .bf16) : kb a x = x := by
  unfold kb
  rw [View.readAt_eq_ld, View.read_rep]
  exact View.ld_unit_zero (by decide) _ _
theorem qb_eq (a : Memref sig .tc .vmem S512x256 .bf16) (x : S512x256.Idx → Elt Ideal .bf16) : qb a x = x := by
  unfold qb
  rw [View.readAt_eq_ld, View.read_rep]
  exact View.ld_unit_zero (by decide) _ _
theorem lb_eq (a : Memref sig .tc .vmem S4x64 .f32) (x : S4x64.Idx → Elt Ideal .f32) : lb a x = x := by
  unfold lb
  rw [View.readAt_eq_ld, View.read_rep]
  exact View.ld_unit_zero (by decide) _ _
theorem sb_eq (a : Memref sig .tc .vmem S1x128 .f32) (x : S1x128.Idx → Elt Ideal .f32) : sb a x = x := by
  unfold sb
  rw [View.readAt_eq_ld, View.read_rep]
  exact View.ld_unit_zero (by decide) _ _

end Cert.FlashAttn

end
-- ==== Proof.FlashSoft.lean ====
module

public import Idealize.ShloMosaic.Lib.Pointwise
public import proofs.«01_k».proof.Proof.Gen.KernelIdeal.Skeleton

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## One row of the running softmax, over the reals -/

/-- The exponential as a real number: `0` at `-∞`. -/
def eR (x : EReal) : ℝ := (Ideal.exp x).toReal

@[simp] theorem eR_bot : eR ⊥ = 0 := by simp [eR]
@[simp] theorem eR_coe (r : ℝ) : eR (r : EReal) = Real.exp r := by simp [eR]

theorem eR_nonneg (x : EReal) (hx : x ≠ ⊤) : 0 ≤ eR x := by
  induction x using EReal.rec with
  | bot => simp
  | coe r => simpa using (Real.exp_pos r).le
  | top => exact absurd rfl hx

/-- The weight of a score against a real maximum. -/
theorem exp_sub_real (x : EReal) (hx : x ≠ ⊤) (r : ℝ) : Ideal.exp (x - (r : EReal)) = ((eR x * Real.exp (-r) : ℝ) : EReal) := by
  induction x using EReal.rec with
  | bot => simp
  | coe s => rw [← EReal.coe_sub, Ideal.exp_coe, eR_coe, ← Real.exp_add, sub_eq_add_neg]
  | top => exact absurd rfl hx

theorem coe_sum' {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A row's maximum is below `+∞` and its sums, rescaled, are the real sums so far. -/
def RowOK (M : EReal) (A : Fin 256 → EReal) (N : Fin 256 → ℝ) : Prop :=
  M ≠ ⊤ ∧ ∃ a : Fin 256 → ℝ, (∀ e, A e = (a e : EReal)) ∧ ∀ e, eR M * a e = N e

theorem rowOK_start : RowOK ⊥ (fun _ => 0) (fun _ => 0) := ⟨by simp, fun _ => 0, by simp, by simp⟩

theorem max_real {n : ℕ} (M : EReal) (hM : M ≠ ⊤) (T : Fin n → EReal) (hT : ∀ k, T k ≠ ⊤) (k0 : Fin n) (hk : T k0 ≠ ⊥) :
    ∃ r : ℝ, max M (Finset.univ.fold max ⊥ T) = (r : EReal) := by
  have h1 : max M (Finset.univ.fold max ⊥ T) < ⊤ :=
    max_lt (lt_top_iff_ne_top.mpr hM) ((Finset.fold_max_lt (s := Finset.univ) (f := T) (b := ⊥) ⊤).mpr ⟨bot_lt_top, fun k _ => lt_top_iff_ne_top.mpr (hT k)⟩)
  have h2 : ⊥ < max M (Finset.univ.fold max ⊥ T) :=
    lt_of_lt_of_le (bot_lt_iff_ne_bot.mpr hk) (le_max_of_le_right ((Finset.le_fold_max (s := Finset.univ) (f := T) (b := ⊥) (T k0)).mpr (Or.inr ⟨k0, Finset.mem_univ _, le_rfl⟩)))
  exact ⟨_, (EReal.coe_toReal h1.ne h2.ne').symm⟩

theorem row_step {M : EReal} {A : Fin 256 → EReal} {N : Fin 256 → ℝ} (h : RowOK M A N) (T : Fin 512 → EReal) (hT : ∀ k, T k ≠ ⊤)
    (k0 : Fin 512) (hk : T k0 ≠ ⊥) (v : Fin 512 → Fin 256 → ℝ) (V : Fin 512 → Fin 256 → EReal) (hV : ∀ k e, V k e = (v k e : EReal)) (NM : EReal) (hNM : NM = max M (Finset.univ.fold max ⊥ T))
    (A' : Fin 256 → EReal) (hA' : ∀ e, A' e = Ideal.exp (M - NM) * A e + ∑ k, Ideal.exp (T k - NM) * V k e) :
    RowOK NM A' (fun e => N e + ∑ k, eR (T k) * v k e) := by
  obtain ⟨r, hr⟩ := max_real M h.1 T hT k0 hk
  obtain ⟨hM, a, ha, hN⟩ := h
  rw [hr] at hNM
  subst hNM
  refine ⟨by simp, fun e => eR M * Real.exp (-r) * a e + ∑ k, eR (T k) * Real.exp (-r) * v k e, fun e => ?_, fun e => ?_⟩
  · rw [hA', ha, exp_sub_real M hM]
    simp only [exp_sub_real _ (hT _), hV, ← EReal.coe_mul, ← EReal.coe_add, ← coe_sum']
  · have hx : Real.exp r * Real.exp (-r) = 1 := by rw [← Real.exp_add]; simp
    show _ = N e + ∑ k, eR (T k) * v k e
    rw [eR_coe, mul_add, Finset.mul_sum, ← hN e]
    congr 1
    · calc Real.exp r * (eR M * Real.exp (-r) * a e) = (Real.exp r * Real.exp (-r)) * (eR M * a e) := by ring
        _ = _ := by rw [hx, one_mul]
    · refine Finset.sum_congr rfl fun k _ => ?_
      calc Real.exp r * (eR (T k) * Real.exp (-r) * v k e) = (Real.exp r * Real.exp (-r)) * (eR (T k) * v k e) := by ring
        _ = _ := by rw [hx, one_mul]

/-- The quotient of two sums of a finished row is the quotient of the real sums. -/
theorem row_div {M : EReal} {A : Fin 256 → EReal} {N : Fin 256 → ℝ} (h : RowOK M A N) (e d : Fin 256) (hd : N d ≠ 0) :
    Ideal.div (A e) (A d) = ((N e / N d : ℝ) : EReal) := by
  obtain ⟨hT, a, ha, hN⟩ := h
  have had : a d ≠ 0 := fun h0 => hd (by rw [← hN d, h0, mul_zero])
  have hm : eR M ≠ 0 := fun h0 => hd (by rw [← hN d, h0, zero_mul])
  rw [ha, ha, Ideal.div_coe had, ← EReal.coe_mul, ← hN, ← hN]
  congr 1
  field_simp

end Cert.FlashAttn

end
-- ==== Proof.FlashMath.lean ====
module

public import Idealize.ShloMosaic.Lib.Pointwise
public import proofs.«01_k».proof.Proof.FlashState
public import proofs.«01_k».proof.Proof.FlashSoft

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The attention of one row, over the whole arrays -/

/-- An extended real that is a real. -/
def IsR (x : EReal) : Prop := ∃ r : ℝ, x = (r : EReal)

theorem IsR.coe (r : ℝ) : IsR (r : EReal) := ⟨r, rfl⟩
theorem IsR.mul {x y : EReal} : IsR x → IsR y → IsR (x * y) := fun ⟨a, ha⟩ ⟨b, hb⟩ => ⟨a * b, by rw [ha, hb, EReal.coe_mul]⟩
theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.exp {x : EReal} : IsR x → IsR (Ideal.exp x) := fun ⟨a, ha⟩ => ⟨Real.exp a, by rw [ha, Ideal.exp_coe]⟩
theorem IsR.sum {ι : Type} (s : Finset ι) (f : ι → EReal) (h : ∀ i, IsR (f i)) : IsR (∑ i ∈ s, f i) :=
  ⟨∑ i ∈ s, (h i).choose, by rw [coe_sum']; exact Finset.sum_congr rfl fun i _ => (h i).choose_spec⟩
theorem IsR.eq {x : EReal} : IsR x → x = (x.toReal : EReal) := fun ⟨a, ha⟩ => by rw [ha, EReal.toReal_coe]
theorem IsR.ne_top {x : EReal} : IsR x → x ≠ ⊤ := fun ⟨a, ha⟩ => by rw [ha]; exact EReal.coe_ne_top a
theorem IsR.ne_bot {x : EReal} : IsR x → x ≠ ⊥ := fun ⟨a, ha⟩ => by rw [ha]; exact EReal.coe_ne_bot a

abbrev AQ : Type := (⟨2, ![16384, 1024]⟩ : Shape).Idx → EReal
abbrev AK : Type := (⟨2, ![16384, 512]⟩ : Shape).Idx → EReal

/-- The score of one query against one key. -/
def sc (Q : AQ) (K : AK) (b h : Fin 4) (g c : Fin 2) (p k : Fin 4096) : EReal :=
  ∑ d : Fin 64, K (ix2 ⟨b.val * 4096 + k.val, by omega⟩ ⟨h.val * 128 + c.val * 64 + d.val, by omega⟩)
    * Q (ix2 ⟨b.val * 4096 + p.val, by omega⟩ ⟨h.val * 256 + g.val * 128 + c.val * 64 + d.val, by omega⟩)

/-- The score, `-∞` at a key after the query. -/
def ms (Q : AQ) (K : AK) (b h : Fin 4) (g c : Fin 2) (p k : Fin 4096) : EReal := if k.val ≤ p.val then sc Q K b h g c p k else ⊥

/-- The value summed: the value array's entry, or one for the lanes that count. -/
def vv (W : AK) (b h : Fin 4) (k : Fin 4096) (e : Fin 256) : EReal :=
  if he : e.val < 128 then W (ix2 ⟨b.val * 4096 + k.val, by omega⟩ ⟨h.val * 128 + e.val, by omega⟩) else 1

/-- One key's share of a sum. -/
def gk (Q : AQ) (K W : AK) (b h : Fin 4) (g c : Fin 2) (p : Fin 4096) (e : Fin 256) (k : ℕ) : ℝ :=
  if hk : k < 4096 then eR (ms Q K b h g c p ⟨k, hk⟩) * (vv W b h ⟨k, hk⟩ e).toReal else 0

/-- A sum over all keys. -/
def NN (Q : AQ) (K W : AK) (b h : Fin 4) (g c : Fin 2) (p : Fin 4096) (e : Fin 256) : ℝ := ∑ k ∈ Finset.range 4096, gk Q K W b h g c p e k

theorem sc_real {Q : AQ} {K : AK} (hQ : ∀ i, IsR (Q i)) (hK : ∀ i, IsR (K i)) (b h g c p k) : IsR (sc Q K b h g c p k) :=
  IsR.sum _ _ fun _ => (hK _).mul (hQ _)
theorem ms_ne_top {Q : AQ} {K : AK} (hQ : ∀ i, IsR (Q i)) (hK : ∀ i, IsR (K i)) (b h g c p k) : ms Q K b h g c p k ≠ ⊤ := by
  unfold ms; split_ifs
  · exact (sc_real hQ hK b h g c p k).ne_top
  · simp
theorem ms_ne_bot {Q : AQ} {K : AK} (hQ : ∀ i, IsR (Q i)) (hK : ∀ i, IsR (K i)) (b h g c) {p k : Fin 4096} (hk : k.val ≤ p.val) : ms Q K b h g c p k ≠ ⊥ := by
  unfold ms; rw [if_pos hk]; exact (sc_real hQ hK b h g c p k).ne_bot
theorem vv_real {W : AK} (hW : ∀ i, IsR (W i)) (b h k e) : IsR (vv W b h k e) := by
  unfold vv; split_ifs
  · exact hW _
  · exact ⟨1, by simp⟩

theorem gk_after {Q : AQ} {K W : AK} (b h g c) (p : Fin 4096) (e : Fin 256) (k : ℕ) (hk : p.val < k) : gk Q K W b h g c p e k = 0 := by
  unfold gk; split_ifs with h
  · unfold ms; rw [if_neg (by simpa using hk)]; simp
  · rfl

/-- The keys after the query add nothing. -/
theorem NN_eq {Q : AQ} {K W : AK} (b h g c) (p : Fin 4096) (e : Fin 256) (n : ℕ) (hn : n ≤ 4096) (hp : p.val < n) :
    ∑ k ∈ Finset.range n, gk Q K W b h g c p e k = NN Q K W b h g c p e :=
  Finset.sum_subset (fun x hx => Finset.mem_range.mpr (lt_of_lt_of_le (Finset.mem_range.mp hx) hn))
    fun x _ hx => gk_after b h g c p e x (by have := Finset.mem_range.not.mp hx; omega)

/-- The lanes that count give a positive sum. -/
theorem NN_pos {Q : AQ} {K W : AK} (hQ : ∀ i, IsR (Q i)) (hK : ∀ i, IsR (K i)) (b h g c) (p : Fin 4096) (e : Fin 256) (he : ¬ e.val < 128) : 0 < NN Q K W b h g c p e := by
  have hv : ∀ k, vv W b h k e = 1 := fun k => by unfold vv; rw [dif_neg he]
  refine Finset.sum_pos' (fun k _ => ?_) ⟨p.val, Finset.mem_range.mpr p.isLt, ?_⟩
  · unfold gk; split_ifs with hk
    · rw [hv]; simpa using eR_nonneg _ (ms_ne_top hQ hK b h g c p _)
    · exact le_rfl
  · unfold gk; rw [dif_pos p.isLt, hv]
    unfold ms; rw [if_pos le_rfl]
    obtain ⟨r, hr⟩ := sc_real hQ hK b h g c p p
    rw [hr]; simpa using Real.exp_pos r

/-- All the lanes that count agree. -/
theorem NN_den {Q : AQ} {K W : AK} (b h g c) (p : Fin 4096) (e d : Fin 256) (he : ¬ e.val < 128) (hd : ¬ d.val < 128) : NN Q K W b h g c p e = NN Q K W b h g c p d := by
  unfold NN gk vv; simp only [dif_neg he, dif_neg hd]

/-- The two attentions' difference at one lane. -/
def DD (Q : AQ) (K W : AK) (lam : EReal) (b h : Fin 4) (g : Fin 2) (p : Fin 4096) (e : Fin 128) : EReal :=
  ((NN Q K W b h g 0 p ⟨e.val, by omega⟩ / NN Q K W b h g 0 p ⟨128, by omega⟩ : ℝ) : EReal)
    - lam * ((NN Q K W b h g 1 p ⟨e.val, by omega⟩ / NN Q K W b h g 1 p ⟨128, by omega⟩ : ℝ) : EReal)

/-- The result, entry by entry. -/
def OO (Q : AQ) (K W : AK) (lq : (⟨2, ![4, 64]⟩ : Shape).Idx → EReal) (sub : (⟨1, ![128]⟩ : Shape).Idx → EReal) (i : (⟨2, ![16384, 1024]⟩ : Shape).Idx) : EReal :=
  outK (DD Q K W (lamK lq) ⟨(i 0).val / 4096, by have h : (i 0).val < 16384 := (i 0).isLt; omega⟩ ⟨(i 1).val / 256, by have h : (i 1).val < 1024 := (i 1).isLt; omega⟩
      ⟨(i 1).val % 256 / 128, by omega⟩ ⟨(i 0).val % 4096, by omega⟩) (fun e => sub (ix1 e)) ⟨(i 1).val % 128, by omega⟩

/-! ## One block of keys -/

/-- A sum over the lanes of one half. -/
theorem half_sum (c : Fin 2) (f : Fin 128 → EReal) : (∑ d : Fin 128, if d.val / 64 = c.val then f d else 0) = ∑ d : Fin 64, f ⟨c.val * 64 + d.val, by omega⟩ := by
  rw [show (∑ d : Fin 128, if d.val / 64 = c.val then f d else 0)
      = ∑ d : Fin (64 + 64), (fun d : Fin 128 => if d.val / 64 = c.val then f d else 0) d from rfl, Fin.sum_univ_add]
  obtain rfl | rfl : c = 0 ∨ c = 1 := by omega
  · rw [Finset.sum_eq_zero (s := Finset.univ) (f := fun d : Fin 64 => (fun d : Fin 128 => if d.val / 64 = (0 : Fin 2).val then f d else 0) (Fin.natAdd 64 d))
      fun d _ => if_neg (by show ¬ (64 + d.val) / 64 = 0; omega), add_zero]
    exact Finset.sum_congr rfl fun d _ => (if_pos (by show d.val / 64 = 0; omega)).trans (congrArg f (Fin.ext (by show d.val = 0 * 64 + d.val; omega)))
  · rw [Finset.sum_eq_zero (s := Finset.univ) (f := fun d : Fin 64 => (fun d : Fin 128 => if d.val / 64 = (1 : Fin 2).val then f d else 0) (Fin.castAdd 64 d))
      fun d _ => if_neg (by show ¬ d.val / 64 = 1; omega), zero_add]
    exact Finset.sum_congr rfl fun d _ => (if_pos (by show (64 + d.val) / 64 = 1; omega)).trans (congrArg f (Fin.ext (by show 64 + d.val = 1 * 64 + d.val; omega)))

theorem mIx_rowIx (c : Fin 2) (ρ : Fin 1024) (k : Fin 512) : mIx (rowIx c ρ k) = ix3 c ρ 0 := by
  refine (congrArg₂ (fun a b => (ix3 a b 0 : S2x1024x1.Idx)) (Fin.ext ?_) (Fin.ext ?_) : ix3 _ _ 0 = ix3 c ρ 0)
  · show (ρ.val / 512 * 2 + c.val) % 2 = c.val; omega
  · show (ρ.val / 512 * 2 + c.val) / 2 * 512 + ρ.val % 512 = ρ.val; omega

/-- A block of queries and a block of keys, as parts of the arrays. -/
def IsQ (Q : AQ) (b h : Fin 4) (qi : Fin 8) (X : S512x256.Idx → EReal) : Prop :=
  ∀ (r : Fin 512) (j : Fin 256), X (ix2 r j) = Q (ix2 ⟨(b.val * 8 + qi.val) * 512 + r.val, by omega⟩ ⟨h.val * 256 + j.val, by omega⟩)
def IsK (K : AK) (b h : Fin 4) (ki : Fin 8) (X : S512x128.Idx → EReal) : Prop :=
  ∀ (r : Fin 512) (j : Fin 128), X (ix2 r j) = K (ix2 ⟨(b.val * 8 + ki.val) * 512 + r.val, by omega⟩ ⟨h.val * 128 + j.val, by omega⟩)

/-- The query of a row, and the key of a column. -/
abbrev pQ (qi : Fin 8) (ρ : Fin 1024) : Fin 4096 := ⟨qi.val * 512 + ρ.val % 512, by omega⟩
abbrev pK (ki : Fin 8) (k : Fin 512) : Fin 4096 := ⟨ki.val * 512 + k.val, by omega⟩
abbrev gQ (ρ : Fin 1024) : Fin 2 := ⟨ρ.val / 512, by omega⟩

theorem Sc_eq {Q : AQ} {K : AK} {b h : Fin 4} {qi ki : Fin 8} {X : S512x256.Idx → EReal} {Y : S512x128.Idx → EReal} (hX : IsQ Q b h qi X) (hY : IsK K b h ki Y)
    (c : Fin 2) (ρ : Fin 1024) (k : Fin 512) : Sc (Qs X) Y (rowIx c ρ k) = sc Q K b h (gQ ρ) c (pQ qi ρ) (pK ki k) := by
  have e0 : ∀ d : Fin 128, (ix3 ⟨(ρ.val / 512 * 2 + c.val) % 2, by omega⟩ ⟨(ρ.val / 512 * 2 + c.val) / 2 * 512 + ρ.val % 512, by omega⟩ d : S2x1024x128.Idx) = ix3 c ρ d := fun d =>
    congrArg₂ (fun a b => (ix3 a b d : S2x1024x128.Idx)) (Fin.ext (by show (ρ.val / 512 * 2 + c.val) % 2 = c.val; omega))
      (Fin.ext (by show (ρ.val / 512 * 2 + c.val) / 2 * 512 + ρ.val % 512 = ρ.val; omega))
  have e1 : Sc (Qs X) Y (rowIx c ρ k) = ∑ d : Fin 128, if d.val / 64 = c.val then
      (fun d : Fin 128 => Y (ix2 k d) * X (ix2 ⟨ρ.val % 512, by omega⟩ ⟨ρ.val / 512 * 128 + d.val, by omega⟩)) d else 0 := by
    refine Finset.sum_congr rfl fun d _ => ?_
    refine (congrArg (fun i => Qs X i * Y (ix2 k d)) (e0 d)).trans ?_
    unfold Qs
    show (if d.val / 64 = c.val then _ else _) * Y (ix2 k d) = _
    split_ifs
    · exact mul_comm _ _
    · exact zero_mul _
  rw [e1, half_sum]
  refine Finset.sum_congr rfl fun d _ => ?_
  show Y _ * X _ = _
  rw [hX, hY]
  refine congrArg₂ (· * ·) (congrArg K (congrArg₂ ix2 (Fin.ext ?_) (Fin.ext ?_))) (congrArg Q (congrArg₂ ix2 (Fin.ext ?_) (Fin.ext ?_)))
  · show (b.val * 8 + ki.val) * 512 + k.val = b.val * 4096 + (ki.val * 512 + k.val); omega
  · show h.val * 128 + (c.val * 64 + d.val) = h.val * 128 + c.val * 64 + d.val; omega
  · show (b.val * 8 + qi.val) * 512 + ρ.val % 512 = b.val * 4096 + (qi.val * 512 + ρ.val % 512); omega
  · show h.val * 256 + (ρ.val / 512 * 128 + (c.val * 64 + d.val)) = h.val * 256 + ρ.val / 512 * 128 + c.val * 64 + d.val; omega

theorem low_eq {Q : AQ} {K : AK} {b h : Fin 4} {qi ki : Fin 8} {X : S512x256.Idx → EReal} {Y : S512x128.Idx → EReal} (hX : IsQ Q b h qi X) (hY : IsK K b h ki Y) (hlt : ki.val < qi.val)
    (c : Fin 2) (ρ : Fin 1024) (k : Fin 512) : Sc (Qs X) Y (rowIx c ρ k) = ms Q K b h (gQ ρ) c (pQ qi ρ) (pK ki k) := by
  rw [Sc_eq hX hY]; unfold ms; rw [if_pos (by show ki.val * 512 + k.val ≤ qi.val * 512 + ρ.val % 512; omega)]
theorem diag_eq {Q : AQ} {K : AK} {b h : Fin 4} {qi ki : Fin 8} {X : S512x256.Idx → EReal} {Y : S512x128.Idx → EReal} (hX : IsQ Q b h qi X) (hY : IsK K b h ki Y) (heq : ki.val = qi.val)
    (c : Fin 2) (ρ : Fin 1024) (k : Fin 512) : msk (Sc (Qs X) Y) (rowIx c ρ k) = ms Q K b h (gQ ρ) c (pQ qi ρ) (pK ki k) := by
  unfold msk ms; rw [Sc_eq hX hY]
  exact if_congr (by show k.val ≤ ρ.val % 512 ↔ ki.val * 512 + k.val ≤ qi.val * 512 + ρ.val % 512; omega) rfl rfl

/-- The rows' maxima and sums over the first `n` keys. -/
def Rows (Q : AQ) (K W : AK) (b h : Fin 4) (qi : Fin 8) (n : ℕ) (M : S2x1024x1.Idx → EReal) (A : S2x1024x256.Idx → EReal) : Prop :=
  ∀ (c : Fin 2) (ρ : Fin 1024), RowOK (M (ix3 c ρ 0)) (fun e => A (ix3 c ρ e)) (fun e => ∑ k ∈ Finset.range n, gk Q K W b h (gQ ρ) c (pQ qi ρ) e k)

theorem rows_zero (Q : AQ) (K W : AK) (b h : Fin 4) (qi : Fin 8) : Rows Q K W b h qi 0 (fun _ => ⊥) (fun _ => 0) := fun _ _ => by
  simpa using rowOK_start

theorem rows_step {Q : AQ} {K W : AK} (hQ : ∀ i, IsR (Q i)) (hK : ∀ i, IsR (K i)) (hW : ∀ i, IsR (W i)) {b h : Fin 4} {qi ki : Fin 8} (hle : ki.val ≤ qi.val)
    {T : S4x512x512.Idx → EReal} (hT : ∀ c ρ k, T (rowIx c ρ k) = ms Q K b h (gQ ρ) c (pQ qi ρ) (pK ki k)) {Z : S512x128.Idx → EReal} (hZ : IsK W b h ki Z)
    {M : S2x1024x1.Idx → EReal} {A : S2x1024x256.Idx → EReal} (hR : Rows Q K W b h qi (ki.val * 512) M A) :
    Rows Q K W b h qi (ki.val * 512 + 512) (newM T M) (newA T M A Z) := fun c ρ => by
  have hv : ∀ (k : Fin 512) (e : Fin 256), Vx Z k e = ((vv W b h (pK ki k) e).toReal : EReal) := fun k e => by
    rw [← (vv_real hW b h (pK ki k) e).eq]
    unfold Vx vv
    split_ifs with he
    · rw [hZ]
      exact congrArg W (congrArg₂ ix2 (Fin.ext (by show (b.val * 8 + ki.val) * 512 + k.val = b.val * 4096 + (ki.val * 512 + k.val); omega)) rfl)
    · rfl
  have hst := row_step (hR c ρ) (fun k => T (rowIx c ρ k)) (fun k => by rw [hT]; exact ms_ne_top hQ hK _ _ _ _ _ _) 0
    (by rw [hT]; exact ms_ne_bot hQ hK _ _ _ _ (by show ki.val * 512 + 0 ≤ qi.val * 512 + ρ.val % 512; omega))
    (fun k e => (vv W b h (pK ki k) e).toReal) (fun k e => Vx Z k e) hv (newM T M (ix3 c ρ 0)) rfl (fun e => newA T M A Z (ix3 c ρ e))
    (fun e => by
      unfold newA Pw
      refine congrArg₂ (· + ·) rfl (Finset.sum_congr rfl fun k _ => ?_)
      exact congrArg (fun i => Ideal.exp (T (rowIx c ρ k) - newM T M i) * Vx Z k e) (mIx_rowIx c ρ k))
  have e : (fun e => ∑ k ∈ Finset.range (ki.val * 512 + 512), gk Q K W b h (gQ ρ) c (pQ qi ρ) e k)
      = fun e => (∑ k ∈ Finset.range (ki.val * 512), gk Q K W b h (gQ ρ) c (pQ qi ρ) e k) + ∑ k : Fin 512, eR (T (rowIx c ρ k)) * (vv W b h (pK ki k) e).toReal := by
    funext e
    rw [Finset.sum_range_add, Finset.sum_range (n := 512)]
    refine congrArg₂ (· + ·) rfl (Finset.sum_congr rfl fun k _ => ?_)
    rw [hT]; unfold gk; rw [dif_pos (by omega)]
  rw [e]; exact hst

/-- What the last block leaves is the result. -/
theorem rows_out {Q : AQ} {K W : AK} (hQ : ∀ i, IsR (Q i)) (hK : ∀ i, IsR (K i)) {b h : Fin 4} {qi : Fin 8} {M : S2x1024x1.Idx → EReal} {A : S2x1024x256.Idx → EReal}
    (hR : Rows Q K W b h qi (qi.val * 512 + 512) M A) (lam : EReal) (ρ : Fin 1024) (e : Fin 128) : difK lam A ρ e = DD Q K W lam b h (gQ ρ) (pQ qi ρ) e := by
  have hc : ∀ c : Fin 2, Ideal.div (A (ix3 c ρ ⟨e.val, by omega⟩)) (A (ix3 c ρ ⟨128 + e.val, by omega⟩))
      = ((NN Q K W b h (gQ ρ) c (pQ qi ρ) ⟨e.val, by omega⟩ / NN Q K W b h (gQ ρ) c (pQ qi ρ) ⟨128, by omega⟩ : ℝ) : EReal) := fun c => by
    have hn : ∀ e, ∑ k ∈ Finset.range (qi.val * 512 + 512), gk Q K W b h (gQ ρ) c (pQ qi ρ) e k = NN Q K W b h (gQ ρ) c (pQ qi ρ) e := fun e =>
      NN_eq b h (gQ ρ) c (pQ qi ρ) e _ (by omega) (by show qi.val * 512 + ρ.val % 512 < _; omega)
    have hd : ¬ (⟨128 + e.val, by omega⟩ : Fin 256).val < 128 := by simp
    have h1 := hR c ρ
    simp only [hn] at h1
    rw [← NN_den b h (gQ ρ) c (pQ qi ρ) (⟨128 + e.val, by omega⟩ : Fin 256) ⟨128, by omega⟩ hd (by simp)]
    exact row_div h1 ⟨e.val, by omega⟩ ⟨128 + e.val, by omega⟩ (NN_pos hQ hK b h _ c _ _ hd).ne'
  unfold difK DD
  rw [hc 0, hc 1]

end Cert.FlashAttn

end
-- ==== Proof.FlashTraj.lean ====
module

public import Idealize.ShloMosaic.Lib.Pointwise
public import Idealize.ShloMosaic.Lib.Pipeline.ValueKit
public import proofs.«01_k».proof.Proof.FlashBlk
public import proofs.«01_k».proof.Proof.FlashMath

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The running softmax along a row of blocks -/

abbrev fb (t : Fin (cfgA Ideal).N) : Fin 4 := ⟨tb t, tb_lt t⟩
abbrev fh (t : Fin (cfgA Ideal).N) : Fin 4 := ⟨th t, th_lt t⟩
abbrev fq (t : Fin (cfgA Ideal).N) : Fin 8 := ⟨tq t, tq_lt t⟩
abbrev fk (t : Fin (cfgA Ideal).N) : Fin 8 := ⟨tk t, tk_lt t⟩

abbrev aQ (c : Dev nD) : AQ := m ((c.tc : Thread nD τ).loc main_arg0)
abbrev aK (c : Dev nD) : AK := m ((c.tc : Thread nD τ).loc main_arg1)
abbrev aW (c : Dev nD) : AK := m ((c.tc : Thread nD τ).loc main_arg2)

theorem isQ (c : Dev nD) (t : Fin (cfgA Ideal).N) : IsQ (aQ m c) (fb t) (fh t) (fq t) (iblk m c (2 : Fin 6) t) := fun r j => blk2 m c t r j
theorem isK (c : Dev nD) (t : Fin (cfgA Ideal).N) : IsK (aK m c) (fb t) (fh t) (fk t) (iblk m c (3 : Fin 6) t) := fun r j => blk3 m c t r j
theorem isW (c : Dev nD) (t : Fin (cfgA Ideal).N) : IsK (aW m c) (fb t) (fh t) (fk t) (iblk m c (4 : Fin 6) t) := fun r j => blk4 m c t r j

/-- A block of keys that is not the first follows the one before it. -/
theorem kq_pred : ∀ x : Fin 36, kOf x.val ≠ 0 → x.val ≠ 0 ∧ qOf (x.val - 1) = qOf x.val ∧ kOf (x.val - 1) + 1 = kOf x.val := by decide

theorem pred_point (t : Fin (cfgA Ideal).N) (h : ¬ PS Ideal t) : ∃ u : Fin (cfgA Ideal).N, u.val + 1 = t.val ∧ PL Ideal u ∧ tb u = tb t ∧ th u = th t ∧ tq u = tq t ∧ tk u + 1 = tk t := by
  have ht : t.val < 576 := t.isLt
  have hk : kOf (t.val % 36) ≠ 0 := fun e => h ((facts (F := Ideal) t).1.mpr e)
  obtain ⟨h0, h1, h2⟩ := kq_pred ⟨t.val % 36, by omega⟩ hk
  simp only at h0 h1 h2
  have e36 : (t.val - 1) % 36 = t.val % 36 - 1 := by omega
  refine ⟨⟨t.val - 1, by show t.val - 1 < 576; omega⟩, by show t.val - 1 + 1 = t.val; omega, ?_, ?_, ?_, ?_, ?_⟩
  · refine (facts (F := Ideal) _).2.1.mpr ?_
    show kOf ((t.val - 1) % 36) < qOf ((t.val - 1) % 36)
    rw [e36, h1]
    have := (facts (F := Ideal) t).2.2.2.2.2.1
    omega
  · show (t.val - 1) / 144 = t.val / 144; omega
  · show (t.val - 1) / 36 % 4 = t.val / 36 % 4; omega
  · show qOf ((t.val - 1) % 36) = qOf (t.val % 36); rw [e36, h1]
  · show kOf ((t.val - 1) % 36) + 1 = kOf (t.val % 36); rw [e36, h2]

/-- What holds when a point's update begins. -/
def Inv (c : Dev nD) (t : Fin (cfgA Ideal).N) (s : St Ideal c) : Prop :=
  s.1 = Qs (iblk m c (2 : Fin 6) t) ∧ Rows (aQ m c) (aK m c) (aW m c) (fb t) (fh t) (fq t) (tk t * 512) s.2.1 s.2.2

/-- The queries' block is the same along the row. -/
theorem iblk2_congr (c : Dev nD) (t u : Fin (cfgA Ideal).N) (hb : tb u = tb t) (hh : th u = th t) (hq : tq u = tq t) :
    (iblk m c (2 : Fin 6) u : S512x256.Idx → EReal) = iblk m c (2 : Fin 6) t := funext fun y => by
  obtain ⟨r, j, rfl⟩ : ∃ r j, y = ix2 r j := ⟨_, _, eq_ix2 y⟩
  rw [blk2, blk2]
  refine congrArg (m ((c.tc : Thread nD τ).loc main_arg0)) (congrArg₂ ix2 (Fin.ext ?_) (Fin.ext ?_))
  · show (tb u * 8 + tq u) * 512 + r.val = (tb t * 8 + tq t) * 512 + r.val; rw [hb, hq]
  · show th u * 256 + j.val = th t * 256 + j.val; rw [hh]

variable (c : Dev nD) (hQ : ∀ i, IsR (aQ m c i)) (hK : ∀ i, IsR (aK m c i)) (hW : ∀ i, IsR (aW m c i))
include hQ hK hW

theorem traj_inv (n : ℕ) : ∀ t : Fin (cfgA Ideal).N, t.val = n → Inv m c t (startS m c t (trajS m c t.val)) := by
  induction n using Nat.strong_induction_on with
  | _ n ih =>
    intro t ht
    by_cases hs : PS Ideal t
    · unfold startS
      rw [if_pos hs, initS_val, qb_eq]
      refine ⟨rfl, ?_⟩
      have e : tk t * 512 = 0 := by rw [show tk t = 0 from (facts (F := Ideal) t).1.mp hs]
      rw [e]
      exact rows_zero _ _ _ _ _ _
    · obtain ⟨u, hu, hl, hb, hh, hq, hk⟩ := pred_point t hs
      obtain ⟨i1, i2⟩ := ih u.val (by omega) u rfl
      unfold startS
      rw [if_neg hs, ← hu, trajS_succ, stepS_low m c u _ hl, updS_val, kb_eq, kb_eq]
      refine ⟨i1.trans (congrArg Qs (iblk2_congr m c t u hb hh hq)), ?_⟩
      have e1 : fb u = fb t := Fin.ext hb
      have e2 : fh u = fh t := Fin.ext hh
      have e3 : fq u = fq t := Fin.ext hq
      have e4 : tk t * 512 = tk u * 512 + 512 := by rw [← hk]; omega
      rw [e4, ← e1, ← e2, ← e3]
      have hlt : (fk u).val < (fq u).val := (facts (F := Ideal) u).2.1.mp hl
      refine rows_step hQ hK hW hlt.le (fun cc ρ k => ?_) (isW m c u) i2
      rw [i1]
      exact low_eq (isQ m c u) (isK m c u) hlt cc ρ k

/-- What a point on the diagonal writes. -/
theorem outT_eq (t : Fin (cfgA Ideal).N) (hd : tk t = tq t) (y : S512x256.Idx) :
    (outT m c t : S512x256.Idx → EReal) y
      = OO (aQ m c) (aK m c) (aW m c) (m ((c.tc : Thread nD τ).loc main_arg3)) (m ((c.tc : Thread nD τ).loc main_arg4))
          (ix2 (rowOf t (tq t) (tq_lt t) (y 0)) ⟨th t * 256 + (y 1).val, by have := th_lt t; have h : (y 1).val < 256 := (y 1).isLt; omega⟩) := by
  obtain ⟨i1, i2⟩ := traj_inv m c hQ hK hW t.val t rfl
  unfold outT
  rw [outV_val, kb_eq, kb_eq, lb_eq, sb_eq, blk0]
  have hr := rows_step hQ hK hW (le_of_eq hd) (T := msk (Sc (startS m c t (trajS m c t.val)).1 (iblk m c (3 : Fin 6) t))) (b := fb t) (h := fh t) (qi := fq t) (ki := fk t)
    (fun cc ρ k => by rw [i1]; exact diag_eq (isQ m c t) (isK m c t) hd cc ρ k) (isW m c t) i2
  have hsub : (fun e => (iblk m c (1 : Fin 6) t : S1x128.Idx → EReal) (ix2 0 e)) = fun e => (m ((c.tc : Thread nD τ).loc main_arg4) : S128.Idx → EReal) (ix1 e) := funext fun e => blk1 m c t e
  have e0 : (fk t).val * 512 + 512 = (fq t).val * 512 + 512 := by rw [show (fk t).val = (fq t).val from hd]
  rw [e0] at hr
  have h0 : (y 0).val < 512 := (y 0).isLt
  have h1 : (y 1).val < 256 := (y 1).isLt
  have hD := fun e => rows_out hQ hK hr (lamK (m ((c.tc : Thread nD τ).loc main_arg3))) ⟨(y 1).val / 128 * 512 + (y 0).val, by omega⟩ e
  unfold blkK
  have hb := tb_lt t
  have hh := th_lt t
  have hq := tq_lt t
  rw [hsub, funext hD]
  unfold OO
  have k1 : fb t = (⟨((tb t * 8 + tq t) * 512 + (y 0).val) / 4096, by omega⟩ : Fin 4) := Fin.ext (by show tb t = _ / 4096; omega)
  have k2 : fh t = (⟨(th t * 256 + (y 1).val) / 256, by omega⟩ : Fin 4) := Fin.ext (by show th t = _ / 256; omega)
  have k3 : gQ ⟨(y 1).val / 128 * 512 + (y 0).val, by omega⟩ = (⟨(th t * 256 + (y 1).val) % 256 / 128, by omega⟩ : Fin 2) :=
    Fin.ext (by show ((y 1).val / 128 * 512 + (y 0).val) / 512 = (th t * 256 + (y 1).val) % 256 / 128; omega)
  have k4 : pQ (fq t) ⟨(y 1).val / 128 * 512 + (y 0).val, by omega⟩ = (⟨((tb t * 8 + tq t) * 512 + (y 0).val) % 4096, by omega⟩ : Fin 4096) :=
    Fin.ext (by show tq t * 512 + ((y 1).val / 128 * 512 + (y 0).val) % 512 = ((tb t * 8 + tq t) * 512 + (y 0).val) % 4096; omega)
  have k5 : (⟨(y 1).val % 128, by omega⟩ : Fin 128) = ⟨(th t * 256 + (y 1).val) % 128, by omega⟩ := Fin.ext (by show (y 1).val % 128 = (th t * 256 + (y 1).val) % 128; omega)
  have k6 : (fun e => DD (aQ m c) (aK m c) (aW m c) (lamK (m ((c.tc : Thread nD τ).loc main_arg3))) (fb t) (fh t) (gQ ⟨(y 1).val / 128 * 512 + (y 0).val, by omega⟩) (pQ (fq t) ⟨(y 1).val / 128 * 512 + (y 0).val, by omega⟩) e)
      = DD (aQ m c) (aK m c) (aW m c) (lamK (m ((c.tc : Thread nD τ).loc main_arg3))) ⟨((tb t * 8 + tq t) * 512 + (y 0).val) / 4096, by omega⟩ ⟨(th t * 256 + (y 1).val) / 256, by omega⟩
          ⟨(th t * 256 + (y 1).val) % 256 / 128, by omega⟩ ⟨((tb t * 8 + tq t) * 512 + (y 0).val) % 4096, by omega⟩ := by
    rw [k1, k2, k3, k4]
  exact congrArg₂ (fun D e => outK D (fun e => (m ((c.tc : Thread nD τ).loc main_arg4) : S128.Idx → EReal) (ix1 e)) e) k6 k5

omit hQ hK hW in
/-- The blocks written back tile the result. -/
theorem covers5 : ((cfgA Ideal).win (5 : Fin 6)).Covers :=
  (show ((cfgA Bits).win (5 : Fin 6)).Covers by decide +kernel)

/-- What the block written back at a point holds, at its place in the result. -/
theorem flush_at (t : Fin (cfgA Ideal).N) (hf : ((cfgA Ideal).win (5 : Fin 6)).flush t = true) (y : S512x256.Idx) :
    (outT m c t : S512x256.Idx → EReal) y
      = OO (aQ m c) (aK m c) (aW m c) (m ((c.tc : Thread nD τ).loc main_arg3)) (m ((c.tc : Thread nD τ).loc main_arg4)) ((((cfgA Ideal).win (5 : Fin 6)).rect t).emb y) := by
  have e := facts (F := Ideal) t
  have hd : tk t = tq t := by have h := e.2.2.2.2.1; rw [hf] at h; exact (of_decide_eq_true h.symm)
  refine (outT_eq m c hQ hK hW t hd y).trans (congrArg (OO (aQ m c) (aK m c) (aW m c) _ _) (?_ : _ = (((cfgA Ideal).win (5 : Fin 6)).rect t).emb y))
  funext a
  fin_cases a
  · exact Fin.ext ((((cfgA Ideal).win (5 : Fin 6)).rect_emb_val t y 0).trans (by rw [show ((cfgA Ideal).win (5 : Fin 6)).index t 0 = _ from e.2.2.2.2.2.2.2.2.2.1]; rfl)).symm
  · exact Fin.ext ((((cfgA Ideal).win (5 : Fin 6)).rect_emb_val t y 1).trans (by rw [show ((cfgA Ideal).win (5 : Fin 6)).index t 1 = _ from e.2.2.2.2.2.2.2.2.2.2]; rfl)).symm

/-- The result array after the run. -/
theorem final_out : (dats m 0 c).arrAt (5 : Fin 6) (cfgA Ideal).N
    = OO (aQ m c) (aK m c) (aW m c) (m ((c.tc : Thread nD τ).loc main_arg3)) (m ((c.tc : Thread nD τ).loc main_arg4)) :=
  by
  have key := flush_at m c hQ hK hW
  generalize OO (aQ m c) (aK m c) (aW m c) (m ((c.tc : Thread nD τ).loc main_arg3)) (m ((c.tc : Thread nD τ).loc main_arg4)) = G at key ⊢
  clear hQ hK hW
  refine (dats m 0 c).arrAt_eq_of_covers (5 : Fin 6) G covers5 fun t hf y => ?_
  refine (cast_eq _ _).trans ?_
  rw [after0_5]
  exact key t hf y

end Cert.FlashAttn

end
-- ==== Proof.FlashRef.lean ====
module

public import Idealize.ShloMosaic.Lib.Pointwise
public import Idealize.ShloMosaic.Lib.ValueIdxRank6
public import Idealize.ShloMosaic.Lib.WordCmp
public import proofs.«01_k».proof.Proof.Gen.ReferenceIdeal.Read
public import proofs.«01_k».proof.Proof.FlashMath

@[expose] public section

set_option maxRecDepth 16384
set_option Elab.async false

noncomputable section

namespace Cert.FlashAttn

open Cert.ReferenceIdeal Cert.ReferenceIdeal.Gen Cert.ReferenceIdeal.Read
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The reference's scores and weights, entry by entry -/

theorem ref_q (Q : AQ) (b : Fin 4) (p : Fin 4096) (h : Fin 4) (g c : Fin 2) (d : Fin 64) : val_main_v1 (F := Ideal) Q (ix6 b p h g c d)
    = Q (ix2 ⟨b.val * 4096 + p.val, by omega⟩ ⟨h.val * 256 + g.val * 128 + c.val * 64 + d.val, by omega⟩) := by
  unfold val_main_v1
  refine (shapeCast_apply _ shapeCasts_S16384x1024_S4x4096x4x2x2x64 (ix6 b p h g c d)
    (ix2 ⟨b.val * 4096 + p.val, by omega⟩ ⟨h.val * 256 + g.val * 128 + c.val * 64 + d.val, by omega⟩) ?_).trans rfl
  rw [Shape.rowMajor_val_two, Shape.rowMajor_val_six]
  show (b.val * 4096 + p.val) * 1024 + (h.val * 256 + g.val * 128 + c.val * 64 + d.val)
    = ((((b.val * 4096 + p.val) * 4 + h.val) * 2 + g.val) * 2 + c.val) * 64 + d.val
  omega

theorem ref_k (K : AK) (b : Fin 4) (k : Fin 4096) (h : Fin 4) (c : Fin 2) (d : Fin 64) : val_main_v3 (F := Ideal) K (ix5 b k h c d)
    = K (ix2 ⟨b.val * 4096 + k.val, by omega⟩ ⟨h.val * 128 + c.val * 64 + d.val, by omega⟩) := by
  rw [val_main_v3_apply]
  refine congrArg K (funext fun a => Fin.ext ?_)
  match a with
  | ⟨0, _⟩ => show ((((b.val * 4096 + k.val) * 4 + h.val) * 2 + c.val) * 64 + d.val) / 512 = b.val * 4096 + k.val; omega
  | ⟨1, _⟩ => show ((((b.val * 4096 + k.val) * 4 + h.val) * 2 + c.val) * 64 + d.val) % 512 = h.val * 128 + c.val * 64 + d.val; omega

theorem ref_v (W : AK) (b : Fin 4) (k : Fin 4096) (h : Fin 4) (e : Fin 128) : val_main_v5 (F := Ideal) W (ix4 b k h e)
    = W (ix2 ⟨b.val * 4096 + k.val, by omega⟩ ⟨h.val * 128 + e.val, by omega⟩) := by
  rw [val_main_v5_apply]
  refine congrArg W (funext fun a => Fin.ext ?_)
  match a with
  | ⟨0, _⟩ => show (((b.val * 4096 + k.val) * 4 + h.val) * 128 + e.val) / 512 = b.val * 4096 + k.val; omega
  | ⟨1, _⟩ => show (((b.val * 4096 + k.val) * 4 + h.val) * 128 + e.val) % 512 = h.val * 128 + e.val; omega

theorem ref_s (Q : AQ) (K : AK) (b h : Fin 4) (g c : Fin 2) (p k : Fin 4096) :
    val_main_v8 (F := Ideal) Q K (ix6 b h g c p k) = sc Q K b h g c p k := by
  rw [val_main_v8_apply, val_main_v7_apply]
  refine Finset.sum_congr rfl fun d _ => congrArg₂ (· * ·) ?_ ?_
  · exact (congrArg (val_main_v3 (F := Ideal) K) (eq_ix5 (lidx_main_v7 (idx_main_v8 (ix6 b h g c p k)) d))).trans (ref_k K b k h c d)
  · exact (congrArg (val_main_v1 (F := Ideal) Q) (eq_ix6 (ridx_main_v7 (idx_main_v8 (ix6 b h g c p k)) d))).trans (ref_q Q b p h g c d)

theorem ref_m (Q : AQ) (K : AK) (b h : Fin 4) (g c : Fin 2) (p k : Fin 4096) :
    val_main_v14 (F := Ideal) Q K (ix6 b h g c p k) = ms Q K b h g c p k := by
  rw [val_main_v14_apply, val_main_call0_v1_apply, val_main_v13_apply, val_main_v11_apply, val_main_v9_apply, val_main_v6_apply,
    val_main_v12_apply, val_main_v10_apply, val_main_v6_apply, val_main_call0_v2_apply, val_main_call0_v0_apply, val_main_cst_apply, ref_s]
  show Scalar.select (IntOp.cmpi .sle (BitVec.ofNat 32 k.val) (BitVec.ofNat 32 p.val)) (sc Q K b h g c p k) (Ideal.ofBits .f32 0xFF800000#32) = _
  rw [ofBits_neg_inf]
  unfold Scalar.select ms
  exact if_congr (WordCmp.cmpi_sle_ofNat_eq_one_iff (by omega) (by omega)) rfl rfl

theorem ref_max {Q : AQ} {K : AK} (hQ : ∀ i, IsR (Q i)) (hK : ∀ i, IsR (K i)) (b h : Fin 4) (g c : Fin 2) (p : Fin 4096) :
    ∃ r : ℝ, val_main_v17 (F := Ideal) Q K (ix5 b h g c p) = (r : EReal) := by
  obtain ⟨r, hr⟩ := max_real ⊥ bot_ne_top (fun k => ms Q K b h g c p k) (fun k => ms_ne_top hQ hK b h g c p k) p (ms_ne_bot hQ hK b h g c le_rfl)
  refine ⟨r, Eq.trans ?_ hr⟩
  rw [val_main_v17_apply, val_main_v16_apply, val_main_cst_1_apply]
  show max (Ideal.ofBits .f32 0xFF800000#32) (val_main_v15 (F := Ideal) Q K (ix5 b h g c p)) = _
  rw [ofBits_neg_inf]
  refine congrArg (max ⊥) ?_
  unfold val_main_v15
  have hm := ref_m Q K b h g c p
  generalize val_main_v14 (F := Ideal) Q K = y at hm ⊢
  refine (Host.reduce_eq_fold_single (max : EReal → EReal → EReal) y (val_main_cst_0 (F := Ideal)) reducesTo_S4x4x2x2x4096x4096_S4x4x2x2x4096_d5 (by decide) h_S_ (ix5 b h g c p)).trans ?_
  rw [val_main_cst_0_apply]
  show Finset.fold max (Ideal.ofBits .f32 0xFF800000#32) _ _ = _
  rw [ofBits_neg_inf]
  refine Finset.fold_congr fun k _ => ?_
  refine Eq.trans ?_ (hm k)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The lanes that count sum the weights. -/
theorem NN_128 {Q : AQ} {K W : AK} (b h : Fin 4) (g c : Fin 2) (p : Fin 4096) :
    NN Q K W b h g c p ⟨128, by omega⟩ = ∑ k : Fin 4096, eR (ms Q K b h g c p k) := by
  unfold NN
  rw [Finset.sum_range]
  refine Finset.sum_congr rfl fun k _ => ?_
  unfold gk vv
  rw [dif_pos k.isLt, dif_neg (by simp)]
  simp

theorem ref_w {Q : AQ} {K : AK} (W : AK) (hQ : ∀ i, IsR (Q i)) (hK : ∀ i, IsR (K i)) (b h : Fin 4) (g c : Fin 2) (p k : Fin 4096) :
    val_main_v25 (F := Ideal) Q K (ix6 b h g c p k) = ((eR (ms Q K b h g c p k) / NN Q K W b h g c p ⟨128, by omega⟩ : ℝ) : EReal) := by
  obtain ⟨r, hr⟩ := ref_max hQ hK b h g c p
  have h21 : ∀ k, val_main_v21 (F := Ideal) Q K (ix6 b h g c p k) = ((eR (ms Q K b h g c p k) * Real.exp (-r) : ℝ) : EReal) := fun k => by
    rw [val_main_v21_apply, val_main_v20_apply, ref_m, val_main_v19_apply, val_main_v18_apply]
    refine Eq.trans ?_ (exp_sub_real _ (ms_ne_top hQ hK b h g c p k) r)
    exact congrArg (fun t => Ideal.exp (ms Q K b h g c p k - t)) ((congrArg (val_main_v17 (F := Ideal) Q K) (eq_ix5 _)).trans hr)
  have h22 : val_main_v22 (F := Ideal) Q K (ix5 b h g c p) = ((NN Q K W b h g c p ⟨128, by omega⟩ * Real.exp (-r) : ℝ) : EReal) := by
    rw [val_main_v22_apply, NN_128, Finset.sum_mul, coe_sum', val_main_cst_2_apply]
    show Ideal.ofBits .f32 0x00000000#32 + _ = _
    rw [show Ideal.ofBits .f32 0x00000000#32 = 0 from by simp [Ideal.ofBits, Ideal.ieee], zero_add]
    exact Finset.sum_congr rfl fun k _ => (congrArg (val_main_v21 (F := Ideal) Q K) (eq_ix6 (idx_main_v22 (ix5 b h g c p) k))).trans (h21 k)
  have hpos := NN_pos (W := W) hQ hK b h g c p ⟨128, by omega⟩ (by simp)
  have h24 : val_main_v24 (F := Ideal) Q K (ix6 b h g c p k) = ((NN Q K W b h g c p ⟨128, by omega⟩ * Real.exp (-r) : ℝ) : EReal) := by
    rw [val_main_v24_apply, val_main_v23_apply]
    exact (congrArg (val_main_v22 (F := Ideal) Q K) (eq_ix5 _)).trans h22
  rw [val_main_v25_apply, h21, h24]
  refine (Ideal.div_coe (mul_pos hpos (Real.exp_pos _)).ne' _).trans ?_
  rw [← EReal.coe_mul]
  refine congrArg _ ?_
  have he := (Real.exp_pos (-r)).ne'
  have hn := hpos.ne'
  field_simp

end Cert.FlashAttn

end
-- ==== Proof.FlashRefB.lean ====
module

public import proofs.«01_k».proof.Proof.FlashRef

@[expose] public section

set_option maxRecDepth 16384
set_option Elab.async false

noncomputable section

namespace Cert.FlashAttn

open Cert.ReferenceIdeal Cert.ReferenceIdeal.Gen Cert.ReferenceIdeal.Read
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The reference's result, entry by entry -/

/-- The indices of a list of 64, by their one coordinate. -/
def list64 : Fin 64 ≃ S64.Idx := ⟨fun k => ix1 k, fun j => j 0, fun _ => rfl, fun j => (eq_ix1 j).symm⟩

theorem zero_bits : Ideal.ofBits .f32 0x00000000#32 = 0 := by simp [Ideal.ofBits, Ideal.ieee]

/-- A product of two rows' entries, the rows and columns given by their numbers. -/
theorem rows_mul (lq : S4x64.Idx → EReal) (a b : S4x64.Idx) (r s : Fin 4) (k : Fin 64) (ha : (a 0).val = r.val) (hb : (b 0).val = s.val)
    (ha' : (a 1).val = k.val) (hb' : (b 1).val = k.val) : lq a * lq b = lq (ix2 r k) * lq (ix2 s k) := by
  rw [eq_ix2 a, eq_ix2 b]
  exact congrArg₂ (fun a b => lq a * lq b) (congrArg₂ ix2 (Fin.ext ha) (Fin.ext ha')) (congrArg₂ ix2 (Fin.ext hb) (Fin.ext hb'))

theorem ref_lam (lq : S4x64.Idx → EReal) (i : S_.Idx) : val_main_v41 (F := Ideal) lq i = lamK lq := by
  have h0 : val_main_v31 (F := Ideal) lq i = ∑ k : Fin 64, lq (ix2 0 k) * lq (ix2 1 k) := by
    rw [val_main_v31_apply, val_main_cst_3_apply, ← Equiv.sum_comp list64]
    refine (congrArg₂ (· + ·) zero_bits (Finset.sum_congr rfl fun k _ => ?_)).trans (zero_add _)
    rw [val_main_v30_apply, val_main_v27_apply, val_main_v26_apply, val_main_v29_apply, val_main_v28_apply]
    exact rows_mul lq _ _ 0 1 k rfl rfl (Nat.mod_eq_of_lt k.isLt) (Nat.mod_eq_of_lt k.isLt)
  have h1 : val_main_v38 (F := Ideal) lq i = ∑ k : Fin 64, lq (ix2 2 k) * lq (ix2 3 k) := by
    rw [val_main_v38_apply, val_main_cst_4_apply, ← Equiv.sum_comp list64]
    refine (congrArg₂ (· + ·) zero_bits (Finset.sum_congr rfl fun k _ => ?_)).trans (zero_add _)
    rw [val_main_v37_apply, val_main_v34_apply, val_main_v33_apply, val_main_v36_apply, val_main_v35_apply]
    exact rows_mul lq _ _ 2 3 k rfl rfl (Nat.mod_eq_of_lt k.isLt) (Nat.mod_eq_of_lt k.isLt)
  rw [val_main_v41_apply, val_main_v40_apply, val_main_v32_apply, val_main_v39_apply, h0, h1, val_main_cst_5_apply]
  rfl

theorem lamK_real {lq : S4x64.Idx → EReal} (hL : ∀ i, IsR (lq i)) : IsR (lamK lq) := by
  unfold lamK
  refine ((IsR.sum _ _ fun k => (hL _).mul (hL _)).exp.sub (IsR.sum _ _ fun k => (hL _).mul (hL _)).exp).add ?_
  exact ⟨_, by simp [Ideal.ofBits, Ideal.ieee]; rfl⟩

theorem ref_w0 (Q : AQ) (K : AK) (b h : Fin 4) (g : Fin 2) (p k : Fin 4096) :
    val_main_v43 (F := Ideal) Q K (ix5 b h g p k) = val_main_v25 (F := Ideal) Q K (ix6 b h g 0 p k) := by
  unfold val_main_v43
  have e : val_main_v42 (F := Ideal) Q K (ix6 b h g 0 p k) = val_main_v25 (F := Ideal) Q K (ix6 b h g 0 p k) := by
    rw [val_main_v42_apply]
    generalize val_main_v25 (F := Ideal) Q K = y
    exact congrArg y (funext fun a => Fin.ext (by
      match a with | ⟨0, _⟩ => rfl | ⟨1, _⟩ => rfl | ⟨2, _⟩ => rfl | ⟨3, _⟩ => rfl | ⟨4, _⟩ => rfl | ⟨5, _⟩ => rfl))
  refine Eq.trans ?_ e
  generalize val_main_v42 (F := Ideal) Q K = y
  refine shapeCast_apply y shapeCasts_S4x4x2x1x4096x4096_S4x4x2x4096x4096 (ix5 b h g p k) (ix6 b h g 0 p k) ?_
  rw [Shape.rowMajor_val_five, Shape.rowMajor_val_six]
  show ((((b.val * 4 + h.val) * 2 + g.val) * 1 + 0) * 4096 + p.val) * 4096 + k.val = (((b.val * 4 + h.val) * 2 + g.val) * 4096 + p.val) * 4096 + k.val
  omega

theorem ref_w1 (Q : AQ) (K : AK) (b h : Fin 4) (g : Fin 2) (p k : Fin 4096) :
    val_main_v45 (F := Ideal) Q K (ix5 b h g p k) = val_main_v25 (F := Ideal) Q K (ix6 b h g 1 p k) := by
  unfold val_main_v45
  have e : val_main_v44 (F := Ideal) Q K (ix6 b h g 0 p k) = val_main_v25 (F := Ideal) Q K (ix6 b h g 1 p k) := by
    rw [val_main_v44_apply]
    generalize val_main_v25 (F := Ideal) Q K = y
    exact congrArg y (funext fun a => Fin.ext (by
      match a with | ⟨0, _⟩ => rfl | ⟨1, _⟩ => rfl | ⟨2, _⟩ => rfl | ⟨3, _⟩ => rfl | ⟨4, _⟩ => rfl | ⟨5, _⟩ => rfl))
  refine Eq.trans ?_ e
  generalize val_main_v44 (F := Ideal) Q K = y
  refine shapeCast_apply y shapeCasts_S4x4x2x1x4096x4096_S4x4x2x4096x4096 (ix5 b h g p k) (ix6 b h g 0 p k) ?_
  rw [Shape.rowMajor_val_five, Shape.rowMajor_val_six]
  show ((((b.val * 4 + h.val) * 2 + g.val) * 1 + 0) * 4096 + p.val) * 4096 + k.val = (((b.val * 4 + h.val) * 2 + g.val) * 4096 + p.val) * 4096 + k.val
  omega

/-- One lane's sum, key by key. -/
theorem NN_lane {Q : AQ} {K W : AK} (b h : Fin 4) (g c : Fin 2) (p : Fin 4096) (e : Fin 128) :
    NN Q K W b h g c p ⟨e.val, by omega⟩ = ∑ k : Fin 4096, eR (ms Q K b h g c p k) * (W (ix2 ⟨b.val * 4096 + k.val, by omega⟩ ⟨h.val * 128 + e.val, by omega⟩)).toReal := by
  unfold NN
  rw [Finset.sum_range]
  refine Finset.sum_congr rfl fun k _ => ?_
  unfold gk vv
  rw [dif_pos k.isLt, dif_pos e.isLt]

theorem ref_d {Q : AQ} {K W : AK} {lq : S4x64.Idx → EReal} (hQ : ∀ i, IsR (Q i)) (hK : ∀ i, IsR (K i)) (hW : ∀ i, IsR (W i)) (hL : ∀ i, IsR (lq i))
    (b h : Fin 4) (e : Fin 128) (g : Fin 2) (p : Fin 4096) : val_main_v49 (F := Ideal) Q K W lq (ix5 b h e g p) = DD Q K W (lamK lq) b h g p e := by
  obtain ⟨l, hl⟩ := lamK_real hL
  rw [val_main_v49_apply]
  unfold DD
  rw [hl, NN_lane, NN_lane, ← EReal.coe_mul, ← EReal.coe_sub, Finset.sum_div, Finset.sum_div, Finset.mul_sum, ← Finset.sum_sub_distrib, coe_sum']
  refine Finset.sum_congr rfl fun k _ => ?_
  have h5 : val_main_v5 (F := Ideal) W (lidx_main_v49 (ix5 b h e g p) k) = _ := (congrArg (val_main_v5 (F := Ideal) W) (eq_ix4 _)).trans (ref_v W b k h e)
  have h48 : val_main_v48 (F := Ideal) Q K lq (ridx_main_v49 (ix5 b h e g p) k)
      = ((eR (ms Q K b h g 0 p k) / NN Q K W b h g 0 p ⟨128, by omega⟩ - l * (eR (ms Q K b h g 1 p k) / NN Q K W b h g 1 p ⟨128, by omega⟩) : ℝ) : EReal) := by
    rw [show ridx_main_v49 (ix5 b h e g p) k = ix5 b h g p k from eq_ix5 _, val_main_v48_apply, val_main_v47_apply, val_main_v46_apply, ref_lam, ref_w0, ref_w1,
      ref_w W hQ hK, ref_w W hQ hK, hl]
    rw [EReal.coe_sub, EReal.coe_mul]
    rfl
  rw [h5, h48, (hW _).eq, ← EReal.coe_mul]
  refine congrArg _ ?_
  rw [EReal.toReal_coe]
  ring

theorem ref_h {Q : AQ} {K W : AK} {lq : S4x64.Idx → EReal} (hQ : ∀ i, IsR (Q i)) (hK : ∀ i, IsR (K i)) (hW : ∀ i, IsR (W i)) (hL : ∀ i, IsR (lq i))
    (b : Fin 4) (p : Fin 4096) (n : Fin 8) (e : Fin 128) : val_main_v51 (F := Ideal) Q K W lq (ix4 b p n e)
      = DD Q K W (lamK lq) b ⟨n.val / 2, by omega⟩ ⟨n.val % 2, by omega⟩ p e := by
  rw [val_main_v51_apply, val_main_v50_apply]
  refine Eq.trans (congrArg (val_main_v49 (F := Ideal) Q K W lq) (funext fun a => Fin.ext ?_)) (ref_d hQ hK hW hL b ⟨n.val / 2, by omega⟩ e ⟨n.val % 2, by omega⟩ p)
  match a with
  | ⟨0, _⟩ => show (((b.val * 4096 + p.val) * 8 + n.val) * 128 + e.val) / 4194304 = b.val; omega
  | ⟨1, _⟩ => show (((b.val * 4096 + p.val) * 8 + n.val) * 128 + e.val) / 256 % 4 = n.val / 2; omega
  | ⟨2, _⟩ => show (((b.val * 4096 + p.val) * 8 + n.val) * 128 + e.val) % 128 = e.val; omega
  | ⟨3, _⟩ => show (((b.val * 4096 + p.val) * 8 + n.val) * 128 + e.val) / 128 % 2 = n.val % 2; omega
  | ⟨4, _⟩ => show (((b.val * 4096 + p.val) * 8 + n.val) * 128 + e.val) / 1024 % 4096 = p.val; omega

theorem ref_n {Q : AQ} {K W : AK} {lq : S4x64.Idx → EReal} (D : Fin 128 → EReal) (b : Fin 4) (p : Fin 4096) (n : Fin 8)
    (hD : ∀ e, val_main_v51 (F := Ideal) Q K W lq (ix4 b p n e) = D e) (sub : S128.Idx → EReal) (e : Fin 128) :
    val_main_v66 (F := Ideal) Q K W lq sub (ix4 b p n e) = outK D (fun e => sub (ix1 e)) e := by
  have h53 : val_main_v53 (F := Ideal) Q K W lq (ix3 b p n) = ∑ k : Fin 128, D k * D k := by
    rw [val_main_v53_apply, val_main_cst_6_apply]
    refine (congrArg₂ (· + ·) zero_bits (Finset.sum_congr rfl fun k _ => ?_)).trans (zero_add _)
    rw [val_main_v52_apply, show idx_main_v53 (ix3 b p n) k = ix4 b p n k from eq_ix4 _, hD]
    rfl
  have h58 : val_main_v58 (F := Ideal) Q K W lq (ix4 b p n 0)
      = Ideal.div (∑ k : Fin 128, D k * D k) (Ideal.ofBits .f32 0x43000000#32) + Ideal.ofBits .f32 0x358637BD#32 := by
    rw [val_main_v58_apply, val_main_v56_apply, val_main_v54_apply, show idx_main_v54 (ix4 b p n 0) = ix3 b p n from eq_ix3 _, h53,
      val_main_v55_apply, val_main_cst_7_apply, val_main_v57_apply, val_main_cst_8_apply]
    rfl
  rw [val_main_v66_apply, val_main_v64_apply, val_main_v61_apply, val_main_v60_apply, show idx_main_v60 (ix4 b p n e) = ix4 b p n 0 from eq_ix4 _,
    val_main_v59_apply, h58, hD, val_main_v63_apply, val_main_v62_apply, show idx_main_v62 (idx_main_v63 (ix4 b p n e)) = ix1 e from eq_ix1 _,
    val_main_v65_apply, val_main_cst_9_apply]
  rfl

/-- The reference's result is the kernel's. -/
theorem ref_out {Q : AQ} {K W : AK} {lq : S4x64.Idx → EReal} (hQ : ∀ i, IsR (Q i)) (hK : ∀ i, IsR (K i)) (hW : ∀ i, IsR (W i)) (hL : ∀ i, IsR (lq i))
    (sub : S128.Idx → EReal) : val_main_v68 (F := Ideal) Q K W lq sub = OO Q K W lq sub := by
  funext i
  have h0 : (i 0).val < 16384 := (i 0).isLt
  have h1 : (i 1).val < 1024 := (i 1).isLt
  have ei : idx_main_v67 i = ix4 (⟨(i 0).val / 4096, by omega⟩ : Fin 4) (⟨(i 0).val % 4096, by omega⟩ : Fin 4096) (⟨(i 1).val / 128, by omega⟩ : Fin 8) (⟨(i 1).val % 128, by omega⟩ : Fin 128) := by
    refine funext fun a => Fin.ext ?_
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) / 128 % 8 = (i 1).val / 128; omega
    | ⟨3, _⟩ => show ((i 0).val * 1024 + (i 1).val) % 128 = (i 1).val % 128; omega
  rw [val_main_v68_apply, val_main_v67_apply, ei]
  refine (ref_n _ _ _ _ (fun e => ref_h hQ hK hW hL _ _ _ e) sub _).trans ?_
  unfold OO
  refine congrArg (fun D => outK D (fun e => sub (ix1 e)) ⟨(i 1).val % 128, by omega⟩) (funext fun e => ?_)
  refine congrArg₂ (fun h g => DD Q K W (lamK lq) ⟨(i 0).val / 4096, by omega⟩ h g ⟨(i 0).val % 4096, by omega⟩ e) (Fin.ext ?_) (Fin.ext ?_)
  · show (i 1).val / 128 / 2 = (i 1).val / 256; omega
  · show (i 1).val / 128 % 2 = (i 1).val % 256 / 128; omega

end Cert.FlashAttn

end
-- ==== Proof.FlashValue.lean ====
module

public import Idealize.ShloMosaic.Lib.ReduceAll
public import proofs.«01_k».proof.Proof.Gen.Pre_finite
public import proofs.«01_k».proof.Proof.FlashTraj
public import proofs.«01_k».proof.Proof.FlashClaims
public import proofs.«01_k».proof.Proof.FlashRefB

@[expose] public section

set_option maxRecDepth 16384
set_option Elab.async false

noncomputable section

namespace Cert.FlashAttn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The precondition, read entry by entry -/

/-- An extended real whose absolute value compares below `+∞` is a real. -/
theorem isR_of_lt (x : EReal) (h : Ideal.cmp .olt (max x (-x)) (Ideal.ofBits .f32 0x7F800000#32) = 1#1) : IsR x := by
  rw [show Ideal.ofBits .f32 0x7F800000#32 = ⊤ from by simp [Ideal.ofBits, Ideal.ieee]] at h
  induction x using EReal.rec with
  | bot => simp [Ideal.cmp] at h
  | coe r => exact ⟨r, rfl⟩
  | top => simp [Ideal.cmp] at h

theorem and_one {a b : BitVec 1} (h : IntOp.andi a b = 1#1) : a = 1#1 ∧ b = 1#1 := by
  revert a b; decide

/-- Where the precondition holds, the queries, keys, values and the four rows of weights are reals. -/
theorem real_of_pre (x0 : AQ) (x1 x2 : AK) (x3 : (⟨2, ![4, 64]⟩ : Shape).Idx → EReal) (x4 : (⟨1, ![128]⟩ : Shape).Idx → EReal) (j : (⟨0, ![]⟩ : Shape).Idx)
    (h : Cert.Pre_finite.fn (F := Ideal) x0 x1 x2 x3 x4 j = 1#1) :
    (∀ i, IsR (x0 i)) ∧ (∀ i, IsR (x1 i)) ∧ (∀ i, IsR (x2 i)) ∧ ∀ i, IsR (x3 i) := by
  haveI : Subsingleton Cert.Pre_finite.S_.Idx := ⟨fun a b => funext fun k => k.elim0⟩
  dsimp only [Cert.Pre_finite.fn, Cert.Pre_finite.fn_part1] at h
  obtain ⟨h, h3⟩ := and_one h
  obtain ⟨h, h2⟩ := and_one h
  obtain ⟨h0, h1⟩ := and_one h
  exact ⟨fun i => isR_of_lt _ (Host.reduce_andi_all _ _ _ _ _ h0 i), fun i => isR_of_lt _ (Host.reduce_andi_all _ _ _ _ _ h1 i),
    fun i => isR_of_lt _ (Host.reduce_andi_all _ _ _ _ _ h2 i), fun i => isR_of_lt _ (Host.reduce_andi_all _ _ _ _ _ h3 i)⟩

/-! ## The two programs' results -/

/-- The result the two programs leave on one device. -/
abbrev result (m : (ℓ : Loc nD τ sig) → Buf (Elt Ideal) ℓ) (c : Dev nD) : (⟨2, ![16384, 1024]⟩ : Shape).Idx → EReal :=
  OO (aQ m c) (aK m c) (aW m c) (m ((c.tc : Thread nD τ).loc main_arg3)) (m ((c.tc : Thread nD τ).loc main_arg4))

/-- The idealized kernel and the idealized reference, from equal arguments, leave equal results. -/
theorem same_results : Cert.algebraic_KernelIdeal_ReferenceIdeal_pre_finite := by
  intro m g m' g' hpre hargs
  have hR := fun c => real_of_pre _ _ _ _ _ (fun a => a.elim0) (congrFun (hpre c) (fun a => a.elim0))
  refine ⟨result m, ?_, ?_⟩
  · refine (θ_run Cert.KernelIdeal.defs _ _).mono (fun r h c => ⟨?_, args_of_post (F := Ideal) m r h.1 c⟩) (run_main (F := Ideal) m g)
    exact ((h.1 c).1 (5 : Fin 6)).trans (final_out m c (hR c).1 (hR c).2.1 (hR c).2.2.1)
  · refine (θ_run Cert.ReferenceIdeal.defs _ _).mono (fun r h c => ⟨(h c).1.trans ?_, (h c).2⟩) (Cert.ReferenceIdeal.Value.run (F := Ideal) m' g')
    obtain ⟨e0, e1, e2, e3, e4⟩ := hargs c
    rw [Cert.ReferenceIdeal.Read.val_main_v68_eq, e0, e1, e2, e3, e4]
    exact ref_out (hR c).1 (hR c).2.1 (hR c).2.2.1 (hR c).2.2.2 _

end Cert.FlashAttn

end
-- ==== Proof.Proj.lean ====
/- A product of activations and gathered weights: what the projections' calls compute, whatever columns of the
   weights they gather, and the reading of a whole buffer. -/
module

public import Idealize.ShloMosaic.Lib.Pointwise
public import Idealize.ShloMosaic.Lib.Pipeline.Value
public import Idealize.ShloMosaic.Lib.VecWindow

@[expose] public section

set_option maxRecDepth 16384

noncomputable section

namespace Cert.Proj

open Idealize.ShloMosaic

/-- A load of a whole buffer reads what it holds. -/
theorem ld_whole {sig : RefSig} {κ : Kind} {sp : Space} {s : Shape} {e : EltTy} (a : Memref sig κ sp s e) (h : a.IsWhole) (x : s.Idx → Elt Ideal e)
    {off : Fin s.rank → ℕ} (ho : off = fun _ => 0) (inb : ∀ i, off i + s.size i ≤ s.size i) :
    View.readAt (Elt Ideal) a.view (Rect.unit off s.size inb).toLoadRect (h.unread x) = x := by
  rw [View.readAt_eq_ld, h.read_unread]
  exact View.ld_unit_zero ho _ _

/-- The product of an array of activations and an array of weights. -/
def prod {n : ℕ} (x : (⟨2, ![16384, 1024]⟩ : Shape).Idx → EReal) (w : (⟨2, ![1024, n]⟩ : Shape).Idx → EReal) (i : (⟨2, ![16384, n]⟩ : Shape).Idx) : EReal :=
  ∑ k : Fin 1024, x (ix2 (i 0) k) * w (ix2 k (i 1))

/-- The product at gathered columns of the weights. -/
def atCols {n : ℕ} (col : Fin n → Fin 11808) (x : (⟨2, ![16384, 1024]⟩ : Shape).Idx → EReal) (w : (⟨2, ![1024, 11808]⟩ : Shape).Idx → EReal)
    (i : (⟨2, ![16384, n]⟩ : Shape).Idx) : EReal :=
  ∑ k : Fin 1024, x (ix2 (i 0) k) * w (ix2 k (col (i 1)))

/-- Gathering the weights first gives the product at those columns. -/
theorem prod_gathered {n : ℕ} (col : Fin n → Fin 11808) (x : (⟨2, ![16384, 1024]⟩ : Shape).Idx → EReal) (v : (⟨2, ![1024, n]⟩ : Shape).Idx → EReal)
    (w : (⟨2, ![1024, 11808]⟩ : Shape).Idx → EReal) (h : ∀ k e, v (ix2 k e) = w (ix2 k (col e))) : prod x v = atCols col x w :=
  funext fun i => Finset.sum_congr rfl fun k _ => congrArg (x (ix2 (i 0) k) * ·) (h k (i 1))

end Cert.Proj

end
-- ==== Proof.ProjGates.lean ====
/- The projections' product at the gate columns: what a grid point leaves in its output block, the array after the run,
   and the reference's product at the same columns. -/
module

public import proofs.«01_k».proof.Defs
public import proofs.«01_k».proof.Proof.Proj
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.ProjGates

open Cert.Kernel2Ideal Cert.Kernel2Ideal.Gen
open Idealize.ShloMosaic Idealize.ShloMosaic.TcCoe Idealize.SL.Sem
open Idealize.ShloMosaic.Pipeline (Dat)
open Cert.Proj (ld_whole prod atCols prod_gathered)

variable (m : (ℓ : Loc nD τ sig) → Buf (Elt Ideal) ℓ)

/-! ## The body's two payloads -/

theorem pay1_eq (v : Vec Ideal S2048x1024 .f32) : k0_pay1 v = v := by
  funext y
  obtain ⟨a, b, rfl⟩ : ∃ a b, y = ix2 a b := ⟨_, _, eq_ix2 y⟩
  pointwise [k0_pay1]

theorem pay2_apply (v : Vec Ideal S2048x1024 .bf16) (w : Vec Ideal S1024x512 .bf16) (r : Fin 2048) (e : Fin 512) :
    k0_pay2 v w (ix2 r e) = ∑ k : Fin 1024, v (ix2 r k) * w (ix2 k e) := by
  pointwise [k0_pay2]

/-! ## What the two kinds of point leave -/

section
variable (c : Dev nD) (i : grid0.Coords) (a2 : Memref sig .tc .vmem S2048x1024 .f32) (h2 : a2.IsWhole) (a3 : Memref sig .tc .vmem S1024x512 .bf16) (h3 : a3.IsWhole)
  (a4 : Memref sig .tc .vmem S2048x512 .bf16) (h4 : a4.IsWhole) (a5 : Memref sig .tc .vmem S2048x1024 .bf16) (h5 : a5.IsWhole)
  (x0 : Vec Ideal S2048x1024 .f32) (x1 : Vec Ideal S1024x512 .bf16) (xs : Vec Ideal S2048x1024 .bf16)

theorem scr_A (hc : cond0_0 i) : sout0_A_0 c i a2 h2 a3 h3 a4 h4 a5 h5 hc x0 x1 = x0 := by
  unfold sout0_A_0
  refine (View.read_writes_full _ _ _ _ _).trans ?_
  rw [ld_whole a2 h2 x0 (by decide)]
  exact pay1_eq x0

theorem out_A (hc : cond0_0 i) : out0_A_2 c i a2 h2 a3 h3 a4 h4 a5 h5 hc x0 x1 = k0_pay2 x0 x1 := by
  unfold out0_A_2
  refine (View.read_writes_full _ _ _ _ _).trans ?_
  rw [ld_whole a3 h3 x1 (by decide), show kernelRun0_A.sl.v3 c a2 h2 a5 x0 = x0 from by
    refine (View.readCov_unit_zero _ (by decide) _ _).trans ?_
    rw [ld_whole a2 h2 x0 (by decide)]
    exact pay1_eq x0]

theorem out_B (hc : ¬cond0_0 i) : out0_B_2 c i a2 h2 a3 h3 a4 h4 a5 h5 hc x0 x1 xs = k0_pay2 xs x1 := by
  unfold out0_B_2
  refine (View.read_writes_full _ _ _ _ _).trans ?_
  rw [ld_whole a3 h3 x1 (by decide), ld_whole a5 h5 xs (by decide)]

end

/-! ## The blocks of a grid point -/

/-- The rows and columns the windows of a point stand on. -/
theorem places : ∀ t : Fin cfg0.N, win0_0.index t (0 : Fin 2) = t.val / 10 ∧ win0_0.index t (1 : Fin 2) = 0
    ∧ win0_1.index t (0 : Fin 2) = 0 ∧ win0_1.index t (1 : Fin 2) = t.val % 10
    ∧ win0_2.index t (0 : Fin 2) = t.val / 10 ∧ win0_2.index t (1 : Fin 2) = t.val % 10 :=
  (by decide +kernel : ∀ t : Fin grid0.N, _)

theorem lt_N (t : Fin cfg0.N) : t.val < 80 := lt_of_lt_of_eq t.isLt N_0

/-- The block of activations does not change along a row of the grid. -/
theorem xblk_same (c : Dev nD) (t t' : Fin cfg0.N) (h : t.val / 10 = t'.val / 10) : iblk m c 0 t = iblk m c 0 t' := by
  unfold iblk
  funext y
  refine congrArg (V m c (Pipeline.arrRef spec0 0)) (?_ : (win0_0.rect t).emb y = (win0_0.rect t').emb y)
  funext a
  refine Fin.ext ?_
  rw [win0_0.rect_emb_val t y a, win0_0.rect_emb_val t' y a]
  fin_cases a
  · show win0_0.index t 0 * _ + _ = win0_0.index t' 0 * _ + _
    rw [(places t).1, (places t').1, h]
  · show win0_0.index t 1 * _ + _ = win0_0.index t' 1 * _ + _
    rw [(places t).2.1, (places t').2.1]

theorem xblk (c : Dev nD) (t : Fin cfg0.N) (r : Fin 2048) (k : Fin 1024) :
    (iblk m c 0 t : S2048x1024.Idx → EReal) (ix2 r k) = m ((c.tc : Thread nD τ).loc main_arg0) (ix2 ⟨t.val / 10 * 2048 + r.val, by have := lt_N t; omega⟩ k) := by
  unfold iblk
  rw [show V m c (Pipeline.arrRef spec0 0) = m ((c.tc : Thread nD τ).loc main_arg0) from V_main_arg0 m c]
  refine congrArg (m ((c.tc : Thread nD τ).loc main_arg0)) (?_ : (win0_0.rect t).emb (ix2 r k) = _)
  funext a
  fin_cases a
  · exact Fin.ext ((win0_0.rect_emb_val t (ix2 r k) 0).trans (by rw [(places t).1]; rfl))
  · exact Fin.ext ((win0_0.rect_emb_val t (ix2 r k) 1).trans (by rw [(places t).2.1]; show 0 * 1024 + k.val = k.val; omega))

theorem wblk (c : Dev nD) (t : Fin cfg0.N) (k : Fin 1024) (e : Fin 512) :
    (iblk m c 1 t : S1024x512.Idx → EReal) (ix2 k e) = (V m c main_v4 : S1024x5120.Idx → EReal) (ix2 k ⟨t.val % 10 * 512 + e.val, by omega⟩) := by
  unfold iblk
  refine congrArg (V m c main_v4) (?_ : (win0_1.rect t).emb (ix2 k e) = _)
  funext a
  fin_cases a
  · exact Fin.ext ((win0_1.rect_emb_val t (ix2 k e) 0).trans (by rw [(places t).2.2.1]; show 0 * 1024 + k.val = k.val; omega))
  · exact Fin.ext ((win0_1.rect_emb_val t (ix2 k e) 1).trans (by rw [(places t).2.2.2.1]; rfl))

/-! ## The carried block and the output -/

theorem carried (c : Dev nD) (n : ℕ) (hn : n < cfg0.N) : (outsAt0 m c n hn).2 = iblk m c 0 ⟨n, hn⟩ := by
  induction n with
  | zero =>
    rw [outsAt0_A m c ⟨0, hn⟩ (Nat.zero_mod _)]
    dsimp only
    rw [scr_A]
  | succ n ih =>
    by_cases h0 : (n + 1) % 10 = 0
    · rw [outsAt0_A m c ⟨n + 1, hn⟩ h0]
      dsimp only
      rw [scr_A]
    · rw [outsAt0_B m c ⟨n + 1, hn⟩ h0]
      dsimp only [sout0_B_0]
      exact (ih (Nat.lt_of_succ_lt hn)).trans (xblk_same m c _ _ (by show n / 10 = (n + 1) / 10; omega))

theorem left (c : Dev nD) (t : Fin cfg0.N) : (outsAt0 m c t.val t.isLt).1 = k0_pay2 (iblk m c 0 t) (iblk m c 1 t) := by
  by_cases h0 : t.val % 10 = 0
  · rw [outsAt0_A m c t h0]
    dsimp only
    rw [out_A]
  · rw [outsAt0_B m c t h0]
    dsimp only
    rw [out_B, carried, xblk_same m c ⟨t.val - 1, _⟩ t (by show (t.val - 1) / 10 = t.val / 10; omega)]

/-- An entry of a point's output block is the product's entry there. -/
theorem out_apply (c : Dev nD) (t : Fin cfg0.N) (r : Fin 2048) (e : Fin 512) :
    k0_pay2 (iblk m c 0 t) (iblk m c 1 t) (ix2 r e)
      = prod (m ((c.tc : Thread nD τ).loc main_arg0)) (V m c main_v4) (ix2 ⟨t.val / 10 * 2048 + r.val, by have := lt_N t; omega⟩ ⟨t.val % 10 * 512 + e.val, by omega⟩) := by
  refine (pay2_apply _ _ r e).trans (Finset.sum_congr rfl fun k _ => ?_)
  rw [xblk, wblk]
  rfl

theorem emb_out (t : Fin cfg0.N) (r : Fin 2048) (e : Fin 512) :
    (((cfg0.win 2).blk t).view.emb (ix2 r e) : S16384x5120.Idx) = ix2 ⟨t.val / 10 * 2048 + r.val, by have := lt_N t; omega⟩ ⟨t.val % 10 * 512 + e.val, by omega⟩ := by
  refine (?_ : (win0_2.rect t).emb (ix2 r e) = _)
  funext a
  fin_cases a
  · exact Fin.ext ((win0_2.rect_emb_val t (ix2 r e) 0).trans (by rw [(places t).2.2.2.2.1]; rfl))
  · exact Fin.ext ((win0_2.rect_emb_val t (ix2 r e) 1).trans (by rw [(places t).2.2.2.2.2]; rfl))

/-- What a point writes back is its block of the product. -/
theorem written (c : Dev nD) (t : Fin cfg0.N) (G : S16384x5120.Idx → EReal) (hG : prod (m ((c.tc : Thread nD τ).loc main_arg0)) (V m c main_v4) = G) :
    (dats m 0 c).flushed 2 t = ((cfg0.win 2).blk t).view.read (Elt Ideal) G := by
  rw [Value.flushed2, left]
  funext y
  obtain ⟨r, e, rfl⟩ : ∃ (r : Fin 2048) (e : Fin 512), y = ix2 r e := ⟨_, _, eq_ix2 y⟩
  refine (out_apply m c t r e).trans ?_
  rw [hG]
  exact congrArg G (emb_out t r e).symm

/-- The result array is the product of the activations and the gathered weights. -/
theorem final (c : Dev nD) : (dats m 0 c).arrAt 2 cfg0.N = prod (m ((c.tc : Thread nD τ).loc main_arg0)) (V m c main_v4) := by
  generalize hG : prod (m ((c.tc : Thread nD τ).loc main_arg0)) (V m c main_v4) = G
  exact (dats m 0 c).arrAt_eq_of_cover 2 G (fun t _ => written m c t G hG) (fun i => (Value.covered_iff2 i).2 (by
    have h0 : (i 0).val < 16384 := (i 0).isLt
    have h1 : (i 1).val < 5120 := (i 1).isLt
    omega))

/-! ## The gathered columns -/

/-- The column of the whole projection that a gathered column is: the gates of the state-space part, of the delta-rule
    part and of the merge, side by side. -/
def col (e : Fin 5120) : Fin 11808 :=
  if h : e.val < 1024 then ⟨2048 + e.val, by omega⟩ else if h' : e.val - 1024 < 1024 then ⟨7696 + (e.val - 1024), by omega⟩ else ⟨8736 + (e.val - 1024 - 1024), by omega⟩

/-- The weights the kernel gathers before it runs. -/
theorem weights (c : Dev nD) (k : Fin 1024) (e : Fin 5120) :
    (V m c main_v4 : S1024x5120.Idx → EReal) (ix2 k e) = m ((c.tc : Thread nD τ).loc main_arg1) (ix2 k (col e)) := by
  generalize hw : (m ((c.tc : Thread nD τ).loc main_arg1) : S1024x11808.Idx → EReal) = w
  have h : V m c main_v4 = (truncf .bf16 ((concatenate S1024x5120 1
      [⟨S1024x1024, (extractStridedSlice S1024x1024 ![0, 2048] w slices_S1024x11808_S1024x1024_0_2048 : S1024x1024.Idx → EReal)⟩,
       ⟨S1024x1024, (extractStridedSlice S1024x1024 ![0, 7696] w slices_S1024x11808_S1024x1024_0_7696 : S1024x1024.Idx → EReal)⟩,
       ⟨S1024x3072, (extractStridedSlice S1024x3072 ![0, 8736] w slices_S1024x11808_S1024x3072_0_8736 : S1024x3072.Idx → EReal)⟩]
      concatenates_S1024x1024_S1024x1024_S1024x3072_S1024x5120_d1 : FVec Ideal S1024x5120 .f32)) bitsLt_bf16_f32 : S1024x5120.Idx → EReal) := by
    rw [← hw]
    rfl
  rw [h]
  pointwise [col]
  split_ifs <;> rfl

theorem ref_apply (x : Cert.Reference2Ideal.S16384x1024.Idx → EReal) (w : Cert.Reference2Ideal.S1024x11808.Idx → EReal) (r : Fin 16384) (e : Fin 5120) :
    Cert.Reference2Ideal.Read.val_main_v5 (F := Ideal) x w (ix2 r e) = atCols col x w (ix2 r e) := by
  pointwise [Cert.Reference2Ideal.Read.val_main_v5, Cert.Reference2Ideal.Read.val_main_v4, Cert.Reference2Ideal.Read.val_main_v3,
    Cert.Reference2Ideal.Read.val_main_v2, Cert.Reference2Ideal.Read.val_main_v1, Cert.Reference2Ideal.Read.val_main_v0, atCols, col]
  split_ifs <;> rfl

/-- The idealized kernel and the idealized reference, from equal arguments, leave equal results. -/
theorem same_results : Cert.algebraic_Kernel2Ideal_Reference2Ideal := by
  intro m g m' g' _ hargs
  refine ⟨fun c => atCols col (m ((c.tc : Thread nD τ).loc main_arg0)) (m ((c.tc : Thread nD τ).loc main_arg1)), ?_, ?_⟩
  · exact (θ_run Cert.Kernel2Ideal.defs _ _).mono (fun r h c => ⟨(h c).1.trans ((final m c).trans (prod_gathered col _ _ _ (weights m c))), (h c).2⟩)
      (Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1⟩ := hargs c
    rw [Cert.Reference2Ideal.Read.val_main_v5_eq, e0, e1]
    funext i
    obtain ⟨a, b, rfl⟩ : ∃ (a : Fin 16384) (b : Fin 5120), i = ix2 a b := ⟨_, _, eq_ix2 i⟩
    exact ref_apply _ _ a b

end Cert.ProjGates

end
-- ==== Proof.ProjDelta.lean ====
/- The projections' product at the columns of the queries, keys and values of the delta-rule part: what a grid point leaves
   in its output block, the array after the run, and the reference's product at the same columns. -/
module

public import proofs.«01_k».proof.Defs
public import proofs.«01_k».proof.Proof.Proj
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.ProjDelta

open Cert.Kernel3Ideal Cert.Kernel3Ideal.Gen
open Idealize.ShloMosaic Idealize.ShloMosaic.TcCoe Idealize.SL.Sem
open Idealize.ShloMosaic.Pipeline (Dat)
open Cert.Proj (ld_whole prod atCols prod_gathered)

variable (m : (ℓ : Loc nD τ sig) → Buf (Elt Ideal) ℓ)

/-! ## The body's two payloads -/

theorem pay1_eq (v : Vec Ideal S2048x1024 .f32) : k0_pay1 v = v := by
  funext y
  obtain ⟨a, b, rfl⟩ : ∃ a b, y = ix2 a b := ⟨_, _, eq_ix2 y⟩
  pointwise [k0_pay1]

theorem pay2_apply (v : Vec Ideal S2048x1024 .bf16) (w : Vec Ideal S1024x512 .bf16) (r : Fin 2048) (e : Fin 512) :
    k0_pay2 v w (ix2 r e) = ∑ k : Fin 1024, v (ix2 r k) * w (ix2 k e) := by
  pointwise [k0_pay2]

/-! ## What the two kinds of point leave -/

section
variable (c : Dev nD) (i : grid0.Coords) (a2 : Memref sig .tc .vmem S2048x1024 .f32) (h2 : a2.IsWhole) (a3 : Memref sig .tc .vmem S1024x512 .bf16) (h3 : a3.IsWhole)
  (a4 : Memref sig .tc .vmem S2048x512 .bf16) (h4 : a4.IsWhole) (a5 : Memref sig .tc .vmem S2048x1024 .bf16) (h5 : a5.IsWhole)
  (x0 : Vec Ideal S2048x1024 .f32) (x1 : Vec Ideal S1024x512 .bf16) (xs : Vec Ideal S2048x1024 .bf16)

theorem scr_A (hc : cond0_0 i) : sout0_A_0 c i a2 h2 a3 h3 a4 h4 a5 h5 hc x0 x1 = x0 := by
  unfold sout0_A_0
  refine (View.read_writes_full _ _ _ _ _).trans ?_
  rw [ld_whole a2 h2 x0 (by decide)]
  exact pay1_eq x0

theorem out_A (hc : cond0_0 i) : out0_A_2 c i a2 h2 a3 h3 a4 h4 a5 h5 hc x0 x1 = k0_pay2 x0 x1 := by
  unfold out0_A_2
  refine (View.read_writes_full _ _ _ _ _).trans ?_
  rw [ld_whole a3 h3 x1 (by decide), show kernelRun0_A.sl.v3 c a2 h2 a5 x0 = x0 from by
    refine (View.readCov_unit_zero _ (by decide) _ _).trans ?_
    rw [ld_whole a2 h2 x0 (by decide)]
    exact pay1_eq x0]

theorem out_B (hc : ¬cond0_0 i) : out0_B_2 c i a2 h2 a3 h3 a4 h4 a5 h5 hc x0 x1 xs = k0_pay2 xs x1 := by
  unfold out0_B_2
  refine (View.read_writes_full _ _ _ _ _).trans ?_
  rw [ld_whole a3 h3 x1 (by decide), ld_whole a5 h5 xs (by decide)]

end

/-! ## The blocks of a grid point -/

/-- The rows and columns the windows of a point stand on. -/
theorem places : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 2) = t.val / 6 ∧ win0_2.index t (1 : Fin 2) = t.val % 6 :=
  (by decide +kernel : ∀ t : Fin grid0.N, _)

theorem lt_N (t : Fin cfg0.N) : t.val < 48 := lt_of_lt_of_eq t.isLt N_0

/-- The block of activations does not change along a row of the grid. -/
theorem xblk_same (c : Dev nD) (t t' : Fin cfg0.N) (h : t.val / 6 = t'.val / 6) : iblk m c 0 t = iblk m c 0 t' := by
  unfold iblk
  funext y
  refine congrArg (V m c (Pipeline.arrRef spec0 0)) (?_ : (win0_0.rect t).emb y = (win0_0.rect t').emb y)
  funext a
  refine Fin.ext ?_
  rw [win0_0.rect_emb_val t y a, win0_0.rect_emb_val t' y a]
  fin_cases a
  · show win0_0.index t 0 * _ + _ = win0_0.index t' 0 * _ + _
    rw [(places t).1, (places t').1, h]
  · show win0_0.index t 1 * _ + _ = win0_0.index t' 1 * _ + _
    rw [(places t).2.1, (places t').2.1]

theorem xblk (c : Dev nD) (t : Fin cfg0.N) (r : Fin 2048) (k : Fin 1024) :
    (iblk m c 0 t : S2048x1024.Idx → EReal) (ix2 r k) = m ((c.tc : Thread nD τ).loc main_arg0) (ix2 ⟨t.val / 6 * 2048 + r.val, by have := lt_N t; omega⟩ k) := by
  unfold iblk
  rw [show V m c (Pipeline.arrRef spec0 0) = m ((c.tc : Thread nD τ).loc main_arg0) from V_main_arg0 m c]
  refine congrArg (m ((c.tc : Thread nD τ).loc main_arg0)) (?_ : (win0_0.rect t).emb (ix2 r k) = _)
  funext a
  fin_cases a
  · exact Fin.ext ((win0_0.rect_emb_val t (ix2 r k) 0).trans (by rw [(places t).1]; rfl))
  · exact Fin.ext ((win0_0.rect_emb_val t (ix2 r k) 1).trans (by rw [(places t).2.1]; show 0 * 1024 + k.val = k.val; omega))

theorem wblk (c : Dev nD) (t : Fin cfg0.N) (k : Fin 1024) (e : Fin 512) :
    (iblk m c 1 t : S1024x512.Idx → EReal) (ix2 k e) = (V m c main_v1 : S1024x3072.Idx → EReal) (ix2 k ⟨t.val % 6 * 512 + e.val, by omega⟩) := by
  unfold iblk
  refine congrArg (V m c main_v1) (?_ : (win0_1.rect t).emb (ix2 k e) = _)
  funext a
  fin_cases a
  · exact Fin.ext ((win0_1.rect_emb_val t (ix2 k e) 0).trans (by rw [(places t).2.2.1]; show 0 * 1024 + k.val = k.val; omega))
  · exact Fin.ext ((win0_1.rect_emb_val t (ix2 k e) 1).trans (by rw [(places t).2.2.2.1]; rfl))

/-! ## The carried block and the output -/

theorem carried (c : Dev nD) (n : ℕ) (hn : n < cfg0.N) : (outsAt0 m c n hn).2 = iblk m c 0 ⟨n, hn⟩ := by
  induction n with
  | zero =>
    rw [outsAt0_A m c ⟨0, hn⟩ (Nat.zero_mod _)]
    dsimp only
    rw [scr_A]
  | succ n ih =>
    by_cases h0 : (n + 1) % 6 = 0
    · rw [outsAt0_A m c ⟨n + 1, hn⟩ h0]
      dsimp only
      rw [scr_A]
    · rw [outsAt0_B m c ⟨n + 1, hn⟩ h0]
      dsimp only [sout0_B_0]
      exact (ih (Nat.lt_of_succ_lt hn)).trans (xblk_same m c _ _ (by show n / 6 = (n + 1) / 6; omega))

theorem left (c : Dev nD) (t : Fin cfg0.N) : (outsAt0 m c t.val t.isLt).1 = k0_pay2 (iblk m c 0 t) (iblk m c 1 t) := by
  by_cases h0 : t.val % 6 = 0
  · rw [outsAt0_A m c t h0]
    dsimp only
    rw [out_A]
  · rw [outsAt0_B m c t h0]
    dsimp only
    rw [out_B, carried, xblk_same m c ⟨t.val - 1, _⟩ t (by show (t.val - 1) / 6 = t.val / 6; omega)]

/-- An entry of a point's output block is the product's entry there. -/
theorem out_apply (c : Dev nD) (t : Fin cfg0.N) (r : Fin 2048) (e : Fin 512) :
    k0_pay2 (iblk m c 0 t) (iblk m c 1 t) (ix2 r e)
      = prod (m ((c.tc : Thread nD τ).loc main_arg0)) (V m c main_v1) (ix2 ⟨t.val / 6 * 2048 + r.val, by have := lt_N t; omega⟩ ⟨t.val % 6 * 512 + e.val, by omega⟩) := by
  refine (pay2_apply _ _ r e).trans (Finset.sum_congr rfl fun k _ => ?_)
  rw [xblk, wblk]
  rfl

theorem emb_out (t : Fin cfg0.N) (r : Fin 2048) (e : Fin 512) :
    (((cfg0.win 2).blk t).view.emb (ix2 r e) : S16384x3072.Idx) = ix2 ⟨t.val / 6 * 2048 + r.val, by have := lt_N t; omega⟩ ⟨t.val % 6 * 512 + e.val, by omega⟩ := by
  refine (?_ : (win0_2.rect t).emb (ix2 r e) = _)
  funext a
  fin_cases a
  · exact Fin.ext ((win0_2.rect_emb_val t (ix2 r e) 0).trans (by rw [(places t).2.2.2.2.1]; rfl))
  · exact Fin.ext ((win0_2.rect_emb_val t (ix2 r e) 1).trans (by rw [(places t).2.2.2.2.2]; rfl))

/-- What a point writes back is its block of the product. -/
theorem written (c : Dev nD) (t : Fin cfg0.N) (G : S16384x3072.Idx → EReal) (hG : prod (m ((c.tc : Thread nD τ).loc main_arg0)) (V m c main_v1) = G) :
    (dats m 0 c).flushed 2 t = ((cfg0.win 2).blk t).view.read (Elt Ideal) G := by
  rw [Value.flushed2, left]
  funext y
  obtain ⟨r, e, rfl⟩ : ∃ (r : Fin 2048) (e : Fin 512), y = ix2 r e := ⟨_, _, eq_ix2 y⟩
  refine (out_apply m c t r e).trans ?_
  rw [hG]
  exact congrArg G (emb_out t r e).symm

/-- The result array is the product of the activations and the gathered weights. -/
theorem final (c : Dev nD) : (dats m 0 c).arrAt 2 cfg0.N = prod (m ((c.tc : Thread nD τ).loc main_arg0)) (V m c main_v1) := by
  generalize hG : prod (m ((c.tc : Thread nD τ).loc main_arg0)) (V m c main_v1) = G
  exact (dats m 0 c).arrAt_eq_of_cover 2 G (fun t _ => written m c t G hG) (fun i => (Value.covered_iff2 i).2 (by
    have h0 : (i 0).val < 16384 := (i 0).isLt
    have h1 : (i 1).val < 3072 := (i 1).isLt
    omega))

/-! ## The columns -/

/-- The column of the whole projection that a column is. -/
def col (e : Fin 3072) : Fin 11808 := ⟨4624 + e.val, by omega⟩

/-- The weights the kernel cuts out before it runs. -/
theorem weights (c : Dev nD) (k : Fin 1024) (e : Fin 3072) :
    (V m c main_v1 : S1024x3072.Idx → EReal) (ix2 k e) = m ((c.tc : Thread nD τ).loc main_arg1) (ix2 k (col e)) := by
  generalize hw : (m ((c.tc : Thread nD τ).loc main_arg1) : S1024x11808.Idx → EReal) = w
  have h : V m c main_v1 = (truncf .bf16 (extractStridedSlice S1024x3072 ![0, 4624] w slices_S1024x11808_S1024x3072_0_4624 : FVec Ideal S1024x3072 .f32) bitsLt_bf16_f32
      : S1024x3072.Idx → EReal) := by
    rw [← hw]
    rfl
  rw [h]
  pointwise [col]

theorem ref_apply (x : Cert.Reference3Ideal.S16384x1024.Idx → EReal) (w : Cert.Reference3Ideal.S1024x11808.Idx → EReal) (r : Fin 16384) (e : Fin 3072) :
    Cert.Reference3Ideal.Read.val_main_v2 (F := Ideal) x w (ix2 r e) = atCols col x w (ix2 r e) := by
  pointwise [Cert.Reference3Ideal.Read.val_main_v2, Cert.Reference3Ideal.Read.val_main_v1, Cert.Reference3Ideal.Read.val_main_v0, atCols, col]

/-- The idealized kernel and the idealized reference, from equal arguments, leave equal results. -/
theorem same_results : Cert.algebraic_Kernel3Ideal_Reference3Ideal := by
  intro m g m' g' _ hargs
  refine ⟨fun c => atCols col (m ((c.tc : Thread nD τ).loc main_arg0)) (m ((c.tc : Thread nD τ).loc main_arg1)), ?_, ?_⟩
  · exact (θ_run Cert.Kernel3Ideal.defs _ _).mono (fun r h c => ⟨(h c).1.trans ((final m c).trans (prod_gathered col _ _ _ (weights m c))), (h c).2⟩)
      (Value.run_blocks (F := Ideal) m g)
  · refine (θ_run Cert.Reference3Ideal.defs _ _).mono (fun r h c => ⟨(h c).1.trans ?_, (h c).2⟩) (Cert.Reference3Ideal.Value.run (F := Ideal) m' g')
    obtain ⟨e0, e1⟩ := hargs c
    rw [Cert.Reference3Ideal.Read.val_main_v2_eq, e0, e1]
    funext i
    obtain ⟨a, b, rfl⟩ : ∃ (a : Fin 16384) (b : Fin 3072), i = ix2 a b := ⟨_, _, eq_ix2 i⟩
    exact ref_apply _ _ a b

end Cert.ProjDelta

end
-- ==== Proof.ProjConv.lean ====
/- The projections' product at the columns of the state-space part's convolution input: what a grid point leaves
   in its output block, the array after the run, and the reference's product at the same columns. -/
module

public import proofs.«01_k».proof.Defs
public import proofs.«01_k».proof.Proof.Proj
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.ProjConv

open Cert.Kernel4Ideal Cert.Kernel4Ideal.Gen
open Idealize.ShloMosaic Idealize.ShloMosaic.TcCoe Idealize.SL.Sem
open Idealize.ShloMosaic.Pipeline (Dat)
open Cert.Proj (ld_whole prod atCols prod_gathered)

variable (m : (ℓ : Loc nD τ sig) → Buf (Elt Ideal) ℓ)

/-! ## The body's two payloads -/

theorem pay1_eq (v : Vec Ideal S2048x1024 .f32) : k0_pay1 v = v := by
  funext y
  obtain ⟨a, b, rfl⟩ : ∃ a b, y = ix2 a b := ⟨_, _, eq_ix2 y⟩
  pointwise [k0_pay1]

theorem pay2_apply (v : Vec Ideal S2048x1024 .bf16) (w : Vec Ideal S1024x512 .bf16) (r : Fin 2048) (e : Fin 512) :
    k0_pay2 v w (ix2 r e) = ∑ k : Fin 1024, v (ix2 r k) * w (ix2 k e) := by
  pointwise [k0_pay2]

/-! ## What the two kinds of point leave -/

section
variable (c : Dev nD) (i : grid0.Coords) (a2 : Memref sig .tc .vmem S2048x1024 .f32) (h2 : a2.IsWhole) (a3 : Memref sig .tc .vmem S1024x512 .bf16) (h3 : a3.IsWhole)
  (a4 : Memref sig .tc .vmem S2048x512 .bf16) (h4 : a4.IsWhole) (a5 : Memref sig .tc .vmem S2048x1024 .bf16) (h5 : a5.IsWhole)
  (x0 : Vec Ideal S2048x1024 .f32) (x1 : Vec Ideal S1024x512 .bf16) (xs : Vec Ideal S2048x1024 .bf16)

theorem scr_A (hc : cond0_0 i) : sout0_A_0 c i a2 h2 a3 h3 a4 h4 a5 h5 hc x0 x1 = x0 := by
  unfold sout0_A_0
  refine (View.read_writes_full _ _ _ _ _).trans ?_
  rw [ld_whole a2 h2 x0 (by decide)]
  exact pay1_eq x0

theorem out_A (hc : cond0_0 i) : out0_A_2 c i a2 h2 a3 h3 a4 h4 a5 h5 hc x0 x1 = k0_pay2 x0 x1 := by
  unfold out0_A_2
  refine (View.read_writes_full _ _ _ _ _).trans ?_
  rw [ld_whole a3 h3 x1 (by decide), show kernelRun0_A.sl.v3 c a2 h2 a5 x0 = x0 from by
    refine (View.readCov_unit_zero _ (by decide) _ _).trans ?_
    rw [ld_whole a2 h2 x0 (by decide)]
    exact pay1_eq x0]

theorem out_B (hc : ¬cond0_0 i) : out0_B_2 c i a2 h2 a3 h3 a4 h4 a5 h5 hc x0 x1 xs = k0_pay2 xs x1 := by
  unfold out0_B_2
  refine (View.read_writes_full _ _ _ _ _).trans ?_
  rw [ld_whole a3 h3 x1 (by decide), ld_whole a5 h5 xs (by decide)]

end

/-! ## The blocks of a grid point -/

/-- The rows and columns the windows of a point stand on. -/
theorem places : ∀ t : Fin cfg0.N, win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = t.val / 3 ∧ win0_2.index t (1 : Fin 2) = t.val % 3 :=
  (by decide +kernel : ∀ t : Fin grid0.N, _)

theorem lt_N (t : Fin cfg0.N) : t.val < 24 := lt_of_lt_of_eq t.isLt N_0

/-- The block of activations does not change along a row of the grid. -/
theorem xblk_same (c : Dev nD) (t t' : Fin cfg0.N) (h : t.val / 3 = t'.val / 3) : iblk m c 0 t = iblk m c 0 t' := by
  unfold iblk
  funext y
  refine congrArg (V m c (Pipeline.arrRef spec0 0)) (?_ : (win0_0.rect t).emb y = (win0_0.rect t').emb y)
  funext a
  refine Fin.ext ?_
  rw [win0_0.rect_emb_val t y a, win0_0.rect_emb_val t' y a]
  fin_cases a
  · show win0_0.index t 0 * _ + _ = win0_0.index t' 0 * _ + _
    rw [(places t).1, (places t').1, h]
  · show win0_0.index t 1 * _ + _ = win0_0.index t' 1 * _ + _
    rw [(places t).2.1, (places t').2.1]

theorem xblk (c : Dev nD) (t : Fin cfg0.N) (r : Fin 2048) (k : Fin 1024) :
    (iblk m c 0 t : S2048x1024.Idx → EReal) (ix2 r k) = m ((c.tc : Thread nD τ).loc main_arg0) (ix2 ⟨t.val / 3 * 2048 + r.val, by have := lt_N t; omega⟩ k) := by
  unfold iblk
  rw [show V m c (Pipeline.arrRef spec0 0) = m ((c.tc : Thread nD τ).loc main_arg0) from V_main_arg0 m c]
  refine congrArg (m ((c.tc : Thread nD τ).loc main_arg0)) (?_ : (win0_0.rect t).emb (ix2 r k) = _)
  funext a
  fin_cases a
  · exact Fin.ext ((win0_0.rect_emb_val t (ix2 r k) 0).trans (by rw [(places t).1]; rfl))
  · exact Fin.ext ((win0_0.rect_emb_val t (ix2 r k) 1).trans (by rw [(places t).2.1]; show 0 * 1024 + k.val = k.val; omega))

theorem wblk (c : Dev nD) (t : Fin cfg0.N) (k : Fin 1024) (e : Fin 512) :
    (iblk m c 1 t : S1024x512.Idx → EReal) (ix2 k e) = (V m c main_v1 : S1024x1536.Idx → EReal) (ix2 k ⟨t.val % 3 * 512 + e.val, by omega⟩) := by
  unfold iblk
  refine congrArg (V m c main_v1) (?_ : (win0_1.rect t).emb (ix2 k e) = _)
  funext a
  fin_cases a
  · exact Fin.ext ((win0_1.rect_emb_val t (ix2 k e) 0).trans (by rw [(places t).2.2.1]; show 0 * 1024 + k.val = k.val; omega))
  · exact Fin.ext ((win0_1.rect_emb_val t (ix2 k e) 1).trans (by rw [(places t).2.2.2.1]; rfl))

/-! ## The carried block and the output -/

theorem carried (c : Dev nD) (n : ℕ) (hn : n < cfg0.N) : (outsAt0 m c n hn).2 = iblk m c 0 ⟨n, hn⟩ := by
  induction n with
  | zero =>
    rw [outsAt0_A m c ⟨0, hn⟩ (Nat.zero_mod _)]
    dsimp only
    rw [scr_A]
  | succ n ih =>
    by_cases h0 : (n + 1) % 3 = 0
    · rw [outsAt0_A m c ⟨n + 1, hn⟩ h0]
      dsimp only
      rw [scr_A]
    · rw [outsAt0_B m c ⟨n + 1, hn⟩ h0]
      dsimp only [sout0_B_0]
      exact (ih (Nat.lt_of_succ_lt hn)).trans (xblk_same m c _ _ (by show n / 3 = (n + 1) / 3; omega))

theorem left (c : Dev nD) (t : Fin cfg0.N) : (outsAt0 m c t.val t.isLt).1 = k0_pay2 (iblk m c 0 t) (iblk m c 1 t) := by
  by_cases h0 : t.val % 3 = 0
  · rw [outsAt0_A m c t h0]
    dsimp only
    rw [out_A]
  · rw [outsAt0_B m c t h0]
    dsimp only
    rw [out_B, carried, xblk_same m c ⟨t.val - 1, _⟩ t (by show (t.val - 1) / 3 = t.val / 3; omega)]

/-- An entry of a point's output block is the product's entry there. -/
theorem out_apply (c : Dev nD) (t : Fin cfg0.N) (r : Fin 2048) (e : Fin 512) :
    k0_pay2 (iblk m c 0 t) (iblk m c 1 t) (ix2 r e)
      = prod (m ((c.tc : Thread nD τ).loc main_arg0)) (V m c main_v1) (ix2 ⟨t.val / 3 * 2048 + r.val, by have := lt_N t; omega⟩ ⟨t.val % 3 * 512 + e.val, by omega⟩) := by
  refine (pay2_apply _ _ r e).trans (Finset.sum_congr rfl fun k _ => ?_)
  rw [xblk, wblk]
  rfl

theorem emb_out (t : Fin cfg0.N) (r : Fin 2048) (e : Fin 512) :
    (((cfg0.win 2).blk t).view.emb (ix2 r e) : S16384x1536.Idx) = ix2 ⟨t.val / 3 * 2048 + r.val, by have := lt_N t; omega⟩ ⟨t.val % 3 * 512 + e.val, by omega⟩ := by
  refine (?_ : (win0_2.rect t).emb (ix2 r e) = _)
  funext a
  fin_cases a
  · exact Fin.ext ((win0_2.rect_emb_val t (ix2 r e) 0).trans (by rw [(places t).2.2.2.2.1]; rfl))
  · exact Fin.ext ((win0_2.rect_emb_val t (ix2 r e) 1).trans (by rw [(places t).2.2.2.2.2]; rfl))

/-- What a point writes back is its block of the product. -/
theorem written (c : Dev nD) (t : Fin cfg0.N) (G : S16384x1536.Idx → EReal) (hG : prod (m ((c.tc : Thread nD τ).loc main_arg0)) (V m c main_v1) = G) :
    (dats m 0 c).flushed 2 t = ((cfg0.win 2).blk t).view.read (Elt Ideal) G := by
  rw [Value.flushed2, left]
  funext y
  obtain ⟨r, e, rfl⟩ : ∃ (r : Fin 2048) (e : Fin 512), y = ix2 r e := ⟨_, _, eq_ix2 y⟩
  refine (out_apply m c t r e).trans ?_
  rw [hG]
  exact congrArg G (emb_out t r e).symm

/-- The result array is the product of the activations and the gathered weights. -/
theorem final (c : Dev nD) : (dats m 0 c).arrAt 2 cfg0.N = prod (m ((c.tc : Thread nD τ).loc main_arg0)) (V m c main_v1) := by
  generalize hG : prod (m ((c.tc : Thread nD τ).loc main_arg0)) (V m c main_v1) = G
  exact (dats m 0 c).arrAt_eq_of_cover 2 G (fun t _ => written m c t G hG) (fun i => (Value.covered_iff2 i).2 (by
    have h0 : (i 0).val < 16384 := (i 0).isLt
    have h1 : (i 1).val < 1536 := (i 1).isLt
    omega))

/-! ## The columns -/

/-- The column of the whole projection that a column is. -/
def col (e : Fin 1536) : Fin 11808 := ⟨3072 + e.val, by omega⟩

/-- The weights the kernel cuts out before it runs. -/
theorem weights (c : Dev nD) (k : Fin 1024) (e : Fin 1536) :
    (V m c main_v1 : S1024x1536.Idx → EReal) (ix2 k e) = m ((c.tc : Thread nD τ).loc main_arg1) (ix2 k (col e)) := by
  generalize hw : (m ((c.tc : Thread nD τ).loc main_arg1) : S1024x11808.Idx → EReal) = w
  have h : V m c main_v1 = (truncf .bf16 (extractStridedSlice S1024x1536 ![0, 3072] w slices_S1024x11808_S1024x1536_0_3072 : FVec Ideal S1024x1536 .f32) bitsLt_bf16_f32
      : S1024x1536.Idx → EReal) := by
    rw [← hw]
    rfl
  rw [h]
  pointwise [col]

theorem ref_apply (x : Cert.Reference4Ideal.S16384x1024.Idx → EReal) (w : Cert.Reference4Ideal.S1024x11808.Idx → EReal) (r : Fin 16384) (e : Fin 1536) :
    Cert.Reference4Ideal.Read.val_main_v2 (F := Ideal) x w (ix2 r e) = atCols col x w (ix2 r e) := by
  pointwise [Cert.Reference4Ideal.Read.val_main_v2, Cert.Reference4Ideal.Read.val_main_v1, Cert.Reference4Ideal.Read.val_main_v0, atCols, col]

/-- The idealized kernel and the idealized reference, from equal arguments, leave equal results. -/
theorem same_results : Cert.algebraic_Kernel4Ideal_Reference4Ideal := by
  intro m g m' g' _ hargs
  refine ⟨fun c => atCols col (m ((c.tc : Thread nD τ).loc main_arg0)) (m ((c.tc : Thread nD τ).loc main_arg1)), ?_, ?_⟩
  · exact (θ_run Cert.Kernel4Ideal.defs _ _).mono (fun r h c => ⟨(h c).1.trans ((final m c).trans (prod_gathered col _ _ _ (weights m c))), (h c).2⟩)
      (Value.run_blocks (F := Ideal) m g)
  · refine (θ_run Cert.Reference4Ideal.defs _ _).mono (fun r h c => ⟨(h c).1.trans ?_, (h c).2⟩) (Cert.Reference4Ideal.Value.run (F := Ideal) m' g')
    obtain ⟨e0, e1⟩ := hargs c
    rw [Cert.Reference4Ideal.Read.val_main_v2_eq, e0, e1]
    funext i
    obtain ⟨a, b, rfl⟩ : ∃ (a : Fin 16384) (b : Fin 1536), i = ix2 a b := ⟨_, _, eq_ix2 i⟩
    exact ref_apply _ _ a b

end Cert.ProjConv

end
-- ==== Proof.QkvBlk.lean ====
/- The projection of the attention's queries, keys and values: what one grid point leaves in its five output blocks. -/
module

public import proofs.«01_k».proof.Defs
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Qkv

open Cert.Kernel5Ideal Cert.Kernel5Ideal.Gen
open Idealize.ShloMosaic Idealize.ShloMosaic.TcCoe

/-! ## The rotation of a group of lanes -/

/-- A lane of a group of 128 rotated: itself, the one eight above and the one eight below, each weighted by its table. -/
def rotAt (a c sa sb : Fin 128 → EReal) (e : Fin 128) : EReal :=
  a e * c e + a ⟨(e.val + 8) % 128, Nat.mod_lt _ (by decide)⟩ * sa e + a ⟨(e.val + 120) % 128, Nat.mod_lt _ (by decide)⟩ * sb e

def rotv (x c sa sb : FVec Ideal S512x128 .f32) : FVec Ideal S512x128 .f32 :=
  addf (addf (mulf x c) (mulf (dynamicRotate 1 120#32 none x rotates_S512x128_d1) sa)) (mulf (dynamicRotate 1 8#32 none x rotates_S512x128_d1) sb)

theorem rotv_apply (x c sa sb : FVec Ideal S512x128 .f32) (r : Fin 512) (e : Fin 128) :
    rotv x c sa sb (ix2 r e) = rotAt (fun e => x (ix2 r e)) (fun e => c (ix2 r e)) (fun e => sa (ix2 r e)) (fun e => sb (ix2 r e)) e := by
  have h1 : dynamicRotate 1 120#32 none x rotates_S512x128_d1 (ix2 r e) = x (ix2 r ⟨(e.val + 8) % 128, Nat.mod_lt _ (by decide)⟩) := by
    refine (Pointwise.dynamicRotate_apply _ _ _ _ _ _).trans (congrArg x ?_)
    funext a
    fin_cases a
    · rfl
    · exact Fin.ext (by show (e.val + 128 - (120 + 0) % 128) % 128 = (e.val + 8) % 128; omega)
  have h2 : dynamicRotate 1 8#32 none x rotates_S512x128_d1 (ix2 r e) = x (ix2 r ⟨(e.val + 120) % 128, Nat.mod_lt _ (by decide)⟩) := by
    refine (Pointwise.dynamicRotate_apply _ _ _ _ _ _).trans (congrArg x ?_)
    funext a
    fin_cases a
    · rfl
    · exact Fin.ext (by show (e.val + 128 - (8 + 0) % 128) % 128 = (e.val + 120) % 128; omega)
  show x (ix2 r e) * c (ix2 r e) + dynamicRotate 1 120#32 none x rotates_S512x128_d1 (ix2 r e) * sa (ix2 r e)
    + dynamicRotate 1 8#32 none x rotates_S512x128_d1 (ix2 r e) * sb (ix2 r e) = _
  rw [h1, h2]
  rfl

section
variable (p : Vec Ideal S512x2048 .f32) (c sa sb : Vec Ideal S512x128 .f32)

/-- Lane `e` of group `g` of the projected row, rotated. -/
def rope (r : Fin 512) (g : Fin 16) (e : Fin 128) : EReal :=
  rotAt (fun e => p (ix2 r ⟨g.val * 128 + e.val, by omega⟩)) (fun e => c (ix2 r e)) (fun e => sa (ix2 r e)) (fun e => sb (ix2 r e)) e

theorem rot_slice (g : Fin 16) (o : ℕ) (ho : o = g.val * 128) (hs : S512x2048.Slices ![0, o] S512x128) (r : Fin 512) (e : Fin 128) :
    rotv (extractStridedSlice S512x128 ![0, o] p hs) c sa sb (ix2 r e) = rope p c sa sb r g e := by
  subst ho
  rw [rotv_apply]
  refine congrArg (fun a => rotAt a _ _ _ e) (funext fun e => ?_)
  refine congrArg p (funext fun a => ?_)
  fin_cases a
  · exact Fin.ext (Nat.zero_add _)
  · rfl

/-! ## The blocks -/

/-- The queries' block: rotated and scaled. -/
def qOut (y : S512x1024.Idx) : EReal :=
  rope p c sa sb (y 0) ⟨(y 1).val / 128, by have : (y 1).val < 1024 := (y 1).isLt; omega⟩ ⟨(y 1).val % 128, Nat.mod_lt _ (by decide)⟩
    * (Scalar.ofBits (F := Ideal) .f32 0x3E000000#32 : EReal)

/-- The keys' block, by head. -/
def kOut (y : S512x4x128.Idx) : EReal :=
  rope p c sa sb (y 0) ⟨8 + (y 1).val, by have : (y 1).val < 4 := (y 1).isLt; omega⟩ (y 2)

/-- The keys' block, heads side by side. -/
def kbOut (y : S512x512.Idx) : EReal :=
  rope p c sa sb (y 0) ⟨8 + (y 1).val / 128, by have : (y 1).val < 512 := (y 1).isLt; omega⟩ ⟨(y 1).val % 128, Nat.mod_lt _ (by decide)⟩

theorem q_piece (g : Fin 8) (o : ℕ) (ho : o = g.val * 128) (hs : S512x2048.Slices ![0, o] S512x128)
    (inb : ∀ a, (![0, o] : Fin 2 → ℕ) a + S512x128.size a ≤ S512x1024.size a) (x : S512x128.Idx) :
    truncf .bf16 (mulf (rotv (extractStridedSlice S512x128 ![0, o] p hs) c sa sb) (broadcast S512x128 (Scalar.ofBits .f32 0x3E000000#32))) bitsLt_bf16_f32 x
      = qOut p c sa sb ((Rect.unit (s := S512x1024) ![0, o] S512x128.size inb).emb x) := by
  obtain ⟨r, e, rfl⟩ : ∃ (r : Fin 512) (e : Fin 128), x = ix2 r e := ⟨_, _, eq_ix2 x⟩
  subst ho
  have h : (Rect.unit (s := S512x1024) ![0, g.val * 128] S512x128.size inb).emb (ix2 r e) = ix2 r (⟨g.val * 128 + e.val, by omega⟩ : Fin 1024) := by
    funext a
    fin_cases a
    · exact Fin.ext (by show 0 + 1 * r.val = r.val; omega)
    · exact Fin.ext (by show g.val * 128 + 1 * e.val = g.val * 128 + e.val; omega)
  rw [h]
  show rotv (extractStridedSlice S512x128 ![0, g.val * 128] p hs) c sa sb (ix2 r e) * (Scalar.ofBits (F := Ideal) .f32 0x3E000000#32 : EReal) = _
  rw [rot_slice p c sa sb ⟨g.val, by omega⟩ _ rfl hs r e]
  unfold qOut
  refine congrArg (· * (Scalar.ofBits (F := Ideal) .f32 0x3E000000#32 : EReal)) (congrArg₂ (rope p c sa sb r) ?_ ?_)
  · exact Fin.ext (by show g.val = (g.val * 128 + e.val) / 128; omega)
  · exact Fin.ext (by show e.val = (g.val * 128 + e.val) % 128; omega)

theorem k_piece (h : Fin 4) (o : ℕ) (ho : o = (8 + h.val) * 128) (n : ℕ) (hn : n = h.val) (hs : S512x2048.Slices ![0, o] S512x128)
    (inb : ∀ a, (![0, n, 0] : Fin 3 → ℕ) a + S512x1x128.size a ≤ S512x4x128.size a) (x : S512x1x128.Idx) :
    shapeCast S512x1x128 (rotv (extractStridedSlice S512x128 ![0, o] p hs) c sa sb) shapeCasts_S512x128_S512x1x128 x
      = kOut p c sa sb ((Rect.unit (s := S512x4x128) ![0, n, 0] S512x1x128.size inb).emb x) := by
  have hx1 : (x 1).val < 1 := (x 1).isLt
  subst hn
  refine (shapeCast_apply _ _ x (ix2 (x 0) (x 2) : S512x128.Idx) (by
    rw [Shape.rowMajor_val_two, Shape.rowMajor_val_three]
    show (x 0).val * 128 + (x 2).val = ((x 0).val * 1 + (x 1).val) * 128 + (x 2).val
    omega)).trans ?_
  refine (rot_slice p c sa sb ⟨8 + h.val, by omega⟩ o ho hs (x 0) (x 2)).trans ?_
  unfold kOut
  have h0 : (Rect.unit (s := S512x4x128) ![0, h.val, 0] S512x1x128.size inb).emb x 0 = x 0 := Fin.ext (by show 0 + 1 * (x 0).val = _; omega)
  have h2 : (Rect.unit (s := S512x4x128) ![0, h.val, 0] S512x1x128.size inb).emb x 2 = x 2 := Fin.ext (by show 0 + 1 * (x 2).val = _; omega)
  rw [h0, h2]
  refine congrArg (fun g => rope p c sa sb (x 0) g (x 2)) (Fin.ext ?_)
  show 8 + h.val = 8 + (h.val + 1 * (x 1).val)
  omega

theorem kb_piece (h : Fin 4) (o : ℕ) (ho : o = (8 + h.val) * 128) (n : ℕ) (hn : n = h.val * 128) (hs : S512x2048.Slices ![0, o] S512x128)
    (inb : ∀ a, (![0, n] : Fin 2 → ℕ) a + S512x128.size a ≤ S512x512.size a) (x : S512x128.Idx) :
    truncf .bf16 (rotv (extractStridedSlice S512x128 ![0, o] p hs) c sa sb) bitsLt_bf16_f32 x
      = kbOut p c sa sb ((Rect.unit (s := S512x512) ![0, n] S512x128.size inb).emb x) := by
  obtain ⟨r, e, rfl⟩ : ∃ (r : Fin 512) (e : Fin 128), x = ix2 r e := ⟨_, _, eq_ix2 x⟩
  subst hn
  have hh : (Rect.unit (s := S512x512) ![0, h.val * 128] S512x128.size inb).emb (ix2 r e) = ix2 r (⟨h.val * 128 + e.val, by omega⟩ : Fin 512) := by
    funext a
    fin_cases a
    · exact Fin.ext (by show 0 + 1 * r.val = r.val; omega)
    · exact Fin.ext (by show h.val * 128 + 1 * e.val = h.val * 128 + e.val; omega)
  rw [hh]
  show rotv (extractStridedSlice S512x128 ![0, o] p hs) c sa sb (ix2 r e) = _
  rw [rot_slice p c sa sb ⟨8 + h.val, by omega⟩ o ho hs r e]
  unfold kbOut
  refine congrArg₂ (rope p c sa sb r) ?_ ?_
  · exact Fin.ext (by show 8 + h.val = 8 + (h.val * 128 + e.val) / 128; omega)
  · exact Fin.ext (by show e.val = (h.val * 128 + e.val) % 128; omega)

end

/-! ## What a point leaves -/

section
variable (x0 : Vec Ideal S512x1024 .f32) (x1 : Vec Ideal S1024x2048 .bf16) (x2 x3 x4 : Vec Ideal S512x128 .f32)

theorem ld0 : View.ld x0 r0_0 = x0 := View.ld_unit_zero (by decide) _ _
theorem ld1 : View.ld x1 r0_1 = x1 := View.ld_unit_zero (by decide) _ _
theorem ld2 : View.ld x2 r0_2 = x2 := View.ld_unit_zero (by decide) _ _

/-- The projected block. -/
def projd : Vec Ideal S512x2048 .f32 := k0_pay10 x0 x1

theorem projd_apply (r : Fin 512) (e : Fin 2048) : projd x0 x1 (ix2 r e) = ∑ k : Fin 1024, x0 (ix2 r k) * x1 (ix2 k e) := by
  pointwise [projd, k0_pay10]

theorem pay11_eq : k0_pay11 x2 = x2 := funext fun y => by pointwise [k0_pay11]
theorem pay12_eq : k0_pay12 x2 = x2 := funext fun y => by pointwise [k0_pay12]
theorem pay13_eq : k0_pay13 x2 = x2 := funext fun y => by pointwise [k0_pay13]
theorem pay36_eq : k0_pay36 x0 x1 x2 x3 x4 = projd x0 x1 := by unfold k0_pay36; rw [ld0, ld1]; rfl
theorem pay37_eq : k0_pay37 x0 x1 x2 x3 x4 = x2 := by unfold k0_pay37; rw [ld2, pay11_eq]
theorem pay38_eq : k0_pay38 x0 x1 x2 x3 x4 = x3 := by unfold k0_pay38; rw [ld2, pay12_eq]
theorem pay39_eq : k0_pay39 x0 x1 x2 x3 x4 = x4 := by unfold k0_pay39; rw [ld2, pay13_eq]

theorem out5 : out0_5 x0 x1 x2 x3 x4 = qOut (projd x0 x1) x2 x3 x4 := by
  funext y
  unfold out0_5
  rw [pay36_eq, pay37_eq, pay38_eq, pay39_eq, ld0, ld1, ld2, ld2, ld2]
  refine View.canon_apply_of_pieces (Val := Elt Ideal) (qOut (projd x0 x1) x2 x3 x4 : Vec Ideal S512x1024 .bf16) _ ?_ y (cover0_5 _ _ _ _ _ _ _ _ y)
  intro pc hpc
  rcases List.mem_cons.mp hpc with rfl | hpc
  · exact fun x => q_piece (projd x0 x1) x2 x3 x4 7 896 rfl slices_S512x2048_o0_896_S512x128 inb_S512x1024_S512x128_0_896 x
  rcases List.mem_cons.mp hpc with rfl | hpc
  · exact fun x => q_piece (projd x0 x1) x2 x3 x4 6 768 rfl slices_S512x2048_o0_768_S512x128 inb_S512x1024_S512x128_0_768 x
  rcases List.mem_cons.mp hpc with rfl | hpc
  · exact fun x => q_piece (projd x0 x1) x2 x3 x4 5 640 rfl slices_S512x2048_o0_640_S512x128 inb_S512x1024_S512x128_0_640 x
  rcases List.mem_cons.mp hpc with rfl | hpc
  · exact fun x => q_piece (projd x0 x1) x2 x3 x4 4 512 rfl slices_S512x2048_o0_512_S512x128 inb_S512x1024_S512x128_0_512 x
  rcases List.mem_cons.mp hpc with rfl | hpc
  · exact fun x => q_piece (projd x0 x1) x2 x3 x4 3 384 rfl slices_S512x2048_o0_384_S512x128 inb_S512x1024_S512x128_0_384 x
  rcases List.mem_cons.mp hpc with rfl | hpc
  · exact fun x => q_piece (projd x0 x1) x2 x3 x4 2 256 rfl slices_S512x2048_o0_256_S512x128 inb_S512x1024_S512x128_0_256 x
  rcases List.mem_cons.mp hpc with rfl | hpc
  · intro x
    refine Eq.trans ?_ (q_piece (projd x0 x1) x2 x3 x4 1 128 rfl slices_S512x2048_o0_128_S512x128 inb_S512x1024_S512x128_0_128 x)
    refine (congrFun (?_ : k0_pay15 x0 x1 x2 x3 x4 = _) x)
    conv_rhs => rw [← pay11_eq x2, ← pay12_eq x3, ← pay13_eq x4]
    rfl
  rcases List.mem_cons.mp hpc with rfl | hpc
  · intro x
    refine Eq.trans ?_ (q_piece (projd x0 x1) x2 x3 x4 0 0 rfl slices_S512x2048_o0_0_S512x128 inb_S512x1024_S512x128_0_0 x)
    refine (congrFun (?_ : k0_pay14 x0 x1 x2 x3 x4 = _) x)
    conv_rhs => rw [← pay11_eq x2, ← pay12_eq x3, ← pay13_eq x4]
    rfl
  nomatch hpc

theorem out6 : out0_6 x0 x1 x2 x3 x4 = kOut (projd x0 x1) x2 x3 x4 := by
  funext y
  unfold out0_6 k0_pay40 k0_pay41 k0_pay42
  rw [pay36_eq, pay37_eq, pay38_eq, pay39_eq]
  refine View.canon_apply_of_pieces (Val := Elt Ideal) (kOut (projd x0 x1) x2 x3 x4 : Vec Ideal S512x4x128 .f32) _ ?_ y (cover0_6 _ _ _ _ y)
  intro pc hpc
  rcases List.mem_cons.mp hpc with rfl | hpc
  · exact fun x => k_piece (projd x0 x1) x2 x3 x4 3 1408 rfl 3 rfl slices_S512x2048_o0_1408_S512x128 inb_S512x4x128_S512x1x128_0_3_0 x
  rcases List.mem_cons.mp hpc with rfl | hpc
  · exact fun x => k_piece (projd x0 x1) x2 x3 x4 2 1280 rfl 2 rfl slices_S512x2048_o0_1280_S512x128 inb_S512x4x128_S512x1x128_0_2_0 x
  rcases List.mem_cons.mp hpc with rfl | hpc
  · exact fun x => k_piece (projd x0 x1) x2 x3 x4 1 1152 rfl 1 rfl slices_S512x2048_o0_1152_S512x128 inb_S512x4x128_S512x1x128_0_1_0 x
  rcases List.mem_cons.mp hpc with rfl | hpc
  · exact fun x => k_piece (projd x0 x1) x2 x3 x4 0 1024 rfl 0 rfl slices_S512x2048_o0_1024_S512x128 inb_S512x4x128_S512x1x128_0_0_0 x
  nomatch hpc

theorem out7 : out0_7 x0 x1 x2 x3 x4 = kbOut (projd x0 x1) x2 x3 x4 := by
  funext y
  unfold out0_7 k0_pay40 k0_pay41 k0_pay42
  rw [pay36_eq, pay37_eq, pay38_eq, pay39_eq]
  refine View.canon_apply_of_pieces (Val := Elt Ideal) (kbOut (projd x0 x1) x2 x3 x4 : Vec Ideal S512x512 .bf16) _ ?_ y (cover0_7 _ _ _ _ y)
  intro pc hpc
  rcases List.mem_cons.mp hpc with rfl | hpc
  · exact fun x => kb_piece (projd x0 x1) x2 x3 x4 3 1408 rfl 384 rfl slices_S512x2048_o0_1408_S512x128 inb_S512x512_S512x128_0_384 x
  rcases List.mem_cons.mp hpc with rfl | hpc
  · exact fun x => kb_piece (projd x0 x1) x2 x3 x4 2 1280 rfl 256 rfl slices_S512x2048_o0_1280_S512x128 inb_S512x512_S512x128_0_256 x
  rcases List.mem_cons.mp hpc with rfl | hpc
  · exact fun x => kb_piece (projd x0 x1) x2 x3 x4 1 1152 rfl 128 rfl slices_S512x2048_o0_1152_S512x128 inb_S512x512_S512x128_0_128 x
  rcases List.mem_cons.mp hpc with rfl | hpc
  · exact fun x => kb_piece (projd x0 x1) x2 x3 x4 0 1024 rfl 0 rfl slices_S512x2048_o0_1024_S512x128 inb_S512x512_S512x128_0_0 x
  nomatch hpc

/-- The values' block, by head. -/
def vOut (y : S512x4x128.Idx) : EReal :=
  projd x0 x1 (ix2 (y 0) ⟨1536 + (y 1).val * 128 + (y 2).val, by have : (y 1).val < 4 := (y 1).isLt; have : (y 2).val < 128 := (y 2).isLt; omega⟩)

/-- The values' block, heads side by side. -/
def vbOut (y : S512x512.Idx) : EReal := projd x0 x1 (ix2 (y 0) ⟨1536 + (y 1).val, by have : (y 1).val < 512 := (y 1).isLt; omega⟩)

theorem out8 : out0_8 x0 x1 x2 x3 x4 = vOut x0 x1 := by
  funext y
  unfold out0_8
  rw [pay36_eq]
  refine (Value.canon8_eq x0 x1 y).trans ?_
  refine congrArg (projd x0 x1) (funext fun a => ?_)
  fin_cases a
  · rfl
  · exact Fin.ext (by show (y 1).val * 128 + (y 2).val + 1536 = 1536 + (y 1).val * 128 + (y 2).val; omega)

theorem out9 : out0_9 x0 x1 x2 x3 x4 = vbOut x0 x1 := by
  funext y
  unfold out0_9
  rw [pay36_eq]
  refine (Value.canon9_eq x0 x1 y).trans ?_
  refine congrArg (projd x0 x1) (funext fun a => ?_)
  fin_cases a
  · rfl
  · exact Fin.ext (by show (y 1).val + 1536 = 1536 + (y 1).val; omega)

end

end Cert.Qkv

end
-- ==== Proof.QkvRef.lean ====
/- The projection of the attention's queries, keys and values: the rotation as a function of a row, and the reference read by it. -/
module

public import proofs.«01_k».proof.Proof.Gen.Reference5Ideal.Read
public import Idealize.ShloMosaic.Lib.Pointwise

@[expose] public section

set_option maxRecDepth 16384

noncomputable section

namespace Cert.Qkv

open Cert.Reference5Ideal Cert.Reference5Ideal.Gen Cert.Reference5Ideal.Read
open Idealize.ShloMosaic Idealize.ShloMosaic.TcCoe

/-- The rotation of 64 entries: the first eight and the next eight turn into one another, the others stay. -/
def rot64 (a : Fin 64 → EReal) (c s : Fin 8 → EReal) (j : Fin 64) : EReal :=
  if j.val < 8 then a j * c ⟨j.val % 8, Nat.mod_lt _ (by decide)⟩ - a ⟨(j.val + 8) % 64, Nat.mod_lt _ (by decide)⟩ * s ⟨j.val % 8, Nat.mod_lt _ (by decide)⟩
  else if j.val < 16 then a j * c ⟨j.val % 8, Nat.mod_lt _ (by decide)⟩ + a ⟨(j.val + 56) % 64, Nat.mod_lt _ (by decide)⟩ * s ⟨j.val % 8, Nat.mod_lt _ (by decide)⟩
  else a j

/-- The shape of the rotated arrays: batch, position, head, component, entry. -/
abbrev sh (H n : ℕ) : Shape := ⟨5, ![4, 4096, H, 2, n]⟩

section
variable {H : ℕ} (A B : (sh H 8).Idx → EReal) (R : (sh H 48).Idx → EReal)

/-- The three parts one after another. -/
abbrev parts : List ((s : Shape) × (s.Idx → EReal)) := [⟨sh H 8, A⟩, ⟨sh H 8, B⟩, ⟨sh H 48, R⟩]

variable (hcat : Shape.Concatenates ((parts A B R).map (·.1)) (sh H 64) 4) (b : Fin 4) (s : Fin 4096) (h : Fin H) (t : Fin 2) (j : Fin 64)

theorem off_axis {n : ℕ} (j' : Fin n) (a : Fin (sh H n).rank) (ha : a.cast rfl ≠ (4 : Fin (sh H 64).rank)) :
    (ix5 b s h t j' a).val = (ix5 b s h t j (a.cast (rfl : (sh H n).rank = (sh H 64).rank))).val := by
  match a, ha with
  | ⟨0, _⟩, _ => rfl
  | ⟨1, _⟩, _ => rfl
  | ⟨2, _⟩, _ => rfl
  | ⟨3, _⟩, _ => rfl
  | ⟨4, _⟩, ha => exact absurd rfl ha

theorem first_part (h8 : j.val < 8) : concatenate (sh H 64) 4 (parts A B R) hcat (ix5 b s h t j) = A (ix5 b s h t ⟨j.val, h8⟩) :=
  concatenate_apply_piece 4 (parts A B R) hcat _ 0 (Nat.zero_lt_succ _) (sh H 8) A rfl rfl 0 rfl _ (off_axis b s h t j _) (Nat.zero_add _)

theorem second_part (j' : Fin 8) (h8 : 8 + j'.val = j.val) : concatenate (sh H 64) 4 (parts A B R) hcat (ix5 b s h t j) = B (ix5 b s h t j') :=
  concatenate_apply_piece 4 (parts A B R) hcat _ 1 (Nat.succ_lt_succ (Nat.zero_lt_succ _)) (sh H 8) B rfl rfl 8 rfl _ (off_axis b s h t j _) h8

theorem third_part (j' : Fin 48) (h8 : 16 + j'.val = j.val) : concatenate (sh H 64) 4 (parts A B R) hcat (ix5 b s h t j) = R (ix5 b s h t j') :=
  concatenate_apply_piece 4 (parts A B R) hcat _ 2 (Nat.succ_lt_succ (Nat.succ_lt_succ (Nat.zero_lt_succ _))) (sh H 48) R rfl rfl 16 rfl _ (off_axis b s h t j _) h8

/-- The rotated array joined of its three parts. -/
theorem joined (X : (sh H 64).Idx → EReal) (C S : Fin 4096 → Fin 8 → EReal)
    (hA : ∀ (j : Fin 8), A (ix5 b s h t j) = X (ix5 b s h t ⟨j.val, by omega⟩) * C s j - X (ix5 b s h t ⟨8 + j.val, by omega⟩) * S s j)
    (hB : ∀ (j : Fin 8), B (ix5 b s h t j) = X (ix5 b s h t ⟨8 + j.val, by omega⟩) * C s j + X (ix5 b s h t ⟨j.val, by omega⟩) * S s j)
    (hR : ∀ (j : Fin 48), R (ix5 b s h t j) = X (ix5 b s h t ⟨16 + j.val, by omega⟩)) :
    concatenate (sh H 64) 4 (parts A B R) hcat (ix5 b s h t j) = rot64 (fun j => X (ix5 b s h t j)) (C s) (S s) j := by
  unfold rot64
  by_cases h8 : j.val < 8
  · rw [if_pos h8, first_part A B R hcat b s h t j h8, hA]
    have e1 : (⟨j.val % 8, Nat.mod_lt _ (by decide)⟩ : Fin 8) = ⟨j.val, h8⟩ := Fin.ext (Nat.mod_eq_of_lt h8)
    have e2 : (⟨8 + j.val, by omega⟩ : Fin 64) = ⟨(j.val + 8) % 64, Nat.mod_lt _ (by decide)⟩ := Fin.ext (by show 8 + j.val = (j.val + 8) % 64; omega)
    rw [e1]
    exact congrArg (fun i => _ - X (ix5 b s h t i) * _) e2
  · rw [if_neg h8]
    by_cases h16 : j.val < 16
    · rw [if_pos h16, second_part A B R hcat b s h t j ⟨j.val % 8, Nat.mod_lt _ (by decide)⟩ (by show 8 + j.val % 8 = j.val; omega), hB]
      have e1 : (⟨8 + j.val % 8, by omega⟩ : Fin 64) = j := Fin.ext (by show 8 + j.val % 8 = j.val; omega)
      have e2 : (⟨j.val % 8, by omega⟩ : Fin 64) = ⟨(j.val + 56) % 64, Nat.mod_lt _ (by decide)⟩ := Fin.ext (by show j.val % 8 = (j.val + 56) % 64; omega)
      rw [e1]
      exact congrArg (fun i => _ + X (ix5 b s h t i) * _) e2
    · rw [if_neg h16, third_part A B R hcat b s h t j ⟨j.val - 16, by omega⟩ (by show 16 + (j.val - 16) = j.val; omega), hR]
      exact congrArg (fun i => X (ix5 b s h t i)) (Fin.ext (by show 16 + (j.val - 16) = j.val; omega))

end

/-- The cosines and sines of a position. -/
def cosAt (s : Fin 4096) (j : Fin 8) : EReal := val_main_v18 (F := Ideal) (ix2 s j)
def sinAt (s : Fin 4096) (j : Fin 8) : EReal := val_main_v20 (F := Ideal) (ix2 s j)

section
variable (x : S16384x1024.Idx → EReal) (w : S1024x11808.Idx → EReal)

/-- The projection at a row and a column. -/
def pr (r : Fin 16384) (e : Fin 2048) : EReal := ∑ k : Fin 1024, x (ix2 r k) * w (ix2 k ⟨e.val, by omega⟩)

/-- The rotated entry `j` of the 64 columns from `o` on. -/
def turned (r : Fin 16384) (o : Fin 24) (j : Fin 64) : EReal :=
  rot64 (fun j => pr x w r ⟨o.val * 64 + j.val, by omega⟩) (cosAt ⟨r.val % 4096, Nat.mod_lt _ (by decide)⟩) (sinAt ⟨r.val % 4096, Nat.mod_lt _ (by decide)⟩) j

theorem v0_at (r : Fin 16384) (e : Fin 2048) (i : S16384x11808.Idx) (h0 : (i 0).val = r.val) (h1 : (i 1).val = e.val) :
    val_main_v0 (F := Ideal) x w i = pr x w r e := by
  rw [val_main_v0_apply]
  refine Finset.sum_congr rfl fun k _ => congrArg₂ (· * ·) (congrArg x (funext fun a => ?_)) (congrArg w (funext fun a => ?_))
  · fin_cases a
    · exact Fin.ext h0
    · rfl
  · fin_cases a
    · rfl
    · exact Fin.ext h1

theorem q_turned (b : Fin 4) (s : Fin 4096) (h : Fin 8) (t : Fin 2) (j : Fin 64) :
    val_main_v35 (F := Ideal) x w (ix5 b s h t j) = rot64 (fun j => val_main_v3 (F := Ideal) x w (ix5 b s h t j)) (cosAt s) (sinAt s) j := by
  unfold val_main_v35
  refine joined (H := 8) _ _ _ _ b s h t j (val_main_v3 (F := Ideal) x w) cosAt sinAt ?_ ?_ ?_
  · intro j
    rw [val_main_v29_apply, val_main_v26_apply, val_main_v28_apply, val_main_v22_apply, val_main_v23_apply, val_main_v25_apply, val_main_v27_apply, val_main_v19_apply, val_main_v21_apply,
      eq_ix5 (idx_main_v22 _), eq_ix5 (idx_main_v23 _), eq_ix2 (idx_main_v19 _), eq_ix2 (idx_main_v21 _)]
    rfl
  · intro j
    rw [val_main_v34_apply, val_main_v31_apply, val_main_v33_apply, val_main_v22_apply, val_main_v23_apply, val_main_v30_apply, val_main_v32_apply, val_main_v19_apply, val_main_v21_apply,
      eq_ix5 (idx_main_v22 _), eq_ix5 (idx_main_v23 _), eq_ix2 (idx_main_v19 _), eq_ix2 (idx_main_v21 _)]
    rfl
  · intro j
    rw [val_main_v24_apply, eq_ix5 (idx_main_v24 _)]
    rfl

theorem k_turned (b : Fin 4) (s : Fin 4096) (h : Fin 4) (t : Fin 2) (j : Fin 64) :
    val_main_v71 (F := Ideal) x w (ix5 b s h t j) = rot64 (fun j => val_main_v39 (F := Ideal) x w (ix5 b s h t j)) (cosAt s) (sinAt s) j := by
  unfold val_main_v71
  refine joined (H := 4) _ _ _ _ b s h t j (val_main_v39 (F := Ideal) x w) cosAt sinAt ?_ ?_ ?_
  · intro j
    rw [val_main_v65_apply, val_main_v62_apply, val_main_v64_apply, val_main_v58_apply, val_main_v59_apply, val_main_v61_apply, val_main_v63_apply, val_main_v55_apply, val_main_v57_apply,
      eq_ix5 (idx_main_v58 _), eq_ix5 (idx_main_v59 _), eq_ix2 (idx_main_v55 _), eq_ix2 (idx_main_v57 _)]
    rfl
  · intro j
    rw [val_main_v70_apply, val_main_v67_apply, val_main_v69_apply, val_main_v58_apply, val_main_v59_apply, val_main_v66_apply, val_main_v68_apply, val_main_v55_apply, val_main_v57_apply,
      eq_ix5 (idx_main_v58 _), eq_ix5 (idx_main_v59 _), eq_ix2 (idx_main_v55 _), eq_ix2 (idx_main_v57 _)]
    rfl
  · intro j
    rw [val_main_v60_apply, eq_ix5 (idx_main_v60 _)]
    rfl

theorem q_entry (b : Fin 4) (s : Fin 4096) (h : Fin 8) (t : Fin 2) (j : Fin 64) :
    val_main_v3 (F := Ideal) x w (ix5 b s h t j) = pr x w ⟨b.val * 4096 + s.val, by omega⟩ ⟨(h.val * 2 + t.val) * 64 + j.val, by omega⟩ := by
  rw [val_main_v3_apply, val_main_v2_apply]
  refine v0_at x w _ _ _ ?_ ?_
  · show ((((b.val * 4096 + s.val) * 8 + h.val) * 2 + t.val) * 64 + j.val) / 1024 = b.val * 4096 + s.val
    omega
  · show ((((b.val * 4096 + s.val) * 8 + h.val) * 2 + t.val) * 64 + j.val) % 1024 = (h.val * 2 + t.val) * 64 + j.val
    omega

theorem k_entry (b : Fin 4) (s : Fin 4096) (h : Fin 4) (t : Fin 2) (j : Fin 64) :
    val_main_v39 (F := Ideal) x w (ix5 b s h t j) = pr x w ⟨b.val * 4096 + s.val, by omega⟩ ⟨(16 + (h.val * 2 + t.val)) * 64 + j.val, by omega⟩ := by
  rw [val_main_v39_apply, val_main_v38_apply]
  refine v0_at x w _ _ _ ?_ ?_
  · show ((((b.val * 4096 + s.val) * 4 + h.val) * 2 + t.val) * 64 + j.val) / 512 = b.val * 4096 + s.val
    omega
  · show 1024 + ((((b.val * 4096 + s.val) * 4 + h.val) * 2 + t.val) * 64 + j.val) % 512 = (16 + (h.val * 2 + t.val)) * 64 + j.val
    omega

theorem q_at (r : Fin 16384) (o : Fin 16) (j : Fin 64) (i : S4x4096x8x2x64.Idx) (h0 : (i 0).val = r.val / 4096) (h1 : (i 1).val = r.val % 4096)
    (h2 : (i 2).val = o.val / 2) (h3 : (i 3).val = o.val % 2) (h4 : (i 4).val = j.val) :
    val_main_v35 (F := Ideal) x w i = turned x w r ⟨o.val, by omega⟩ j := by
  obtain ⟨b, s, h, t, j', rfl⟩ : ∃ (b : Fin 4) (s : Fin 4096) (h : Fin 8) (t : Fin 2) (j' : Fin 64), i = ix5 b s h t j' := ⟨_, _, _, _, _, eq_ix5 i⟩
  replace h0 : b.val = r.val / 4096 := h0
  replace h1 : s.val = r.val % 4096 := h1
  replace h2 : h.val = o.val / 2 := h2
  replace h3 : t.val = o.val % 2 := h3
  obtain rfl : j' = j := Fin.ext h4
  obtain rfl : s = ⟨r.val % 4096, Nat.mod_lt _ (by decide)⟩ := Fin.ext h1
  rw [q_turned]
  unfold turned
  refine congrArg (fun a => rot64 a _ _ j') (funext fun j => ?_)
  rw [q_entry]
  refine congrArg₂ (pr x w) (Fin.ext ?_) (Fin.ext ?_)
  · show b.val * 4096 + r.val % 4096 = r.val
    omega
  · show (h.val * 2 + t.val) * 64 + j.val = o.val * 64 + j.val
    omega

theorem k_at (r : Fin 16384) (o : Fin 8) (j : Fin 64) (i : S4x4096x4x2x64.Idx) (h0 : (i 0).val = r.val / 4096) (h1 : (i 1).val = r.val % 4096)
    (h2 : (i 2).val = o.val / 2) (h3 : (i 3).val = o.val % 2) (h4 : (i 4).val = j.val) :
    val_main_v71 (F := Ideal) x w i = turned x w r ⟨16 + o.val, by omega⟩ j := by
  obtain ⟨b, s, h, t, j', rfl⟩ : ∃ (b : Fin 4) (s : Fin 4096) (h : Fin 4) (t : Fin 2) (j' : Fin 64), i = ix5 b s h t j' := ⟨_, _, _, _, _, eq_ix5 i⟩
  replace h0 : b.val = r.val / 4096 := h0
  replace h1 : s.val = r.val % 4096 := h1
  replace h2 : h.val = o.val / 2 := h2
  replace h3 : t.val = o.val % 2 := h3
  obtain rfl : j' = j := Fin.ext h4
  obtain rfl : s = ⟨r.val % 4096, Nat.mod_lt _ (by decide)⟩ := Fin.ext h1
  rw [k_turned]
  unfold turned
  refine congrArg (fun a => rot64 a _ _ j') (funext fun j => ?_)
  rw [k_entry]
  refine congrArg₂ (pr x w) (Fin.ext ?_) (Fin.ext ?_)
  · show b.val * 4096 + r.val % 4096 = r.val
    omega
  · show (16 + (h.val * 2 + t.val)) * 64 + j.val = (16 + o.val) * 64 + j.val
    omega

/-! ## The five results -/

/-- The queries: rotated, then scaled. -/
def qArr (i : S16384x1024.Idx) : EReal :=
  turned x w (i 0) ⟨(i 1).val / 64, by have : (i 1).val < 1024 := (i 1).isLt; omega⟩ ⟨(i 1).val % 64, Nat.mod_lt _ (by decide)⟩
    * (Scalar.ofBits (F := Ideal) .f32 0x3E000000#32 : EReal)

/-- The keys, by head. -/
def kArr (i : S16384x4x128.Idx) : EReal :=
  turned x w (i 0) ⟨16 + ((i 1).val * 2 + (i 2).val / 64), by have : (i 1).val < 4 := (i 1).isLt; have : (i 2).val < 128 := (i 2).isLt; omega⟩ ⟨(i 2).val % 64, Nat.mod_lt _ (by decide)⟩

/-- The keys, heads side by side. -/
def kbArr (i : S16384x512.Idx) : EReal :=
  turned x w (i 0) ⟨16 + (i 1).val / 64, by have : (i 1).val < 512 := (i 1).isLt; omega⟩ ⟨(i 1).val % 64, Nat.mod_lt _ (by decide)⟩

/-- The values, by head. -/
def vArr (i : S16384x4x128.Idx) : EReal :=
  pr x w (i 0) ⟨1536 + (i 1).val * 128 + (i 2).val, by have : (i 1).val < 4 := (i 1).isLt; have : (i 2).val < 128 := (i 2).isLt; omega⟩

/-- The values, heads side by side. -/
def vbArr (i : S16384x512.Idx) : EReal := pr x w (i 0) ⟨1536 + (i 1).val, by have : (i 1).val < 512 := (i 1).isLt; omega⟩

theorem ref_q : val_main_v74 (F := Ideal) x w = qArr x w := by
  funext i
  have h1 : (i 1).val < 1024 := (i 1).isLt
  show val_main_v73 (F := Ideal) x w i = _
  rw [val_main_v73_apply, val_main_v37_apply, val_main_v36_apply]
  refine congrArg (· * (Scalar.ofBits (F := Ideal) .f32 0x3E000000#32 : EReal)) (q_at x w (i 0) ⟨(i 1).val / 64, by omega⟩ ⟨(i 1).val % 64, Nat.mod_lt _ (by decide)⟩ _ ?_ ?_ ?_ ?_ ?_)
  · show ((i 0).val * 1024 + (i 1).val) / 4194304 = (i 0).val / 4096
    omega
  · show ((i 0).val * 1024 + (i 1).val) / 1024 % 4096 = (i 0).val % 4096
    omega
  · show ((i 0).val * 1024 + (i 1).val) / 128 % 8 = (i 1).val / 64 / 2
    omega
  · show ((i 0).val * 1024 + (i 1).val) / 64 % 2 = (i 1).val / 64 % 2
    omega
  · show ((i 0).val * 1024 + (i 1).val) % 64 = (i 1).val % 64
    omega

theorem ref_k : val_main_v75 (F := Ideal) x w = kArr x w := by
  funext i
  have h1 : (i 1).val < 4 := (i 1).isLt
  have h2 : (i 2).val < 128 := (i 2).isLt
  rw [val_main_v75_apply]
  refine k_at x w (i 0) ⟨(i 1).val * 2 + (i 2).val / 64, by omega⟩ ⟨(i 2).val % 64, Nat.mod_lt _ (by decide)⟩ _ ?_ ?_ ?_ ?_ ?_
  · show (((i 0).val * 4 + (i 1).val) * 128 + (i 2).val) / 2097152 = (i 0).val / 4096
    omega
  · show (((i 0).val * 4 + (i 1).val) * 128 + (i 2).val) / 512 % 4096 = (i 0).val % 4096
    omega
  · show (((i 0).val * 4 + (i 1).val) * 128 + (i 2).val) / 128 % 4 = ((i 1).val * 2 + (i 2).val / 64) / 2
    omega
  · show (((i 0).val * 4 + (i 1).val) * 128 + (i 2).val) / 64 % 2 = ((i 1).val * 2 + (i 2).val / 64) % 2
    omega
  · show (((i 0).val * 4 + (i 1).val) * 128 + (i 2).val) % 64 = (i 2).val % 64
    omega

theorem ref_kb : val_main_v77 (F := Ideal) x w = kbArr x w := by
  funext i
  have h1 : (i 1).val < 512 := (i 1).isLt
  show val_main_v76 (F := Ideal) x w i = _
  rw [val_main_v76_apply]
  refine k_at x w (i 0) ⟨(i 1).val / 64, by omega⟩ ⟨(i 1).val % 64, Nat.mod_lt _ (by decide)⟩ _ ?_ ?_ ?_ ?_ ?_
  · show ((i 0).val * 512 + (i 1).val) / 2097152 = (i 0).val / 4096
    omega
  · show ((i 0).val * 512 + (i 1).val) / 512 % 4096 = (i 0).val % 4096
    omega
  · show ((i 0).val * 512 + (i 1).val) / 128 % 4 = (i 1).val / 64 / 2
    omega
  · show ((i 0).val * 512 + (i 1).val) / 64 % 2 = (i 1).val / 64 % 2
    omega
  · show ((i 0).val * 512 + (i 1).val) % 64 = (i 1).val % 64
    omega

theorem ref_v : val_main_v78 (F := Ideal) x w = vArr x w := by
  funext i
  have h1 : (i 1).val < 4 := (i 1).isLt
  have h2 : (i 2).val < 128 := (i 2).isLt
  rw [val_main_v78_apply, val_main_v72_apply]
  refine v0_at x w _ _ _ ?_ ?_
  · show (((i 0).val * 4 + (i 1).val) * 128 + (i 2).val) / 512 = (i 0).val
    omega
  · show 1536 + (((i 0).val * 4 + (i 1).val) * 128 + (i 2).val) % 512 = 1536 + (i 1).val * 128 + (i 2).val
    omega

theorem ref_vb : val_main_v79 (F := Ideal) x w = vbArr x w := by
  funext i
  show val_main_v72 (F := Ideal) x w i = _
  rw [val_main_v72_apply]
  exact v0_at x w _ _ _ rfl rfl

end

end Cert.Qkv

end
-- ==== Proof.QkvTab.lean ====
/- The projection of the attention's queries, keys and values: the rotation tables the kernel makes before it runs. -/
module

public import proofs.«01_k».proof.Proof.QkvBlk
public import proofs.«01_k».proof.Proof.QkvRef

@[expose] public section

set_option maxRecDepth 16384

noncomputable section

namespace Cert.Qkv

open Cert.Kernel5Ideal Cert.Kernel5Ideal.Gen
open Idealize.ShloMosaic Idealize.ShloMosaic.TcCoe

/-- A row of a table: in each half eight entries of one kind, eight of another, then a constant. -/
def tab (A B : Fin 8 → EReal) (R : EReal) (e : Fin 128) : EReal :=
  if e.val % 64 < 8 then A ⟨e.val % 64 % 8, Nat.mod_lt _ (by decide)⟩
  else if e.val % 64 < 16 then B ⟨e.val % 64 % 8, Nat.mod_lt _ (by decide)⟩
  else R

/-- With these tables the rotation of lanes is the rotation of each half. -/
theorem rotAt_tab (a : Fin 128 → EReal) (C S : Fin 8 → EReal) (e : Fin 128) :
    rotAt a (tab C C 1) (tab (fun j => -S j) (fun _ => 0) 0) (tab (fun _ => 0) S 0) e
      = rot64 (fun j => a ⟨e.val / 64 * 64 + j.val, by omega⟩) C S ⟨e.val % 64, Nat.mod_lt _ (by decide)⟩ := by
  have e0 : (⟨e.val / 64 * 64 + e.val % 64, by omega⟩ : Fin 128) = e := Fin.ext (by show e.val / 64 * 64 + e.val % 64 = e.val; omega)
  unfold rotAt rot64 tab
  dsimp only
  rw [e0]
  by_cases h8 : e.val % 64 < 8
  · have e1 : (⟨e.val / 64 * 64 + (e.val % 64 + 8) % 64, by omega⟩ : Fin 128) = ⟨(e.val + 8) % 128, Nat.mod_lt _ (by decide)⟩ :=
      Fin.ext (by show e.val / 64 * 64 + (e.val % 64 + 8) % 64 = (e.val + 8) % 128; omega)
    simp only [if_pos h8]
    rw [e1, mul_zero, add_zero, mul_neg, sub_eq_add_neg]
  · by_cases h16 : e.val % 64 < 16
    · have e1 : (⟨e.val / 64 * 64 + (e.val % 64 + 56) % 64, by omega⟩ : Fin 128) = ⟨(e.val + 120) % 128, Nat.mod_lt _ (by decide)⟩ :=
        Fin.ext (by show e.val / 64 * 64 + (e.val % 64 + 56) % 64 = (e.val + 120) % 128; omega)
      simp only [if_neg h8, if_pos h16]
      rw [e1, mul_zero, add_zero]
    · simp only [if_neg h8, if_neg h16]
      rw [mul_zero, mul_zero, add_zero, add_zero, mul_one]

section
variable (A B : S4096x8.Idx → EReal) (Z : S4096x48.Idx → EReal)

/-- The parts a table is joined of. -/
abbrev pieces : List ((s : Shape) × (s.Idx → EReal)) := [⟨S4096x8, A⟩, ⟨S4096x8, B⟩, ⟨S4096x48, Z⟩, ⟨S4096x8, A⟩, ⟨S4096x8, B⟩, ⟨S4096x48, Z⟩]

theorem off_row {n : ℕ} (s : Fin 4096) (e : Fin 128) (j : Fin n) (a : Fin (⟨2, ![4096, n]⟩ : Shape).rank) (ha : a.cast rfl ≠ (1 : Fin S4096x128.rank)) :
    (ix2 s j a).val = (ix2 s e (a.cast (rfl : (⟨2, ![4096, n]⟩ : Shape).rank = S4096x128.rank))).val := by
  match a, ha with
  | ⟨0, _⟩, _ => rfl
  | ⟨1, _⟩, ha => exact absurd rfl ha

theorem table (hcat : Shape.Concatenates ((pieces A B Z).map (·.1)) S4096x128 1) (R : EReal) (hZ : ∀ i, Z i = R) (s : Fin 4096) (e : Fin 128) :
    concatenate S4096x128 1 (pieces A B Z) hcat (ix2 s e) = tab (fun j => A (ix2 s j)) (fun j => B (ix2 s j)) R e := by
  unfold tab
  by_cases h8 : e.val % 64 < 8
  · rw [if_pos h8]
    by_cases hh : e.val < 64
    · exact concatenate_apply_piece 1 (pieces A B Z) hcat _ 0 (by show 0 < 6; omega) S4096x8 A rfl rfl 0 rfl _ (off_row s e _) (by show 0 + e.val % 64 % 8 = e.val; omega)
    · exact concatenate_apply_piece 1 (pieces A B Z) hcat _ 3 (by show 3 < 6; omega) S4096x8 A rfl rfl 64 rfl _ (off_row s e _) (by show 64 + e.val % 64 % 8 = e.val; omega)
  · rw [if_neg h8]
    by_cases h16 : e.val % 64 < 16
    · rw [if_pos h16]
      by_cases hh : e.val < 64
      · exact concatenate_apply_piece 1 (pieces A B Z) hcat _ 1 (by show 1 < 6; omega) S4096x8 B rfl rfl 8 rfl _ (off_row s e _) (by show 8 + e.val % 64 % 8 = e.val; omega)
      · exact concatenate_apply_piece 1 (pieces A B Z) hcat _ 4 (by show 4 < 6; omega) S4096x8 B rfl rfl 72 rfl _ (off_row s e _) (by show 72 + e.val % 64 % 8 = e.val; omega)
    · rw [if_neg h16]
      by_cases hh : e.val < 64
      · exact (concatenate_apply_piece 1 (pieces A B Z) hcat _ 2 (by show 2 < 6; omega) S4096x48 Z rfl rfl 16 rfl (ix2 s ⟨e.val % 64 - 16, by omega⟩) (off_row s e _)
          (by show 16 + (e.val % 64 - 16) = e.val; omega)).trans (hZ _)
      · exact (concatenate_apply_piece 1 (pieces A B Z) hcat _ 5 (by show 5 < 6; omega) S4096x48 Z rfl rfl 80 rfl (ix2 s ⟨e.val % 64 - 16, by omega⟩) (off_row s e _)
          (by show 80 + (e.val % 64 - 16) = e.val; omega)).trans (hZ _)

end

variable (m : (ℓ : Loc nD τ sig) → Buf (Elt Ideal) ℓ)

/-- The cosines as an array, and the sines. -/
abbrev cosArr : S4096x8.Idx → EReal := Cert.Reference5Ideal.Read.val_main_v18 (F := Ideal)
abbrev sinArr : S4096x8.Idx → EReal := Cert.Reference5Ideal.Read.val_main_v20 (F := Ideal)

theorem V_cos (c : Dev nD) : (V m c main_v22 : S4096x128.Idx → EReal) = concatenate S4096x128 1
    (pieces cosArr cosArr (broadcastInDim S4096x48 ![] bcast_S_S4096x48 (constant S_ .f32 0x3F800000#32 : FVec Ideal S_ .f32)))
    concatenates_S4096x8_S4096x8_S4096x48_S4096x8_S4096x8_S4096x48_S4096x128_d1 := rfl

theorem V_sa (c : Dev nD) : (V m c main_v25 : S4096x128.Idx → EReal) = concatenate S4096x128 1
    (pieces (Host.negf (F := Ideal) (φ := .f32) sinArr) (broadcastInDim S4096x8 ![] bcast_S_S4096x8 (constant S_ .f32 0x00000000#32 : FVec Ideal S_ .f32))
      (broadcastInDim S4096x48 ![] bcast_S_S4096x48 (constant S_ .f32 0x00000000#32 : FVec Ideal S_ .f32)))
    concatenates_S4096x8_S4096x8_S4096x48_S4096x8_S4096x8_S4096x48_S4096x128_d1 := rfl

theorem V_sb (c : Dev nD) : (V m c main_v26 : S4096x128.Idx → EReal) = concatenate S4096x128 1
    (pieces (broadcastInDim S4096x8 ![] bcast_S_S4096x8 (constant S_ .f32 0x00000000#32 : FVec Ideal S_ .f32)) sinArr
      (broadcastInDim S4096x48 ![] bcast_S_S4096x48 (constant S_ .f32 0x00000000#32 : FVec Ideal S_ .f32)))
    concatenates_S4096x8_S4096x8_S4096x48_S4096x8_S4096x8_S4096x48_S4096x128_d1 := rfl

theorem cos_row (c : Dev nD) (s : Fin 4096) (e : Fin 128) : (V m c main_v22 : S4096x128.Idx → EReal) (ix2 s e) = tab (cosAt s) (cosAt s) 1 e := by
  rw [V_cos]
  exact table _ _ _ _ 1 (fun i => Ideal.ofBits_one_f32) s e

theorem sa_row (c : Dev nD) (s : Fin 4096) (e : Fin 128) : (V m c main_v25 : S4096x128.Idx → EReal) (ix2 s e) = tab (fun j => -sinAt s j) (fun _ => 0) 0 e := by
  rw [V_sa]
  refine (table _ _ _ _ 0 (fun i => Ideal.ofBits_zero_f32) s e).trans ?_
  exact congrArg (fun f => tab (fun j => -sinAt s j) f 0 e) (funext fun j => Ideal.ofBits_zero_f32)

theorem sb_row (c : Dev nD) (s : Fin 4096) (e : Fin 128) : (V m c main_v26 : S4096x128.Idx → EReal) (ix2 s e) = tab (fun _ => 0) (sinAt s) 0 e := by
  rw [V_sb]
  refine (table _ _ _ _ 0 (fun i => Ideal.ofBits_zero_f32) s e).trans ?_
  exact congrArg (fun f => tab f (sinAt s) 0 e) (funext fun j => Ideal.ofBits_zero_f32)

end Cert.Qkv

end
-- ==== Proof.QkvValue.lean ====
/- The projection of the attention's queries, keys and values: the five result arrays, and the equal results. -/
module

public import proofs.«01_k».proof.Proof.QkvTab
public import proofs.«01_k».proof.Proof.Gen.Reference5Ideal.Run

@[expose] public section

set_option maxRecDepth 16384

noncomputable section

namespace Cert.Qkv

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-! ## The blocks of a grid point -/

/-- Where the windows of a point stand. -/
theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = t.val % 8 ∧ win0_4.index t (1 : Fin 2) = 0 :=
  (by decide +kernel : ∀ t : Fin grid0.N, _)

theorem places_out : ∀ t : Fin cfg0.N, win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0
    ∧ win0_9.index t (0 : Fin 2) = t.val ∧ win0_9.index t (1 : Fin 2) = 0 :=
  (by decide +kernel : ∀ t : Fin grid0.N, _)

theorem lt_N (t : Fin cfg0.N) : t.val < 32 := lt_of_lt_of_eq t.isLt N_0

/-- The row of the arrays that row `r` of a point's block is. -/
def row (t : Fin cfg0.N) (r : Fin 512) : Fin 16384 := ⟨t.val * 512 + r.val, by have := lt_N t; omega⟩

/-- The position that row is at. -/
def posn (t : Fin cfg0.N) (r : Fin 512) : Fin 4096 := ⟨t.val % 8 * 512 + r.val, by omega⟩

theorem xblk (c : Dev nD) (t : Fin cfg0.N) (r : Fin 512) (k : Fin 1024) :
    (iblk m c 0 t : S512x1024.Idx → EReal) (ix2 r k) = m ((c.tc : Thread nD τ).loc main_arg0) (ix2 (row t r) k) := by
  unfold iblk
  rw [show V m c (Pipeline.arrRef spec0 0) = m ((c.tc : Thread nD τ).loc main_arg0) from V_main_arg0 m c]
  refine congrArg (m ((c.tc : Thread nD τ).loc main_arg0)) (?_ : (win0_0.rect t).emb (ix2 r k) = _)
  funext a
  fin_cases a
  · exact Fin.ext ((win0_0.rect_emb_val t (ix2 r k) 0).trans (by rw [(places t).1]; rfl))
  · exact Fin.ext ((win0_0.rect_emb_val t (ix2 r k) 1).trans (by rw [(places t).2.1]; show 0 * 1024 + k.val = k.val; omega))

theorem weights (c : Dev nD) (k : Fin 1024) (e : Fin 2048) :
    (V m c main_v1 : S1024x2048.Idx → EReal) (ix2 k e) = m ((c.tc : Thread nD τ).loc main_arg1) (ix2 k ⟨e.val, by omega⟩) := by
  generalize hw : (m ((c.tc : Thread nD τ).loc main_arg1) : S1024x11808.Idx → EReal) = w
  have h : V m c main_v1 = (truncf .bf16 (extractStridedSlice S1024x2048 ![0, 0] w slices_S1024x11808_S1024x2048_0_0 : FVec Ideal S1024x2048 .f32) bitsLt_bf16_f32
      : S1024x2048.Idx → EReal) := by
    rw [← hw]
    rfl
  rw [h]
  pointwise

theorem wblk (c : Dev nD) (t : Fin cfg0.N) (k : Fin 1024) (e : Fin 2048) :
    (iblk m c 1 t : S1024x2048.Idx → EReal) (ix2 k e) = m ((c.tc : Thread nD τ).loc main_arg1) (ix2 k ⟨e.val, by omega⟩) := by
  refine Eq.trans ?_ (weights m c k e)
  unfold iblk
  refine congrArg (V m c main_v1) (?_ : (win0_1.rect t).emb (ix2 k e) = _)
  funext a
  fin_cases a
  · exact Fin.ext ((win0_1.rect_emb_val t (ix2 k e) 0).trans (by rw [(places t).2.2.1]; show 0 * 1024 + k.val = k.val; omega))
  · exact Fin.ext ((win0_1.rect_emb_val t (ix2 k e) 1).trans (by rw [(places t).2.2.2.1]; show 0 * 2048 + e.val = e.val; omega))

theorem cblk (c : Dev nD) (t : Fin cfg0.N) (r : Fin 512) (e : Fin 128) :
    (iblk m c 2 t : S512x128.Idx → EReal) (ix2 r e) = tab (cosAt (posn t r)) (cosAt (posn t r)) 1 e := by
  refine Eq.trans ?_ (cos_row m c (posn t r) e)
  unfold iblk
  refine congrArg (V m c main_v22) (?_ : (win0_2.rect t).emb (ix2 r e) = _)
  funext a
  fin_cases a
  · exact Fin.ext ((win0_2.rect_emb_val t (ix2 r e) 0).trans (by rw [(places t).2.2.2.2.1]; rfl))
  · exact Fin.ext ((win0_2.rect_emb_val t (ix2 r e) 1).trans (by rw [(places t).2.2.2.2.2.1]; show 0 * 128 + e.val = e.val; omega))

theorem sablk (c : Dev nD) (t : Fin cfg0.N) (r : Fin 512) (e : Fin 128) :
    (iblk m c 3 t : S512x128.Idx → EReal) (ix2 r e) = tab (fun j => -sinAt (posn t r) j) (fun _ => 0) 0 e := by
  refine Eq.trans ?_ (sa_row m c (posn t r) e)
  unfold iblk
  refine congrArg (V m c main_v25) (?_ : (win0_3.rect t).emb (ix2 r e) = _)
  funext a
  fin_cases a
  · exact Fin.ext ((win0_3.rect_emb_val t (ix2 r e) 0).trans (by rw [(places t).2.2.2.2.2.2.1]; rfl))
  · exact Fin.ext ((win0_3.rect_emb_val t (ix2 r e) 1).trans (by rw [(places t).2.2.2.2.2.2.2.1]; show 0 * 128 + e.val = e.val; omega))

theorem sbblk (c : Dev nD) (t : Fin cfg0.N) (r : Fin 512) (e : Fin 128) :
    (iblk m c 4 t : S512x128.Idx → EReal) (ix2 r e) = tab (fun _ => 0) (sinAt (posn t r)) 0 e := by
  refine Eq.trans ?_ (sb_row m c (posn t r) e)
  unfold iblk
  refine congrArg (V m c main_v26) (?_ : (win0_4.rect t).emb (ix2 r e) = _)
  funext a
  fin_cases a
  · exact Fin.ext ((win0_4.rect_emb_val t (ix2 r e) 0).trans (by rw [(places t).2.2.2.2.2.2.2.2.1]; rfl))
  · exact Fin.ext ((win0_4.rect_emb_val t (ix2 r e) 1).trans (by rw [(places t).2.2.2.2.2.2.2.2.2]; show 0 * 128 + e.val = e.val; omega))

/-! ## The entries of a point's blocks -/

/-- The activations and the weights. -/
abbrev actv (c : Dev nD) : S16384x1024.Idx → EReal := m ((c.tc : Thread nD τ).loc main_arg0)
abbrev wts (c : Dev nD) : S1024x11808.Idx → EReal := m ((c.tc : Thread nD τ).loc main_arg1)

theorem projd_at (c : Dev nD) (t : Fin cfg0.N) (r : Fin 512) (e : Fin 2048) :
    projd (iblk m c 0 t) (iblk m c 1 t) (ix2 r e) = pr (actv m c) (wts m c) (row t r) e := by
  refine (projd_apply _ _ r e).trans (Finset.sum_congr rfl fun k _ => ?_)
  exact congrArg₂ (· * ·) (xblk m c t r k) (wblk m c t k e)

theorem rope_at (c : Dev nD) (t : Fin cfg0.N) (r : Fin 512) (g : Fin 16) (e : Fin 128) (o : Fin 24) (ho : o.val = g.val * 2 + e.val / 64) (j : Fin 64) (hj : j.val = e.val % 64) :
    rope (projd (iblk m c 0 t) (iblk m c 1 t)) (iblk m c 2 t) (iblk m c 3 t) (iblk m c 4 t) r g e = turned (actv m c) (wts m c) (row t r) o j := by
  obtain rfl : j = ⟨e.val % 64, Nat.mod_lt _ (by decide)⟩ := Fin.ext hj
  have hp : posn t r = ⟨(row t r).val % 4096, Nat.mod_lt _ (by decide)⟩ := Fin.ext (by show t.val % 8 * 512 + r.val = (t.val * 512 + r.val) % 4096; omega)
  unfold rope
  rw [show (fun e : Fin 128 => projd (iblk m c 0 t) (iblk m c 1 t) (ix2 r (⟨g.val * 128 + e.val, by omega⟩ : Fin 2048))) = fun e => pr (actv m c) (wts m c) (row t r) ⟨g.val * 128 + e.val, by omega⟩
      from funext fun e => projd_at m c t r _, funext (cblk m c t r), funext (sablk m c t r), funext (sbblk m c t r), rotAt_tab, hp]
  unfold turned
  refine congrArg (fun a => rot64 a _ _ _) (funext fun j => congrArg (pr (actv m c) (wts m c) (row t r)) (Fin.ext ?_))
  show g.val * 128 + (e.val / 64 * 64 + j.val) = o.val * 64 + j.val
  omega

/-! ## The arrays -/

theorem emb_q (t : Fin cfg0.N) (r : Fin 512) (e : Fin 1024) : ((win0_5.blk t).view.emb (ix2 r e) : S16384x1024.Idx) = ix2 (row t r) e := by
  refine (?_ : (win0_5.rect t).emb (ix2 r e) = _)
  funext a
  fin_cases a
  · exact Fin.ext ((win0_5.rect_emb_val t (ix2 r e) 0).trans (by rw [(places_out t).1]; rfl))
  · exact Fin.ext ((win0_5.rect_emb_val t (ix2 r e) 1).trans (by rw [(places_out t).2.1]; show 0 * 1024 + e.val = e.val; omega))

theorem emb_k (t : Fin cfg0.N) (r : Fin 512) (h : Fin 4) (e : Fin 128) : ((win0_6.blk t).view.emb (ix3 r h e) : S16384x4x128.Idx) = ix3 (row t r) h e := by
  refine (?_ : (win0_6.rect t).emb (ix3 r h e) = _)
  funext a
  fin_cases a
  · exact Fin.ext ((win0_6.rect_emb_val t (ix3 r h e) 0).trans (by rw [(places_out t).2.2.1]; rfl))
  · exact Fin.ext ((win0_6.rect_emb_val t (ix3 r h e) 1).trans (by rw [(places_out t).2.2.2.1]; show 0 * 4 + h.val = h.val; omega))
  · exact Fin.ext ((win0_6.rect_emb_val t (ix3 r h e) 2).trans (by rw [(places_out t).2.2.2.2.1]; show 0 * 128 + e.val = e.val; omega))

theorem emb_kb (t : Fin cfg0.N) (r : Fin 512) (e : Fin 512) : ((win0_7.blk t).view.emb (ix2 r e) : S16384x512.Idx) = ix2 (row t r) e := by
  refine (?_ : (win0_7.rect t).emb (ix2 r e) = _)
  funext a
  fin_cases a
  · exact Fin.ext ((win0_7.rect_emb_val t (ix2 r e) 0).trans (by rw [(places_out t).2.2.2.2.2.1]; rfl))
  · exact Fin.ext ((win0_7.rect_emb_val t (ix2 r e) 1).trans (by rw [(places_out t).2.2.2.2.2.2.1]; show 0 * 512 + e.val = e.val; omega))

theorem emb_v (t : Fin cfg0.N) (r : Fin 512) (h : Fin 4) (e : Fin 128) : ((win0_8.blk t).view.emb (ix3 r h e) : S16384x4x128.Idx) = ix3 (row t r) h e := by
  refine (?_ : (win0_8.rect t).emb (ix3 r h e) = _)
  funext a
  fin_cases a
  · exact Fin.ext ((win0_8.rect_emb_val t (ix3 r h e) 0).trans (by rw [(places_out t).2.2.2.2.2.2.2.1]; rfl))
  · exact Fin.ext ((win0_8.rect_emb_val t (ix3 r h e) 1).trans (by rw [(places_out t).2.2.2.2.2.2.2.2.1]; show 0 * 4 + h.val = h.val; omega))
  · exact Fin.ext ((win0_8.rect_emb_val t (ix3 r h e) 2).trans (by rw [(places_out t).2.2.2.2.2.2.2.2.2.1]; show 0 * 128 + e.val = e.val; omega))

theorem emb_vb (t : Fin cfg0.N) (r : Fin 512) (e : Fin 512) : ((win0_9.blk t).view.emb (ix2 r e) : S16384x512.Idx) = ix2 (row t r) e := by
  refine (?_ : (win0_9.rect t).emb (ix2 r e) = _)
  funext a
  fin_cases a
  · exact Fin.ext ((win0_9.rect_emb_val t (ix2 r e) 0).trans (by rw [(places_out t).2.2.2.2.2.2.2.2.2.2.1]; rfl))
  · exact Fin.ext ((win0_9.rect_emb_val t (ix2 r e) 1).trans (by rw [(places_out t).2.2.2.2.2.2.2.2.2.2.2]; show 0 * 512 + e.val = e.val; omega))

theorem final_q (c : Dev nD) : (dats m 0 c).arrAt 5 cfg0.N = qArr (actv m c) (wts m c) := by
  generalize hG : qArr (actv m c) (wts m c) = G
  refine (dats m 0 c).arrAt_eq_of_covers 5 G (by decide +kernel) fun t _ y => ?_
  blk_simp
  rw [after0_5, out5]
  obtain ⟨r, e, rfl⟩ : ∃ (r : Fin 512) (e : Fin 1024), y = ix2 r e := ⟨_, _, eq_ix2 y⟩
  refine Eq.trans ?_ (congrArg G (emb_q t r e).symm)
  rw [← hG]
  exact congrArg (· * (Scalar.ofBits (F := Ideal) .f32 0x3E000000#32 : EReal)) (rope_at m c t r _ _ _
    (by show e.val / 64 = e.val / 128 * 2 + e.val % 128 / 64; omega) _ (by show e.val % 64 = e.val % 128 % 64; omega))

theorem final_k (c : Dev nD) : (dats m 0 c).arrAt 6 cfg0.N = kArr (actv m c) (wts m c) := by
  generalize hG : kArr (actv m c) (wts m c) = G
  refine (dats m 0 c).arrAt_eq_of_covers 6 G (by decide +kernel) fun t _ y => ?_
  blk_simp
  rw [after0_6, out6]
  obtain ⟨r, h, e, rfl⟩ : ∃ (r : Fin 512) (h : Fin 4) (e : Fin 128), y = ix3 r h e := ⟨_, _, _, eq_ix3 y⟩
  refine Eq.trans ?_ (congrArg G (emb_k t r h e).symm)
  rw [← hG]
  exact rope_at m c t r _ _ _ (by show 16 + (h.val * 2 + e.val / 64) = (8 + h.val) * 2 + e.val / 64; omega) _ rfl

theorem final_kb (c : Dev nD) : (dats m 0 c).arrAt 7 cfg0.N = kbArr (actv m c) (wts m c) := by
  generalize hG : kbArr (actv m c) (wts m c) = G
  refine (dats m 0 c).arrAt_eq_of_covers 7 G (by decide +kernel) fun t _ y => ?_
  blk_simp
  rw [after0_7, out7]
  obtain ⟨r, e, rfl⟩ : ∃ (r : Fin 512) (e : Fin 512), y = ix2 r e := ⟨_, _, eq_ix2 y⟩
  refine Eq.trans ?_ (congrArg G (emb_kb t r e).symm)
  rw [← hG]
  exact rope_at m c t r _ _ _ (by show 16 + e.val / 64 = (8 + e.val / 128) * 2 + e.val % 128 / 64; omega) _ (by show e.val % 64 = e.val % 128 % 64; omega)

theorem final_v (c : Dev nD) : (dats m 0 c).arrAt 8 cfg0.N = vArr (actv m c) (wts m c) := by
  generalize hG : vArr (actv m c) (wts m c) = G
  refine (dats m 0 c).arrAt_eq_of_covers 8 G (by decide +kernel) fun t _ y => ?_
  blk_simp
  rw [after0_8, out8]
  obtain ⟨r, h, e, rfl⟩ : ∃ (r : Fin 512) (h : Fin 4) (e : Fin 128), y = ix3 r h e := ⟨_, _, _, eq_ix3 y⟩
  refine Eq.trans ?_ (congrArg G (emb_v t r h e).symm)
  rw [← hG]
  exact projd_at m c t r _

theorem final_vb (c : Dev nD) : (dats m 0 c).arrAt 9 cfg0.N = vbArr (actv m c) (wts m c) := by
  generalize hG : vbArr (actv m c) (wts m c) = G
  refine (dats m 0 c).arrAt_eq_of_covers 9 G (by decide +kernel) fun t _ y => ?_
  blk_simp
  rw [after0_9, out9]
  obtain ⟨r, e, rfl⟩ : ∃ (r : Fin 512) (e : Fin 512), y = ix2 r e := ⟨_, _, eq_ix2 y⟩
  refine Eq.trans ?_ (congrArg G (emb_vb t r e).symm)
  rw [← hG]
  exact projd_at m c t r _

/-- The idealized kernel and the idealized reference, from equal arguments, leave equal results. -/
theorem same_results : Cert.algebraic_Kernel5Ideal_Reference5Ideal := by
  intro m g m' g' _ hargs
  refine ⟨fun c => qArr (actv m c) (wts m c), fun c => kArr (actv m c) (wts m c), fun c => kbArr (actv m c) (wts m c),
    fun c => vArr (actv m c) (wts m c), fun c => vbArr (actv m c) (wts m c), ?_, ?_⟩
  · exact (θ_run Cert.Kernel5Ideal.defs _ _).mono (fun r h c => ⟨(h c).1.trans (final_q m c), (h c).2.1.trans (final_k m c), (h c).2.2.1.trans (final_kb m c),
      (h c).2.2.2.1.trans (final_v m c), (h c).2.2.2.2.1.trans (final_vb m c), (h c).2.2.2.2.2⟩) (Value.run_blocks (F := Ideal) m g)
  · refine (θ_run Cert.Reference5Ideal.defs _ _).mono (fun r h c => ?_) (Cert.Reference5Ideal.Value.run (F := Ideal) m' g')
    obtain ⟨e0, e1⟩ := hargs c
    obtain ⟨h1, h2, h3, h4, h5, h6⟩ := h c
    refine ⟨h1.trans ?_, h2.trans ?_, h3.trans ?_, h4.trans ?_, h5.trans ?_, h6⟩
    · rw [Cert.Reference5Ideal.Read.val_main_v74_eq, e0, e1]
      exact ref_q _ _
    · rw [Cert.Reference5Ideal.Read.val_main_v75_eq, e0, e1]
      exact ref_k _ _
    · rw [Cert.Reference5Ideal.Read.val_main_v77_eq, e0, e1]
      exact ref_kb _ _
    · rw [e0, e1]
      exact (Cert.Reference5Ideal.Read.val_main_v78_eq _ _).trans (ref_v _ _)
    · rw [e0, e1]
      exact (Cert.Reference5Ideal.Read.val_main_v79_eq _ _).trans (ref_vb _ _)

end Cert.Qkv

end
-- ==== Proof.MergeRow.lean ====
/- The merge of the mixers, one row of it: the gated sum of the three mixers, the norm, the router's logits and the
   shared expert, as functions of the row's entries and the weights. -/
module

public import Idealize.ShloMosaic.Lib.Pointwise

@[expose] public section

noncomputable section

namespace Cert.Merge

open Idealize.ShloMosaic

/-- The logistic function, as both programs compute it. -/
def sg (x : EReal) : EReal := Ideal.div 1 (1 + Ideal.exp (-x))

/-- A row times a matrix. -/
def dotAt {n k : ℕ} (a : Fin k → EReal) (w : Fin k → Fin n → EReal) (e : Fin n) : EReal := ∑ i : Fin k, a i * w i e

/-- The weight of the residual. -/
abbrev alpha : EReal := Ideal.ofBits FTy.f32 0x3FB504F3#32

/-- The three mixers' outputs, each projected and weighted by its gate. -/
def mixAt (a s n g0 g1 g2 : Fin 1024 → EReal) (wa ws wn : Fin 1024 → Fin 1024 → EReal) (e : Fin 1024) : EReal :=
  sg (g0 e) * dotAt a wa e + sg (g1 e) * dotAt s ws e + sg (g2 e) * dotAt n wn e

/-- The residual and the projected mixture. -/
def resAt (x u : Fin 1024 → EReal) (wo : Fin 1024 → Fin 1024 → EReal) (e : Fin 1024) : EReal := alpha * x e + dotAt u wo e

/-- A row's mean. -/
def mean (y : Fin 1024 → EReal) : EReal := Ideal.div (∑ k, y k) (Ideal.ofBits FTy.f32 0x44800000#32)

/-- A row normed: centred, divided by its deviation, scaled and shifted. -/
def lnAt (y g b : Fin 1024 → EReal) (e : Fin 1024) : EReal :=
  (y e - mean y) * Ideal.rsqrt (mean (fun k => (y k - mean y) * (y k - mean y)) + Ideal.ofBits FTy.f32 0x3727C5AC#32) * g e + b e

/-- The hidden row of the shared expert. -/
def hidAt (z : Fin 1024 → EReal) (wg wu : Fin 1024 → Fin 256 → EReal) (h : Fin 256) : EReal :=
  dotAt z wg h * sg (dotAt z wg h) * dotAt z wu h

/-- The residual of the normed row and the shared expert's output. -/
def shAt (z : Fin 1024 → EReal) (wg wu : Fin 1024 → Fin 256 → EReal) (wd : Fin 256 → Fin 1024 → EReal) (e : Fin 1024) : EReal :=
  alpha * z e + dotAt (hidAt z wg wu) wd e

/-- The router's matrix with columns of zeros behind it. -/
def padded (w : Fin 1024 → Fin 64 → EReal) (k : Fin 1024) (e : Fin 128) : EReal := if h : e.val < 64 then w k ⟨e.val, h⟩ else 0

theorem dotAt_padded (z : Fin 1024 → EReal) (w : Fin 1024 → Fin 64 → EReal) (e : Fin 128) :
    dotAt z (padded w) e = if h : e.val < 64 then dotAt z w ⟨e.val, h⟩ else 0 := by
  unfold dotAt padded
  by_cases h : e.val < 64
  · simp [h]
  · simp [h]

end Cert.Merge

end
-- ==== Proof.MergeBlk.lean ====
/- The merge of the mixers: what one grid point leaves in its three output blocks. -/
module

public import proofs.«01_k».proof.Defs
public import proofs.«01_k».proof.Proof.MergeRow
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Merge

open Cert.Kernel6Ideal Cert.Kernel6Ideal.Gen
open Idealize.ShloMosaic Idealize.ShloMosaic.TcCoe

/-! ## The stages of a block -/

/-- The normed block before its shift, from the residual's block. -/
def normv (y : FVec Ideal S512x1024 .f32) (g : FVec Ideal S1x1024 .f32) : FVec Ideal S512x1024 .f32 :=
  let mu : FVec Ideal S512x1 .f32 := divf (shapeCast S512x1 (multiReduction .add [1] S512 y 0x00000000#32 reduces_S512x1024_S512 (.inl rfl) rfl) shapeCasts_S512_S512x1) (broadcast S512x1 (Scalar.ofBits .f32 0x44800000#32))
  let yc : FVec Ideal S512x1024 .f32 := subf y (broadcastTo S512x1024 mu broadcasts_S512x1_S512x1024)
  let va : FVec Ideal S512x1 .f32 := divf (shapeCast S512x1 (multiReduction .add [1] S512 (mulf yc yc) 0x00000000#32 reduces_S512x1024_S512 (.inl rfl) rfl) shapeCasts_S512_S512x1) (broadcast S512x1 (Scalar.ofBits .f32 0x44800000#32))
  mulf (mulf yc (broadcastTo S512x1024 (rsqrt (addf va (broadcast S512x1 (Scalar.ofBits .f32 0x3727C5AC#32)))) broadcasts_S512x1_S512x1024))
    (broadcastTo S512x1024 (shapeCast S1x1024 g shapeCasts_S1x1024_S1x1024 : FVec Ideal S1x1024 .f32) broadcasts_S1x1024_S512x1024)

theorem normv_apply (y : FVec Ideal S512x1024 .f32) (g b : FVec Ideal S1x1024 .f32) (r : Fin 512) (e : Fin 1024) :
    k0_pay1 (normv y g) (k0_pay9 b) (ix2 r e) = lnAt (fun k => y (ix2 r k)) (fun k => g (ix2 0 k)) (fun k => b (ix2 0 k)) e := by
  pointwise [k0_pay1, normv, k0_pay9]
  rfl

/-- The residual's block, from the gated sum of two mixers and the third. -/
def resv (v28 v33 v34 : FVec Ideal S512x1024 .f32) (v38 : FVec Ideal S512x1024 .bf16) (v39 : FVec Ideal S1024x1024 .bf16) (v44 : FVec Ideal S512x1024 .f32) (v48 : FVec Ideal S1024x1024 .bf16) : FVec Ideal S512x1024 .f32 :=
  let third : FVec Ideal S512x1024 .f32 := matmul dot_S512x1024_S1024x1024_S512x1024_1_0_0_1_n_n none v38 (shapeCast S1024x1024 v39 shapeCasts_S1024x1024_S1024x1024 : FVec Ideal S1024x1024 .bf16) (constant S512x1024 .f32 0x00000000#32)
  let mix : FVec Ideal S512x1024 .f32 := addf v28 (mulf (divf (broadcast S512x1024 (Scalar.ofBits .f32 0x3F800000#32)) (addf v34 v33)) third)
  addf (mulf (broadcast S512x1024 (Scalar.ofBits .f32 0x3FB504F3#32)) v44)
    (matmul dot_S512x1024_S1024x1024_S512x1024_1_0_0_1_n_n none (truncf .bf16 mix bitsLt_bf16_f32 : FVec Ideal S512x1024 .bf16) (shapeCast S1024x1024 v48 shapeCasts_S1024x1024_S1024x1024 : FVec Ideal S1024x1024 .bf16) (constant S512x1024 .f32 0x00000000#32))

theorem pay8_eq (v28 v33 v34 : FVec Ideal S512x1024 .f32) (v38 : Vec Ideal S512x1024 .bf16) (v39 : Vec Ideal S1024x1024 .bf16) (v44 : Vec Ideal S512x1024 .f32) (v48 : Vec Ideal S1024x1024 .bf16) (v68 : Vec Ideal S1x1024 .f32) :
    k0_pay8 v28 v33 v34 v38 v39 v44 v48 v68 = normv (resv v28 v33 v34 v38 v39 v44 v48) v68 := rfl

theorem resv_apply (x : Vec Ideal S512x1024 .f32) (a s n g0 g1 g2 : Vec Ideal S512x1024 .bf16) (wa ws wn wo : Vec Ideal S1024x1024 .bf16) (r : Fin 512) (e : Fin 1024) :
    resv (k0_pay5 g0 a wa g1 s ws) (k0_pay6 g2) k0_pay7 n wn x wo (ix2 r e)
      = resAt (fun k => x (ix2 r k)) (mixAt (fun k => a (ix2 r k)) (fun k => s (ix2 r k)) (fun k => n (ix2 r k)) (fun k => g0 (ix2 r k)) (fun k => g1 (ix2 r k)) (fun k => g2 (ix2 r k))
          (fun k e => wa (ix2 k e)) (fun k e => ws (ix2 k e)) (fun k e => wn (ix2 k e))) (fun k e => wo (ix2 k e)) e := by
  pointwise [resv, k0_pay5, k0_pay6, k0_pay7]
  simp only [zero_sub]
  rfl

/-! ## The three output blocks -/

section
variable (x0 : Vec Ideal S512x1024 .f32) (x1 x2 x3 x4 x5 x6 : Vec Ideal S512x1024 .bf16) (x7 x8 x9 x10 : Vec Ideal S1024x1024 .bf16) (x11 x12 : Vec Ideal S1x1024 .f32)
  (x13 : Vec Ideal S1024x128 .bf16) (x14 x15 : Vec Ideal S1024x256 .bf16) (x16 : Vec Ideal S256x1024 .bf16)

/-- The normed row of a block. -/
def zRow (r : Fin 512) : Fin 1024 → EReal :=
  lnAt (resAt (fun k => x0 (ix2 r k)) (mixAt (fun k => x1 (ix2 r k)) (fun k => x2 (ix2 r k)) (fun k => x3 (ix2 r k)) (fun k => x4 (ix2 r k)) (fun k => x5 (ix2 r k)) (fun k => x6 (ix2 r k))
          (fun k e => x7 (ix2 k e)) (fun k e => x8 (ix2 k e)) (fun k e => x9 (ix2 k e))) (fun k e => x10 (ix2 k e))) (fun k => x11 (ix2 0 k)) (fun k => x12 (ix2 0 k))

theorem ld0 (x : Vec Ideal S512x1024 .f32) : View.ld x r0_0 = x := View.ld_unit_zero (by decide) _ _
theorem ld0b (x : Vec Ideal S512x1024 .bf16) : View.ld x r0_0 = x := View.ld_unit_zero (by decide) _ _
theorem ld1 (x : Vec Ideal S1024x1024 .bf16) : View.ld x r0_1 = x := View.ld_unit_zero (by decide) _ _
theorem ld2 (x : Vec Ideal S1x1024 .f32) : View.ld x r0_2 = x := View.ld_unit_zero (by decide) _ _
theorem ld3 (x : Vec Ideal S1024x128 .bf16) : View.ld x r0_3 = x := View.ld_unit_zero (by decide) _ _
theorem ld5 (x : Vec Ideal S1024x256 .bf16) : View.ld x r0_5 = x := View.ld_unit_zero (by decide) _ _
theorem ld6 (x : Vec Ideal S256x1024 .bf16) : View.ld x r0_6 = x := View.ld_unit_zero (by decide) _ _

theorem pay1_row (r : Fin 512) (e : Fin 1024) :
    k0_pay1 (k0_pay10 x0 x1 x2 x3 x4 x5 x6 x7 x8 x9 x10 x11 x12 x13 x14 x15 x16) (k0_pay11 x0 x1 x2 x3 x4 x5 x6 x7 x8 x9 x10 x11 x12 x13 x14 x15 x16) (ix2 r e)
      = zRow x0 x1 x2 x3 x4 x5 x6 x7 x8 x9 x10 x11 x12 r e := by
  unfold k0_pay10 k0_pay11
  rw [pay8_eq, normv_apply, ld0, ld0b, ld0b, ld0b, ld0b, ld0b, ld0b, ld1, ld1, ld1, ld1, ld2, ld2]
  refine congrArg (fun y => lnAt y _ _ e) (funext fun k => ?_)
  exact resv_apply _ _ _ _ _ _ _ _ _ _ _ r k

/-- The normed block. -/
def zOut (y : S512x1024.Idx) : EReal := zRow x0 x1 x2 x3 x4 x5 x6 x7 x8 x9 x10 x11 x12 (y 0) (y 1)

/-- The block of the residual and the shared expert. -/
def shOut (y : S512x1024.Idx) : EReal :=
  shAt (zRow x0 x1 x2 x3 x4 x5 x6 x7 x8 x9 x10 x11 x12 (y 0)) (fun k e => x14 (ix2 k e)) (fun k e => x15 (ix2 k e)) (fun k e => x16 (ix2 k e)) (y 1)

/-- The logits' block. -/
def loOut (y : S512x128.Idx) : EReal := dotAt (zRow x0 x1 x2 x3 x4 x5 x6 x7 x8 x9 x10 x11 x12 (y 0)) (fun k e => x13 (ix2 k e)) (y 1)

theorem pay3_row (u : FVec Ideal S512x1024 .f32) (b : FVec Ideal S1x1024 .f32) (w : Vec Ideal S1024x128 .bf16) (r : Fin 512) (e : Fin 128) :
    k0_pay3 u b w (ix2 r e) = dotAt (fun k => k0_pay1 u b (ix2 r k)) (fun k e => w (ix2 k e)) e := by
  unfold k0_pay3 k0_pay2
  generalize k0_pay1 u b = z
  pointwise
  rfl

theorem pay4_row (u : FVec Ideal S512x1024 .f32) (b : FVec Ideal S1x1024 .f32) (wg wu : Vec Ideal S1024x256 .bf16) (wd : Vec Ideal S256x1024 .bf16) (r : Fin 512) (e : Fin 1024) :
    k0_pay4 u b wg wu wd (ix2 r e) = shAt (fun k => k0_pay1 u b (ix2 r k)) (fun k e => wg (ix2 k e)) (fun k e => wu (ix2 k e)) (fun k e => wd (ix2 k e)) e := by
  unfold k0_pay4 k0_pay2
  generalize k0_pay1 u b = z
  pointwise
  simp only [zero_sub]
  rfl

theorem zeros : (![0, 0] : Fin 2 → ℕ) = fun _ => 0 := by decide

theorem emb_whole {S : Shape} (z : Fin S.rank → ℕ) (hz : z = fun _ => 0) (inb : ∀ a, z a + S.size a ≤ S.size a) (x : S.Idx) : (Rect.unit (s := S) z S.size inb).emb x = x := by
  subst hz
  funext a
  refine Fin.ext ?_
  show 0 + 1 * (x a).val = (x a).val
  omega

theorem out17 : out0_17 x0 x1 x2 x3 x4 x5 x6 x7 x8 x9 x10 x11 x12 x13 x14 x15 x16 = zOut x0 x1 x2 x3 x4 x5 x6 x7 x8 x9 x10 x11 x12 := by
  funext y
  unfold out0_17
  refine View.canon_apply_of_pieces (Val := Elt Ideal) (zOut x0 x1 x2 x3 x4 x5 x6 x7 x8 x9 x10 x11 x12 : Vec Ideal S512x1024 .bf16) _ ?_ y (cover0_17 _ y)
  intro pc hpc
  rcases List.mem_cons.mp hpc with rfl | hpc
  · intro x
    refine Eq.trans ?_ (congrArg (zOut x0 x1 x2 x3 x4 x5 x6 x7 x8 x9 x10 x11 x12) (emb_whole ![0, 0] zeros inb_S512x1024_S512x1024_0_0 x).symm)
    obtain ⟨r, e, rfl⟩ : ∃ (r : Fin 512) (e : Fin 1024), x = ix2 r e := ⟨_, _, eq_ix2 x⟩
    exact pay1_row x0 x1 x2 x3 x4 x5 x6 x7 x8 x9 x10 x11 x12 x13 x14 x15 x16 r e
  nomatch hpc

theorem out18 : out0_18 x0 x1 x2 x3 x4 x5 x6 x7 x8 x9 x10 x11 x12 x13 x14 x15 x16 = shOut x0 x1 x2 x3 x4 x5 x6 x7 x8 x9 x10 x11 x12 x14 x15 x16 := by
  funext y
  unfold out0_18
  rw [ld5, ld5, ld6]
  refine View.canon_apply_of_pieces (Val := Elt Ideal) (shOut x0 x1 x2 x3 x4 x5 x6 x7 x8 x9 x10 x11 x12 x14 x15 x16 : Vec Ideal S512x1024 .f32) _ ?_ y (cover0_18 _ y)
  intro pc hpc
  rcases List.mem_cons.mp hpc with rfl | hpc
  · intro x
    refine Eq.trans ?_ (congrArg (shOut x0 x1 x2 x3 x4 x5 x6 x7 x8 x9 x10 x11 x12 x14 x15 x16) (emb_whole ![0, 0] zeros inb_S512x1024_S512x1024_0_0 x).symm)
    obtain ⟨r, e, rfl⟩ : ∃ (r : Fin 512) (e : Fin 1024), x = ix2 r e := ⟨_, _, eq_ix2 x⟩
    refine (pay4_row _ _ x14 x15 x16 r e).trans ?_
    exact congrArg (fun z => shAt z _ _ _ e) (funext fun k => pay1_row x0 x1 x2 x3 x4 x5 x6 x7 x8 x9 x10 x11 x12 x13 x14 x15 x16 r k)
  nomatch hpc

theorem out19 : out0_19 x0 x1 x2 x3 x4 x5 x6 x7 x8 x9 x10 x11 x12 x13 x14 x15 x16 = loOut x0 x1 x2 x3 x4 x5 x6 x7 x8 x9 x10 x11 x12 x13 := by
  funext y
  unfold out0_19
  rw [ld3]
  refine View.canon_apply_of_pieces (Val := Elt Ideal) (loOut x0 x1 x2 x3 x4 x5 x6 x7 x8 x9 x10 x11 x12 x13 : Vec Ideal S512x128 .f32) _ ?_ y (cover0_19 _ y)
  intro pc hpc
  rcases List.mem_cons.mp hpc with rfl | hpc
  · intro x
    refine Eq.trans ?_ (congrArg (loOut x0 x1 x2 x3 x4 x5 x6 x7 x8 x9 x10 x11 x12 x13) (emb_whole ![0, 0] zeros inb_S512x128_S512x128_0_0 x).symm)
    obtain ⟨r, e, rfl⟩ : ∃ (r : Fin 512) (e : Fin 128), x = ix2 r e := ⟨_, _, eq_ix2 x⟩
    refine (pay3_row _ _ x13 r e).trans ?_
    exact congrArg (fun z => dotAt z _ e) (funext fun k => pay1_row x0 x1 x2 x3 x4 x5 x6 x7 x8 x9 x10 x11 x12 x13 x14 x15 x16 r k)
  nomatch hpc

end

end Cert.Merge

end
-- ==== Proof.MergeRef.lean ====
/- The merge of the mixers: the reference's three results, read row by row. -/
module

public import proofs.«01_k».proof.Defs
public import proofs.«01_k».proof.Proof.MergeRow
public import proofs.«01_k».proof.Proof.Gen.Reference6Ideal.Read
public import Idealize.ShloMosaic.Lib.Pointwise

@[expose] public section

set_option maxRecDepth 16384

noncomputable section

namespace Cert.Merge

open Cert.Reference6Ideal Cert.Reference6Ideal.Gen Cert.Reference6Ideal.Read
open Idealize.ShloMosaic Idealize.ShloMosaic.TcCoe

section
variable (x0 : S16384x1024.Idx → EReal) (x1 x2 x3 : S16384x1024.Idx → EReal) (x4 : S16384x5120.Idx → EReal) (x5 x6 x7 x8 : S1024x1024.Idx → EReal) (x9 x10 : S1024.Idx → EReal)
  (x11 : S1024x64.Idx → EReal) (x12 x13 : S1024x256.Idx → EReal) (x14 : S256x1024.Idx → EReal)

/-- The gate of mixer `g` in row `r`. -/
def gateAt (g : Fin 3) (r : Fin 16384) (e : Fin 1024) : EReal := x4 (ix2 r ⟨2048 + (g.val * 1024 + e.val), by omega⟩)

/-- The gated sum of the mixers in row `r`. -/
def mixRow (r : Fin 16384) : Fin 1024 → EReal :=
  mixAt (fun k => x1 (ix2 r k)) (fun k => x2 (ix2 r k)) (fun k => x3 (ix2 r k)) (gateAt x4 0 r) (gateAt x4 1 r) (gateAt x4 2 r)
    (fun k e => x5 (ix2 k e)) (fun k e => x6 (ix2 k e)) (fun k e => x7 (ix2 k e))

/-- The residual's row. -/
def resRow (r : Fin 16384) : Fin 1024 → EReal := resAt (fun k => x0 (ix2 r k)) (mixRow x1 x2 x3 x4 x5 x6 x7 r) (fun k e => x8 (ix2 k e))

/-- The normed row. -/
def normRow (r : Fin 16384) : Fin 1024 → EReal := lnAt (resRow x0 x1 x2 x3 x4 x5 x6 x7 x8 r) (fun k => x9 (ix1 k)) (fun k => x10 (ix1 k))

theorem gate_read (g : Fin 3) (r : Fin 16384) (e : Fin 1024) : val_main_v14 (F := Ideal) x4 (ix3 r g e) = sg (gateAt x4 g r e) := by
  unfold val_main_v14 val_main_v13 val_main_v12 val_main_v11 val_main_v10 val_main_v9 val_main_v8 val_main_v7 val_main_v6 val_main_cst val_main_cst_0
  pointwise
  rfl

theorem mix_read (r : Fin 16384) (e : Fin 1024) : val_main_v25 (F := Ideal) x1 x2 x3 x4 x5 x6 x7 (ix2 r e) = mixRow x1 x2 x3 x4 x5 x6 x7 r e := by
  unfold mixRow mixAt
  rw [← gate_read, ← gate_read, ← gate_read]
  unfold val_main_v25 val_main_v24 val_main_v23 val_main_v22 val_main_v21 val_main_v20 val_main_v19 val_main_v18 val_main_v17 val_main_v16 val_main_v15
    val_main_v5 val_main_v4 val_main_v3 val_main_v2 val_main_v1 val_main_v0
  generalize val_main_v14 (F := Ideal) x4 = g
  pointwise
  rfl

theorem res_read (r : Fin 16384) (e : Fin 1024) : val_main_v29 (F := Ideal) x0 x1 x2 x3 x4 x5 x6 x7 x8 (ix2 r e) = resRow x0 x1 x2 x3 x4 x5 x6 x7 x8 r e := by
  unfold resRow
  rw [show mixRow x1 x2 x3 x4 x5 x6 x7 r = fun k => val_main_v25 (F := Ideal) x1 x2 x3 x4 x5 x6 x7 (ix2 r k) from funext fun k => (mix_read x1 x2 x3 x4 x5 x6 x7 r k).symm]
  unfold val_main_v29 val_main_v28 val_main_v27 val_main_v26 val_main_cst_1
  generalize val_main_v25 (F := Ideal) x1 x2 x3 x4 x5 x6 x7 = u
  pointwise
  rfl

theorem norm_read (r : Fin 16384) (e : Fin 1024) : val_main_v53 (F := Ideal) x0 x1 x2 x3 x4 x5 x6 x7 x8 x9 x10 (ix2 r e) = normRow x0 x1 x2 x3 x4 x5 x6 x7 x8 x9 x10 r e := by
  unfold normRow
  rw [show resRow x0 x1 x2 x3 x4 x5 x6 x7 x8 r = fun k => val_main_v29 (F := Ideal) x0 x1 x2 x3 x4 x5 x6 x7 x8 (ix2 r k) from funext fun k => (res_read x0 x1 x2 x3 x4 x5 x6 x7 x8 r k).symm]
  unfold val_main_v53 val_main_v52 val_main_v51 val_main_v50 val_main_v49 val_main_v48 val_main_v47 val_main_v46 val_main_v45 val_main_v44 val_main_v43 val_main_v42 val_main_v41 val_main_v40
    val_main_v39 val_main_v38 val_main_v37 val_main_v36 val_main_v35 val_main_v34 val_main_v33 val_main_v32 val_main_v31 val_main_v30 val_main_cst_2 val_main_cst_3 val_main_cst_4 val_main_cst_5 val_main_cst_6
  generalize val_main_v29 (F := Ideal) x0 x1 x2 x3 x4 x5 x6 x7 x8 = y
  pointwise
  rfl

/-- The normed rows' array. -/
def zArr (y : S16384x1024.Idx) : EReal := normRow x0 x1 x2 x3 x4 x5 x6 x7 x8 x9 x10 (y 0) (y 1)

/-- The array of the residuals and the shared expert's outputs. -/
def shArr (y : S16384x1024.Idx) : EReal :=
  shAt (normRow x0 x1 x2 x3 x4 x5 x6 x7 x8 x9 x10 (y 0)) (fun k e => x12 (ix2 k e)) (fun k e => x13 (ix2 k e)) (fun k e => x14 (ix2 k e)) (y 1)

/-- The logits' array. -/
def loArr (y : S16384x128.Idx) : EReal := dotAt (normRow x0 x1 x2 x3 x4 x5 x6 x7 x8 x9 x10 (y 0)) (padded fun k e => x11 (ix2 k e)) (y 1)

theorem ref_z : (val_main_v60 (F := Ideal) x0 x1 x2 x3 x4 x5 x6 x7 x8 x9 x10 : S16384x1024.Idx → EReal) = zArr x0 x1 x2 x3 x4 x5 x6 x7 x8 x9 x10 := by
  funext y
  obtain ⟨r, e, rfl⟩ : ∃ (r : Fin 16384) (e : Fin 1024), y = ix2 r e := ⟨_, _, eq_ix2 y⟩
  exact norm_read x0 x1 x2 x3 x4 x5 x6 x7 x8 x9 x10 r e

theorem ref_sh : (val_main_v63 (F := Ideal) x0 x1 x2 x3 x4 x5 x6 x7 x8 x9 x10 x12 x13 x14 : S16384x1024.Idx → EReal) = shArr x0 x1 x2 x3 x4 x5 x6 x7 x8 x9 x10 x12 x13 x14 := by
  funext y
  obtain ⟨r, e, rfl⟩ : ∃ (r : Fin 16384) (e : Fin 1024), y = ix2 r e := ⟨_, _, eq_ix2 y⟩
  show _ = shAt (normRow x0 x1 x2 x3 x4 x5 x6 x7 x8 x9 x10 r) _ _ _ e
  rw [show normRow x0 x1 x2 x3 x4 x5 x6 x7 x8 x9 x10 r = fun k => val_main_v53 (F := Ideal) x0 x1 x2 x3 x4 x5 x6 x7 x8 x9 x10 (ix2 r k) from funext fun k => (norm_read x0 x1 x2 x3 x4 x5 x6 x7 x8 x9 x10 r k).symm]
  unfold val_main_v63 val_main_v62 val_main_v61 val_main_v59 val_main_v58 val_main_v57 val_main_v56 val_main_call0_v5 val_main_call0_v4 val_main_call0_v3 val_main_call0_v2 val_main_call0_v1 val_main_call0_v0
    val_main_v55 val_main_call0_cst val_main_call0_cst_0 val_main_cst_7
  generalize val_main_v53 (F := Ideal) x0 x1 x2 x3 x4 x5 x6 x7 x8 x9 x10 = z
  pointwise
  rfl

theorem ref_lo : (val_main_v64 (F := Ideal) x0 x1 x2 x3 x4 x5 x6 x7 x8 x9 x10 x11 : S16384x128.Idx → EReal) = loArr x0 x1 x2 x3 x4 x5 x6 x7 x8 x9 x10 x11 := by
  funext y
  obtain ⟨r, e, rfl⟩ : ∃ (r : Fin 16384) (e : Fin 128), y = ix2 r e := ⟨_, _, eq_ix2 y⟩
  show _ = dotAt (normRow x0 x1 x2 x3 x4 x5 x6 x7 x8 x9 x10 r) (padded fun k e => x11 (ix2 k e)) e
  rw [dotAt_padded, show normRow x0 x1 x2 x3 x4 x5 x6 x7 x8 x9 x10 r = fun k => val_main_v53 (F := Ideal) x0 x1 x2 x3 x4 x5 x6 x7 x8 x9 x10 (ix2 r k) from funext fun k => (norm_read x0 x1 x2 x3 x4 x5 x6 x7 x8 x9 x10 r k).symm]
  unfold val_main_v64 val_main_v54
  generalize val_main_v53 (F := Ideal) x0 x1 x2 x3 x4 x5 x6 x7 x8 x9 x10 = z
  pointwise
  by_cases h : e.val < 64
  · rw [dif_pos h, dif_pos h]
    rfl
  · rw [dif_neg h, dif_neg h]
    rw [val_main_call1_v0_apply, val_main_c_apply]
    show (((0#32 : BitVec 32).toInt : ℝ) : EReal) = 0
    simp

end

/-! ## The results of a run -/

theorem run_z (m : (ℓ : Loc nD τ sig) → Buf (Elt Ideal) ℓ) (c : Dev nD) :
    (Cert.Reference6Ideal.Value.res_main_v60 (F := Ideal) m c : S16384x1024.Idx → EReal) = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v60_eq m c).trans (ref_z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))

theorem run_sh (m : (ℓ : Loc nD τ sig) → Buf (Elt Ideal) ℓ) (c : Dev nD) :
    (Cert.Reference6Ideal.Value.res_main_v63 (F := Ideal) m c : S16384x1024.Idx → EReal) = shArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)) :=
  (val_main_v63_eq m c).trans (ref_sh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)))

theorem run_lo (m : (ℓ : Loc nD τ sig) → Buf (Elt Ideal) ℓ) (c : Dev nD) :
    (Cert.Reference6Ideal.Value.res_main_v64 (F := Ideal) m c : S16384x128.Idx → EReal) = loArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (val_main_v64_eq m c).trans (ref_lo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))

end Cert.Merge

end
-- ==== Proof.MergeValue.lean ====
/- The merge of the mixers: the three result arrays, and the equal results. -/
module

public import proofs.«01_k».proof.Proof.MergeBlk
public import proofs.«01_k».proof.Proof.MergeRef
public import proofs.«01_k».proof.Proof.Gen.Reference6Ideal.Run

@[expose] public section

set_option maxRecDepth 16384

noncomputable section

namespace Cert.Merge

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-! ## The blocks of a grid point -/

/-- Where the windows of a point stand. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 2)
    ∧ (win0_5.index t (0 : Fin 2) = t.val ∧ win0_5.index t (1 : Fin 2) = 3)
    ∧ (win0_6.index t (0 : Fin 2) = t.val ∧ win0_6.index t (1 : Fin 2) = 4) :=
  (by decide +kernel : ∀ t : Fin grid0.N, _)

theorem places_out : ∀ t : Fin cfg0.N, (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0) :=
  (by decide +kernel : ∀ t : Fin grid0.N, _)

/-- The windows of the weights stand still. -/
theorem still : ∀ t : Fin cfg0.N, (∀ a, win0_7.index t a = 0) ∧ (∀ a, win0_8.index t a = 0) ∧ (∀ a, win0_9.index t a = 0) ∧ (∀ a, win0_10.index t a = 0)
    ∧ (∀ a, win0_11.index t a = 0) ∧ (∀ a, win0_12.index t a = 0) ∧ (∀ a, win0_13.index t a = 0) ∧ (∀ a, win0_14.index t a = 0) ∧ (∀ a, win0_15.index t a = 0) ∧ (∀ a, win0_16.index t a = 0) :=
  (by decide +kernel : ∀ t : Fin grid0.N, _)

theorem lt_N (t : Fin cfg0.N) : t.val < 32 := lt_of_lt_of_eq t.isLt N_0

/-- The row of the arrays that row `r` of a point's block is. -/
def row (t : Fin cfg0.N) (r : Fin 512) : Fin 16384 := ⟨t.val * 512 + r.val, by have := lt_N t; omega⟩

/-- An entry of a block stands in the array at the block's place. -/
theorem blk_at (w : Pipeline.Window sig grid0) (hk : w.kind = .blocked) (t : Fin grid0.N) (y : (w.xblock (grid0.coords t)).Idx) (z : w.shape.Idx)
    (h : ∀ a, w.index t a * w.size a + (y a).val = (z a).val) : (w.rect t).emb y = z :=
  funext fun a => Fin.ext ((w.rect_emb_val t y a hk).trans (h a))

/-- An entry of a window that stands still has its own place. -/
theorem still_at (w : Pipeline.Window sig grid0) (t : Fin grid0.N) (h : ∀ a, w.index t a = 0) (y : (w.xblock (grid0.coords t)).Idx) (z : w.shape.Idx)
    (hz : ∀ a, (y a).val = (z a).val) : (w.rect t).emb y = z :=
  funext fun a => Fin.ext ((w.rect_emb_val_of_index_zero t a (h a) y).trans (hz a))

theorem row_eq (t : Fin cfg0.N) (r : Fin 512) {i : ℕ} (h : i = t.val) : i * 512 + r.val = (row t r).val := by subst h; rfl

theorem iblk0 (c : Dev nD) (t : Fin cfg0.N) (r : Fin 512) (k : Fin 1024) :
    (iblk m c 0 t : S512x1024.Idx → EReal) (ix2 r k) = m ((c.tc : Thread nD τ).loc main_arg0) (ix2 (row t r) k) := by
  unfold iblk
  rw [show V m c (Pipeline.arrRef spec0 0) = m ((c.tc : Thread nD τ).loc main_arg0) from V_main_arg0 m c]
  obtain ⟨h0, h1⟩ := (places t).1
  exact congrArg (m ((c.tc : Thread nD τ).loc main_arg0)) (blk_at win0_0 rfl t (ix2 r k) (ix2 (row t r) k)
    (Fin.forall_fin_two.mpr ⟨row_eq t r h0, by rw [h1]; exact (congrArg (· + k.val) (Nat.zero_mul _)).trans (Nat.zero_add _)⟩))

theorem iblk1 (c : Dev nD) (t : Fin cfg0.N) (r : Fin 512) (k : Fin 1024) :
    (iblk m c 1 t : S512x1024.Idx → EReal) (ix2 r k) = m ((c.tc : Thread nD τ).loc main_arg1) (ix2 (row t r) k) := by
  unfold iblk
  rw [show V m c (Pipeline.arrRef spec0 1) = m ((c.tc : Thread nD τ).loc main_arg1) from V_main_arg1 m c]
  obtain ⟨h0, h1⟩ := (places t).2.1
  exact congrArg (m ((c.tc : Thread nD τ).loc main_arg1)) (blk_at win0_1 rfl t (ix2 r k) (ix2 (row t r) k)
    (Fin.forall_fin_two.mpr ⟨row_eq t r h0, by rw [h1]; exact (congrArg (· + k.val) (Nat.zero_mul _)).trans (Nat.zero_add _)⟩))

theorem iblk2 (c : Dev nD) (t : Fin cfg0.N) (r : Fin 512) (k : Fin 1024) :
    (iblk m c 2 t : S512x1024.Idx → EReal) (ix2 r k) = m ((c.tc : Thread nD τ).loc main_arg2) (ix2 (row t r) k) := by
  unfold iblk
  rw [show V m c (Pipeline.arrRef spec0 2) = m ((c.tc : Thread nD τ).loc main_arg2) from V_main_arg2 m c]
  obtain ⟨h0, h1⟩ := (places t).2.2.1
  exact congrArg (m ((c.tc : Thread nD τ).loc main_arg2)) (blk_at win0_2 rfl t (ix2 r k) (ix2 (row t r) k)
    (Fin.forall_fin_two.mpr ⟨row_eq t r h0, by rw [h1]; exact (congrArg (· + k.val) (Nat.zero_mul _)).trans (Nat.zero_add _)⟩))

theorem iblk3 (c : Dev nD) (t : Fin cfg0.N) (r : Fin 512) (k : Fin 1024) :
    (iblk m c 3 t : S512x1024.Idx → EReal) (ix2 r k) = m ((c.tc : Thread nD τ).loc main_arg3) (ix2 (row t r) k) := by
  unfold iblk
  rw [show V m c (Pipeline.arrRef spec0 3) = m ((c.tc : Thread nD τ).loc main_arg3) from V_main_arg3 m c]
  obtain ⟨h0, h1⟩ := (places t).2.2.2.1
  exact congrArg (m ((c.tc : Thread nD τ).loc main_arg3)) (blk_at win0_3 rfl t (ix2 r k) (ix2 (row t r) k)
    (Fin.forall_fin_two.mpr ⟨row_eq t r h0, by rw [h1]; exact (congrArg (· + k.val) (Nat.zero_mul _)).trans (Nat.zero_add _)⟩))

theorem iblk4 (c : Dev nD) (t : Fin cfg0.N) (r : Fin 512) (k : Fin 1024) :
    (iblk m c 4 t : S512x1024.Idx → EReal) (ix2 r k) = gateAt (m ((c.tc : Thread nD τ).loc main_arg4)) 0 (row t r) k := by
  unfold iblk
  rw [show V m c (Pipeline.arrRef spec0 4) = m ((c.tc : Thread nD τ).loc main_arg4) from V_main_arg4 m c]
  obtain ⟨h0, h1⟩ := (places t).2.2.2.2.1
  exact congrArg (m ((c.tc : Thread nD τ).loc main_arg4)) (blk_at win0_4 rfl t (ix2 r k) (ix2 (row t r) ⟨2048 + (0 * 1024 + k.val), by omega⟩)
    (Fin.forall_fin_two.mpr ⟨row_eq t r h0, by rw [h1]; show 2 * 1024 + k.val = 2048 + (0 * 1024 + k.val); omega⟩))

theorem iblk5 (c : Dev nD) (t : Fin cfg0.N) (r : Fin 512) (k : Fin 1024) :
    (iblk m c 5 t : S512x1024.Idx → EReal) (ix2 r k) = gateAt (m ((c.tc : Thread nD τ).loc main_arg4)) 1 (row t r) k := by
  unfold iblk
  rw [show V m c (Pipeline.arrRef spec0 5) = m ((c.tc : Thread nD τ).loc main_arg4) from V_main_arg4 m c]
  obtain ⟨h0, h1⟩ := (places t).2.2.2.2.2.1
  exact congrArg (m ((c.tc : Thread nD τ).loc main_arg4)) (blk_at win0_5 rfl t (ix2 r k) (ix2 (row t r) ⟨2048 + (1 * 1024 + k.val), by omega⟩)
    (Fin.forall_fin_two.mpr ⟨row_eq t r h0, by rw [h1]; show 3 * 1024 + k.val = 2048 + (1 * 1024 + k.val); omega⟩))

theorem iblk6 (c : Dev nD) (t : Fin cfg0.N) (r : Fin 512) (k : Fin 1024) :
    (iblk m c 6 t : S512x1024.Idx → EReal) (ix2 r k) = gateAt (m ((c.tc : Thread nD τ).loc main_arg4)) 2 (row t r) k := by
  unfold iblk
  rw [show V m c (Pipeline.arrRef spec0 6) = m ((c.tc : Thread nD τ).loc main_arg4) from V_main_arg4 m c]
  obtain ⟨h0, h1⟩ := (places t).2.2.2.2.2.2
  exact congrArg (m ((c.tc : Thread nD τ).loc main_arg4)) (blk_at win0_6 rfl t (ix2 r k) (ix2 (row t r) ⟨2048 + (2 * 1024 + k.val), by omega⟩)
    (Fin.forall_fin_two.mpr ⟨row_eq t r h0, by rw [h1]; show 4 * 1024 + k.val = 2048 + (2 * 1024 + k.val); omega⟩))

theorem iblk7 (c : Dev nD) (t : Fin cfg0.N) : (iblk m c 7 t : S1024x1024.Idx → EReal) = m ((c.tc : Thread nD τ).loc main_arg5) := by
  have h : (V m c main_v3 : S1024x1024.Idx → EReal) = m ((c.tc : Thread nD τ).loc main_arg5) := rfl
  rw [← h]
  unfold iblk
  exact funext fun y => congrArg (V m c main_v3) (still_at win0_7 t (still t).1 y y fun _ => rfl)

theorem iblk8 (c : Dev nD) (t : Fin cfg0.N) : (iblk m c 8 t : S1024x1024.Idx → EReal) = m ((c.tc : Thread nD τ).loc main_arg6) := by
  have h : (V m c main_v4 : S1024x1024.Idx → EReal) = m ((c.tc : Thread nD τ).loc main_arg6) := rfl
  rw [← h]
  unfold iblk
  exact funext fun y => congrArg (V m c main_v4) (still_at win0_8 t (still t).2.1 y y fun _ => rfl)

theorem iblk9 (c : Dev nD) (t : Fin cfg0.N) : (iblk m c 9 t : S1024x1024.Idx → EReal) = m ((c.tc : Thread nD τ).loc main_arg7) := by
  have h : (V m c main_v5 : S1024x1024.Idx → EReal) = m ((c.tc : Thread nD τ).loc main_arg7) := rfl
  rw [← h]
  unfold iblk
  exact funext fun y => congrArg (V m c main_v5) (still_at win0_9 t (still t).2.2.1 y y fun _ => rfl)

theorem iblk10 (c : Dev nD) (t : Fin cfg0.N) : (iblk m c 10 t : S1024x1024.Idx → EReal) = m ((c.tc : Thread nD τ).loc main_arg8) := by
  have h : (V m c main_v6 : S1024x1024.Idx → EReal) = m ((c.tc : Thread nD τ).loc main_arg8) := rfl
  rw [← h]
  unfold iblk
  exact funext fun y => congrArg (V m c main_v6) (still_at win0_10 t (still t).2.2.2.1 y y fun _ => rfl)

theorem iblk14 (c : Dev nD) (t : Fin cfg0.N) : (iblk m c 14 t : S1024x256.Idx → EReal) = m ((c.tc : Thread nD τ).loc main_arg12) := by
  have h : (V m c main_v9 : S1024x256.Idx → EReal) = m ((c.tc : Thread nD τ).loc main_arg12) := rfl
  rw [← h]
  unfold iblk
  exact funext fun y => congrArg (V m c main_v9) (still_at win0_14 t (still t).2.2.2.2.2.2.2.1 y y fun _ => rfl)

theorem iblk15 (c : Dev nD) (t : Fin cfg0.N) : (iblk m c 15 t : S1024x256.Idx → EReal) = m ((c.tc : Thread nD τ).loc main_arg13) := by
  have h : (V m c main_v10 : S1024x256.Idx → EReal) = m ((c.tc : Thread nD τ).loc main_arg13) := rfl
  rw [← h]
  unfold iblk
  exact funext fun y => congrArg (V m c main_v10) (still_at win0_15 t (still t).2.2.2.2.2.2.2.2.1 y y fun _ => rfl)

theorem iblk16 (c : Dev nD) (t : Fin cfg0.N) : (iblk m c 16 t : S256x1024.Idx → EReal) = m ((c.tc : Thread nD τ).loc main_arg14) := by
  have h : (V m c main_v11 : S256x1024.Idx → EReal) = m ((c.tc : Thread nD τ).loc main_arg14) := rfl
  rw [← h]
  unfold iblk
  exact funext fun y => congrArg (V m c main_v11) (still_at win0_16 t (still t).2.2.2.2.2.2.2.2.2 y y fun _ => rfl)

theorem iblk11 (c : Dev nD) (t : Fin cfg0.N) (k : Fin 1024) : (iblk m c 11 t : S1x1024.Idx → EReal) (ix2 0 k) = m ((c.tc : Thread nD τ).loc main_arg9) (ix1 k) := by
  have h : (V m c main_v7 : S1x1024.Idx → EReal) = shapeCast S1x1024 (m ((c.tc : Thread nD τ).loc main_arg9) : S1024.Idx → EReal) shapeCasts_S1024_S1x1024 := rfl
  refine Eq.trans (?_ : _ = (V m c main_v7 : S1x1024.Idx → EReal) (ix2 0 k)) ?_
  · unfold iblk
    exact congrArg (V m c main_v7) (still_at win0_11 t (still t).2.2.2.2.1 (ix2 0 k) (ix2 0 k) fun _ => rfl)
  · rw [h]
    pointwise

theorem iblk12 (c : Dev nD) (t : Fin cfg0.N) (k : Fin 1024) : (iblk m c 12 t : S1x1024.Idx → EReal) (ix2 0 k) = m ((c.tc : Thread nD τ).loc main_arg10) (ix1 k) := by
  have h : (V m c main_v8 : S1x1024.Idx → EReal) = shapeCast S1x1024 (m ((c.tc : Thread nD τ).loc main_arg10) : S1024.Idx → EReal) shapeCasts_S1024_S1x1024 := rfl
  refine Eq.trans (?_ : _ = (V m c main_v8 : S1x1024.Idx → EReal) (ix2 0 k)) ?_
  · unfold iblk
    exact congrArg (V m c main_v8) (still_at win0_12 t (still t).2.2.2.2.2.1 (ix2 0 k) (ix2 0 k) fun _ => rfl)
  · rw [h]
    pointwise

theorem iblk13 (c : Dev nD) (t : Fin cfg0.N) (k : Fin 1024) (e : Fin 128) :
    (iblk m c 13 t : S1024x128.Idx → EReal) (ix2 k e) = padded (fun k e => m ((c.tc : Thread nD τ).loc main_arg11) (ix2 k e)) k e := by
  refine Eq.trans (?_ : _ = (V m c main_v2 : S1024x128.Idx → EReal) (ix2 k e)) ?_
  · unfold iblk
    exact congrArg (V m c main_v2) (still_at win0_13 t (still t).2.2.2.2.2.2.1 (ix2 k e) (ix2 k e) fun _ => rfl)
  · generalize hw : (m ((c.tc : Thread nD τ).loc main_arg11) : S1024x64.Idx → EReal) = w
    have h : (V m c main_v2 : S1024x128.Idx → EReal) = concatenate S1024x128 1 [⟨S1024x64, w⟩, ⟨S1024x64, (broadcastInDim S1024x64 ![] bcast_S_S1024x64 (constant S_ .f32 0x00000000#32 : FVec Ideal S_ .f32) : FVec Ideal S1024x64 .f32)⟩]
        concatenates_S1024x64_S1024x64_S1024x128_d1 := by
      rw [← hw]
      rfl
    rw [h]
    pointwise
    rfl

/-! ## The rows of a point -/

theorem zRow_at (c : Dev nD) (t : Fin cfg0.N) (r : Fin 512) :
    zRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r
      = normRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (row t r) := by
  unfold zRow normRow resRow mixRow
  rw [funext (iblk0 m c t r), funext (iblk1 m c t r), funext (iblk2 m c t r), funext (iblk3 m c t r), funext (iblk4 m c t r), funext (iblk5 m c t r), funext (iblk6 m c t r),
    iblk7 m c t, iblk8 m c t, iblk9 m c t, iblk10 m c t, funext (iblk11 m c t), funext (iblk12 m c t)]

/-! ## The arrays -/

theorem emb_z (t : Fin cfg0.N) (r : Fin 512) (e : Fin 1024) : ((win0_17.blk t).view.emb (ix2 r e) : S16384x1024.Idx) = ix2 (row t r) e := by
  obtain ⟨h0, h1⟩ := (places_out t).1
  exact blk_at win0_17 rfl t (ix2 r e) (ix2 (row t r) e)
    (Fin.forall_fin_two.mpr ⟨row_eq t r h0, by rw [h1]; exact (congrArg (· + e.val) (Nat.zero_mul _)).trans (Nat.zero_add _)⟩)

theorem emb_sh (t : Fin cfg0.N) (r : Fin 512) (e : Fin 1024) : ((win0_18.blk t).view.emb (ix2 r e) : S16384x1024.Idx) = ix2 (row t r) e := by
  obtain ⟨h0, h1⟩ := (places_out t).2.1
  exact blk_at win0_18 rfl t (ix2 r e) (ix2 (row t r) e)
    (Fin.forall_fin_two.mpr ⟨row_eq t r h0, by rw [h1]; exact (congrArg (· + e.val) (Nat.zero_mul _)).trans (Nat.zero_add _)⟩)

theorem emb_lo (t : Fin cfg0.N) (r : Fin 512) (e : Fin 128) : ((win0_19.blk t).view.emb (ix2 r e) : S16384x128.Idx) = ix2 (row t r) e := by
  obtain ⟨h0, h1⟩ := (places_out t).2.2
  exact blk_at win0_19 rfl t (ix2 r e) (ix2 (row t r) e)
    (Fin.forall_fin_two.mpr ⟨row_eq t r h0, by rw [h1]; exact (congrArg (· + e.val) (Nat.zero_mul _)).trans (Nat.zero_add _)⟩)

theorem final_z (c : Dev nD) : (dats m 0 c).arrAt 17 cfg0.N = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  generalize hG : zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = G
  refine (dats m 0 c).arrAt_eq_of_covers 17 G (by decide +kernel) fun t _ y => ?_
  blk_simp
  rw [after0_17, out17]
  obtain ⟨r, e, rfl⟩ : ∃ (r : Fin 512) (e : Fin 1024), y = ix2 r e := ⟨_, _, eq_ix2 y⟩
  refine Eq.trans ?_ (congrArg G (emb_z t r e).symm)
  rw [← hG]
  exact congrFun (zRow_at m c t r) e

theorem final_sh (c : Dev nD) : (dats m 0 c).arrAt 18 cfg0.N = shArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)) := by
  generalize hG : shArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)) = G
  refine (dats m 0 c).arrAt_eq_of_covers 18 G (by decide +kernel) fun t _ y => ?_
  blk_simp
  rw [after0_18, out18]
  obtain ⟨r, e, rfl⟩ : ∃ (r : Fin 512) (e : Fin 1024), y = ix2 r e := ⟨_, _, eq_ix2 y⟩
  refine Eq.trans ?_ (congrArg G (emb_sh t r e).symm)
  rw [← hG, iblk14 m c t, iblk15 m c t, iblk16 m c t]
  exact congrArg (fun z => shAt z _ _ _ e) (zRow_at m c t r)

theorem final_lo (c : Dev nD) : (dats m 0 c).arrAt 19 cfg0.N = loArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  generalize hG : loArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = G
  refine (dats m 0 c).arrAt_eq_of_covers 19 G (by decide +kernel) fun t _ y => ?_
  blk_simp
  rw [after0_19, out19]
  obtain ⟨r, e, rfl⟩ : ∃ (r : Fin 512) (e : Fin 128), y = ix2 r e := ⟨_, _, eq_ix2 y⟩
  refine Eq.trans ?_ (congrArg G (emb_lo t r e).symm)
  rw [← hG]
  exact congrArg₂ (fun z w => dotAt z w e) (zRow_at m c t r) (funext fun k => funext fun e => iblk13 m c t k e)

set_option maxHeartbeats 2000000 in
/-- The idealized kernel and the idealized reference, from equal arguments, leave equal results. -/
theorem same_results : Cert.algebraic_Kernel6Ideal_Reference6Ideal := by
  intro m g m' g' _ hargs
  refine ⟨fun c => zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)),
    fun c => shArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)),
    fun c => loArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)), ?_, ?_⟩
  · exact (θ_run Cert.Kernel6Ideal.defs _ _).mono (fun r h c => ⟨(h c).1.trans (final_z m c), (h c).2.1.trans (final_sh m c), (h c).2.2.1.trans (final_lo m c), (h c).2.2.2⟩)
      (Value.run_blocks (F := Ideal) m g)
  · refine (θ_run Cert.Reference6Ideal.defs _ _).mono (fun r h c => ?_) (Cert.Reference6Ideal.Value.run (F := Ideal) m' g')
    obtain ⟨e0, e1, e2, e3, e4, e5, e6, e7, e8, e9, e10, e11, e12, e13, e14⟩ := hargs c
    obtain ⟨h1, h2, h3, h4⟩ := h c
    refine ⟨h1.trans ((run_z m' c).trans ?_), h2.trans ((run_sh m' c).trans ?_), h3.trans ((run_lo m' c).trans ?_), h4⟩
    · rw [e0, e1, e2, e3, e4, e5, e6, e7, e8, e9, e10]
    · rw [e0, e1, e2, e3, e4, e5, e6, e7, e8, e9, e10, e12, e13, e14]
    · rw [e0, e1, e2, e3, e4, e5, e6, e7, e8, e9, e10, e11]

end Cert.Merge

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.FlashClaims
public import proofs.«01_k».proof.Proof.FlashValue
public import proofs.«01_k».proof.Proof.Gen.Kernel2.Frame
public import proofs.«01_k».proof.Proof.Gen.Kernel2Ideal.Frame
public import proofs.«01_k».proof.Proof.Gen.Reference2Ideal.Run
public import proofs.«01_k».proof.Proof.ProjGates
public import proofs.«01_k».proof.Proof.Gen.Kernel3.Frame
public import proofs.«01_k».proof.Proof.Gen.Kernel3Ideal.Frame
public import proofs.«01_k».proof.Proof.Gen.Reference3Ideal.Run
public import proofs.«01_k».proof.Proof.ProjDelta
public import proofs.«01_k».proof.Proof.Gen.Kernel4.Frame
public import proofs.«01_k».proof.Proof.Gen.Kernel4Ideal.Frame
public import proofs.«01_k».proof.Proof.Gen.Reference4Ideal.Run
public import proofs.«01_k».proof.Proof.ProjConv
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.QkvValue
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MergeValue
public import Idealize.ShloMosaic.Adequacy
public import Idealize.ShloMosaic.Init

@[expose] public section

noncomputable section

namespace Cert.Proof

open Idealize.ShloMosaic Idealize.SL.Sem

/-- The reference's frame: it writes no argument and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the reference of the gate columns. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The frame of the reference of the delta-rule part's columns. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of the reference of the convolution input's columns. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of the reference of the attention's queries, keys and values. -/
theorem frame_reference5 : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The frame of the merge's reference. -/
theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts,
    Cert.FlashAttn.frame_kernel, Cert.FlashAttn.frame_kernelIdeal, fun m ρ _ => Cert.FlashAttn.frame_kernelIdeal m ρ trivial,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    trivial, Cert.FlashAttn.same_results, trivial, Cert.ProjGates.same_results, trivial, Cert.ProjDelta.same_results,
    trivial, Cert.ProjConv.same_results, trivial, Cert.Qkv.same_results,
    trivial, Cert.Merge.same_results⟩

end Cert.Proof

end
